-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1024x512 : Shape := ⟨2, ![1024, 512]⟩
abbrev S4x4x1024x256 : Shape := ⟨4, ![4, 4, 1024, 256]⟩
abbrev S2x3 : Shape := ⟨2, ![2, 3]⟩
abbrev S_ : Shape := ⟨0, ![]⟩
abbrev S1x1 : Shape := ⟨2, ![1, 1]⟩
abbrev S1x1x1024x256 : Shape := ⟨4, ![1, 1, 1024, 256]⟩
abbrev S1024x256 : Shape := ⟨2, ![1024, 256]⟩
abbrev S1024x1024 : Shape := ⟨2, ![1024, 1024]⟩

abbrev nBuf : Space → Nat
  | .hbm => 3
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1024x8192, .f32⟩
  | .local _ .vmem, ⟨0, _⟩ => ⟨S4096x1024, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S4x4x1024x256, .bf16⟩
  | .local _ .vmem, ⟨12, _⟩ => ⟨S4x4x1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 3 → Bool
  | ⟨0, _⟩ => true
  | ⟨1, _⟩ => true
  | ⟨2, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 3 35 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev barrier0 : Sem sig := 2

abbrev nD : Nat := 4
abbrev τ : Topo := Topo.v7x

variable {F : FTy → Type} [FloatOps F]

abbrev grid0 : Pipeline.Grid := ⟨1, ![19], ![false]⟩

def k0_cond1 (i : grid0.Coords) : BitVec 1 :=
  let arg0 : BitVec 32 := BitVec.ofNat 32 (i 0).val
  let c0_i32_14 : BitVec 32 := 0#32
  let v26 : BitVec 1 := Scalar.cmpi .eq arg0 c0_i32_14
  let v27 : BitVec 32 := Scalar.extui v26
  let c0_i32_15 : BitVec 32 := 0#32
  let v28 : BitVec 1 := Scalar.cmpi .ne v27 c0_i32_15
  v28

def k0_dev1 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_138 : BitVec 32 := 1#32
  let v218 : BitVec 32 := Scalar.muli v14 c1_i32_138
  let v219 : BitVec 32 := Scalar.addi c0_i32_139 v218
  v219.toNat
def k0_dev2 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_141 : BitVec 32 := 1#32
  let v220 : BitVec 32 := Scalar.muli v25 c1_i32_141
  let v221 : BitVec 32 := Scalar.addi c0_i32_142 v220
  v221.toNat
def k0_cond3 (i : grid0.Coords) : BitVec 1 :=
  let arg0 : BitVec 32 := BitVec.ofNat 32 (i 0).val
  let c16_i32 : BitVec 32 := 16#32
  let v194 : BitVec 1 := Scalar.cmpi .slt arg0 c16_i32
  let v195 : BitVec 32 := Scalar.extui v194
  let c0_i32_122 : BitVec 32 := 0#32
  let v196 : BitVec 1 := Scalar.cmpi .ne v195 c0_i32_122
  v196

def k0_cond4 (i : grid0.Coords) : BitVec 1 :=
  let arg0 : BitVec 32 := BitVec.ofNat 32 (i 0).val
  let c2_i32_137 : BitVec 32 := 2#32
  let v217 : BitVec 1 := Scalar.cmpi .sge arg0 c2_i32_137
  let v218 : BitVec 32 := Scalar.extui v217
  let c0_i32_142 : BitVec 32 := 0#32
  let v219 : BitVec 1 := Scalar.cmpi .ne v218 c0_i32_142
  v219

def k0_off1 (i : grid0.Coords) : Fin 2 → Nat :=
  let arg0 : BitVec 32 := BitVec.ofNat 32 (i 0).val
  let c2_i32_48 : BitVec 32 := 2#32
  let v80 : BitVec 32 := Scalar.addi arg0 c2_i32_48
  let c0_i32_49 : BitVec 32 := 0#32
  let v81 : BitVec 32 := Scalar.subi v80 c0_i32_49
  let c2_i32_50 : BitVec 32 := 2#32
  let c0_i32_51 : BitVec 32 := 0#32
  let v82 : BitVec 1 := Scalar.cmpi .eq c2_i32_50 c0_i32_51
  let c1_i32_52 : BitVec 32 := 1#32
  let v83 : BitVec 32 := Scalar.select v82 c1_i32_52 c2_i32_50
  let v84 : BitVec 32 := Scalar.remsi v81 v83
  let c0_i32_54 : BitVec 32 := 0#32
  let v86 : BitVec 1 := Scalar.cmpi .slt v84 c0_i32_54
  let c0_i32_55 : BitVec 32 := 0#32
  let v87 : BitVec 1 := Scalar.cmpi .slt v83 c0_i32_55
  let v88 : BitVec 1 := Scalar.xori v86 v87
  let c0_i32_53 : BitVec 32 := 0#32
  let v85 : BitVec 1 := Scalar.cmpi .ne v84 c0_i32_53
  let v89 : BitVec 1 := Scalar.andi v88 v85
  let v90 : BitVec 32 := Scalar.addi v84 v83
  let v91 : BitVec 32 := Scalar.select v89 v90 v84
  let c0_i32_140 : BitVec 32 := 0#32
  ![v91.toNat, 0]
def k0_off2 (i : grid0.Coords) : Fin 4 → Nat :=
  let arg0 : BitVec 32 := BitVec.ofNat 32 (i 0).val
  let c4_i32_18 : BitVec 32 := 4#32
  let v32 : BitVec 32 := Scalar.addi arg0 c4_i32_18
  let c0_i32_19 : BitVec 32 := 0#32
  let v33 : BitVec 32 := Scalar.subi v32 c0_i32_19
  let c4_i32_20 : BitVec 32 := 4#32
  let c0_i32_21 : BitVec 32 := 0#32
  let v34 : BitVec 1 := Scalar.cmpi .eq c4_i32_20 c0_i32_21
  let c1_i32_22 : BitVec 32 := 1#32
  let v35 : BitVec 32 := Scalar.select v34 c1_i32_22 c4_i32_20
  let v36 : BitVec 32 := Scalar.remsi v33 v35
  let c0_i32_24 : BitVec 32 := 0#32
  let v38 : BitVec 1 := Scalar.cmpi .slt v36 c0_i32_24
  let c0_i32_25 : BitVec 32 := 0#32
  let v39 : BitVec 1 := Scalar.cmpi .slt v35 c0_i32_25
  let v40 : BitVec 1 := Scalar.xori v38 v39
  let c0_i32_23 : BitVec 32 := 0#32
  let v37 : BitVec 1 := Scalar.cmpi .ne v36 c0_i32_23
  let v41 : BitVec 1 := Scalar.andi v40 v37
  let v42 : BitVec 32 := Scalar.addi v36 v35
  let v43 : BitVec 32 := Scalar.select v41 v42 v36
  let c3_i32_139 : BitVec 32 := 3#32
  let c0_i32_181 : BitVec 32 := 0#32
  let c0_i32_182 : BitVec 32 := 0#32
  ![v43.toNat, 3, 0, 0]
def k0_off3 (i : grid0.Coords) : Fin 4 → Nat :=
  let arg0 : BitVec 32 := BitVec.ofNat 32 (i 0).val
  let c4_i32_18 : BitVec 32 := 4#32
  let v32 : BitVec 32 := Scalar.addi arg0 c4_i32_18
  let c0_i32_19 : BitVec 32 := 0#32
  let v33 : BitVec 32 := Scalar.subi v32 c0_i32_19
  let c4_i32_20 : BitVec 32 := 4#32
  let c0_i32_21 : BitVec 32 := 0#32
  let v34 : BitVec 1 := Scalar.cmpi .eq c4_i32_20 c0_i32_21
  let c1_i32_22 : BitVec 32 := 1#32
  let v35 : BitVec 32 := Scalar.select v34 c1_i32_22 c4_i32_20
  let v36 : BitVec 32 := Scalar.remsi v33 v35
  let c0_i32_24 : BitVec 32 := 0#32
  let v38 : BitVec 1 := Scalar.cmpi .slt v36 c0_i32_24
  let c0_i32_25 : BitVec 32 := 0#32
  let v39 : BitVec 1 := Scalar.cmpi .slt v35 c0_i32_25
  let v40 : BitVec 1 := Scalar.xori v38 v39
  let c0_i32_23 : BitVec 32 := 0#32
  let v37 : BitVec 1 := Scalar.cmpi .ne v36 c0_i32_23
  let v41 : BitVec 1 := Scalar.andi v40 v37
  let v42 : BitVec 32 := Scalar.addi v36 v35
  let v43 : BitVec 32 := Scalar.select v41 v42 v36
  let c0_i32_138 : BitVec 32 := 0#32
  let c0_i32_183 : BitVec 32 := 0#32
  let c0_i32_184 : BitVec 32 := 0#32
  ![v43.toNat, 0, 0, 0]
def k0_off4 (d0 : Dev nD) (c3_i32_80 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v128 : BitVec 32 := Scalar.addi v2 c3_i32_80
  let c4_i32_81 : BitVec 32 := 4#32
  let c0_i32_82 : BitVec 32 := 0#32
  let v129 : BitVec 1 := Scalar.cmpi .eq c4_i32_81 c0_i32_82
  let c1_i32_83 : BitVec 32 := 1#32
  let v130 : BitVec 32 := Scalar.select v129 c1_i32_83 c4_i32_81
  let v131 : BitVec 32 := Scalar.remsi v128 v130
  let c0_i32_85 : BitVec 32 := 0#32
  let v133 : BitVec 1 := Scalar.cmpi .slt v131 c0_i32_85
  let c0_i32_86 : BitVec 32 := 0#32
  let v134 : BitVec 1 := Scalar.cmpi .slt v130 c0_i32_86
  let v135 : BitVec 1 := Scalar.xori v133 v134
  let c0_i32_84 : BitVec 32 := 0#32
  let v132 : BitVec 1 := Scalar.cmpi .ne v131 c0_i32_84
  let v136 : BitVec 1 := Scalar.andi v135 v132
  let v137 : BitVec 32 := Scalar.addi v131 v130
  let v138 : BitVec 32 := Scalar.select v136 v137 v131
  let c1024_i32 : BitVec 32 := 1024#32
  let v220 : BitVec 32 := Scalar.muli v138 c1024_i32
  let v221 : Index := Scalar.indexCast v220
  let c0 : Index := 0#32
  ![v221.toNat, 0]
def k0_off5 (i : grid0.Coords) : Fin 4 → Nat :=
  let arg0 : BitVec 32 := BitVec.ofNat 32 (i 0).val
  let c4_i32_18 : BitVec 32 := 4#32
  let v32 : BitVec 32 := Scalar.addi arg0 c4_i32_18
  let c0_i32_19 : BitVec 32 := 0#32
  let v33 : BitVec 32 := Scalar.subi v32 c0_i32_19
  let c4_i32_20 : BitVec 32 := 4#32
  let c0_i32_21 : BitVec 32 := 0#32
  let v34 : BitVec 1 := Scalar.cmpi .eq c4_i32_20 c0_i32_21
  let c1_i32_22 : BitVec 32 := 1#32
  let v35 : BitVec 32 := Scalar.select v34 c1_i32_22 c4_i32_20
  let v36 : BitVec 32 := Scalar.remsi v33 v35
  let c0_i32_24 : BitVec 32 := 0#32
  let v38 : BitVec 1 := Scalar.cmpi .slt v36 c0_i32_24
  let c0_i32_25 : BitVec 32 := 0#32
  let v39 : BitVec 1 := Scalar.cmpi .slt v35 c0_i32_25
  let v40 : BitVec 1 := Scalar.xori v38 v39
  let c0_i32_23 : BitVec 32 := 0#32
  let v37 : BitVec 1 := Scalar.cmpi .ne v36 c0_i32_23
  let v41 : BitVec 1 := Scalar.andi v40 v37
  let v42 : BitVec 32 := Scalar.addi v36 v35
  let v43 : BitVec 32 := Scalar.select v41 v42 v36
  let v228 : Index := Scalar.indexCast v43
  let c3 : Index := 3#32
  let c0_145 : Index := 0#32
  let c0_146 : Index := 0#32
  ![v228.toNat, 3, 0, 0]
def k0_off6 (i : grid0.Coords) : Fin 2 → Nat :=
  let arg0 : BitVec 32 := BitVec.ofNat 32 (i 0).val
  let c2_i32_48 : BitVec 32 := 2#32
  let v80 : BitVec 32 := Scalar.addi arg0 c2_i32_48
  let c0_i32_49 : BitVec 32 := 0#32
  let v81 : BitVec 32 := Scalar.subi v80 c0_i32_49
  let c2_i32_50 : BitVec 32 := 2#32
  let c0_i32_51 : BitVec 32 := 0#32
  let v82 : BitVec 1 := Scalar.cmpi .eq c2_i32_50 c0_i32_51
  let c1_i32_52 : BitVec 32 := 1#32
  let v83 : BitVec 32 := Scalar.select v82 c1_i32_52 c2_i32_50
  let v84 : BitVec 32 := Scalar.remsi v81 v83
  let c0_i32_54 : BitVec 32 := 0#32
  let v86 : BitVec 1 := Scalar.cmpi .slt v84 c0_i32_54
  let c0_i32_55 : BitVec 32 := 0#32
  let v87 : BitVec 1 := Scalar.cmpi .slt v83 c0_i32_55
  let v88 : BitVec 1 := Scalar.xori v86 v87
  let c0_i32_53 : BitVec 32 := 0#32
  let v85 : BitVec 1 := Scalar.cmpi .ne v84 c0_i32_53
  let v89 : BitVec 1 := Scalar.andi v88 v85
  let v90 : BitVec 32 := Scalar.addi v84 v83
  let v91 : BitVec 32 := Scalar.select v89 v90 v84
  let c0_i32_150 : BitVec 32 := 0#32
  ![v91.toNat, 0]
def k0_off7 (i : grid0.Coords) : Fin 4 → Nat :=
  let arg0 : BitVec 32 := BitVec.ofNat 32 (i 0).val
  let c4_i32_18 : BitVec 32 := 4#32
  let v32 : BitVec 32 := Scalar.addi arg0 c4_i32_18
  let c0_i32_19 : BitVec 32 := 0#32
  let v33 : BitVec 32 := Scalar.subi v32 c0_i32_19
  let c4_i32_20 : BitVec 32 := 4#32
  let c0_i32_21 : BitVec 32 := 0#32
  let v34 : BitVec 1 := Scalar.cmpi .eq c4_i32_20 c0_i32_21
  let c1_i32_22 : BitVec 32 := 1#32
  let v35 : BitVec 32 := Scalar.select v34 c1_i32_22 c4_i32_20
  let v36 : BitVec 32 := Scalar.remsi v33 v35
  let c0_i32_24 : BitVec 32 := 0#32
  let v38 : BitVec 1 := Scalar.cmpi .slt v36 c0_i32_24
  let c0_i32_25 : BitVec 32 := 0#32
  let v39 : BitVec 1 := Scalar.cmpi .slt v35 c0_i32_25
  let v40 : BitVec 1 := Scalar.xori v38 v39
  let c0_i32_23 : BitVec 32 := 0#32
  let v37 : BitVec 1 := Scalar.cmpi .ne v36 c0_i32_23
  let v41 : BitVec 1 := Scalar.andi v40 v37
  let v42 : BitVec 32 := Scalar.addi v36 v35
  let v43 : BitVec 32 := Scalar.select v41 v42 v36
  let c0_i32_148 : BitVec 32 := 0#32
  let c0_i32_153 : BitVec 32 := 0#32
  let c0_i32_154 : BitVec 32 := 0#32
  ![v43.toNat, 0, 0, 0]
def k0_off8 (i : grid0.Coords) : Fin 4 → Nat :=
  let arg0 : BitVec 32 := BitVec.ofNat 32 (i 0).val
  let c4_i32_18 : BitVec 32 := 4#32
  let v32 : BitVec 32 := Scalar.addi arg0 c4_i32_18
  let c0_i32_19 : BitVec 32 := 0#32
  let v33 : BitVec 32 := Scalar.subi v32 c0_i32_19
  let c4_i32_20 : BitVec 32 := 4#32
  let c0_i32_21 : BitVec 32 := 0#32
  let v34 : BitVec 1 := Scalar.cmpi .eq c4_i32_20 c0_i32_21
  let c1_i32_22 : BitVec 32 := 1#32
  let v35 : BitVec 32 := Scalar.select v34 c1_i32_22 c4_i32_20
  let v36 : BitVec 32 := Scalar.remsi v33 v35
  let c0_i32_24 : BitVec 32 := 0#32
  let v38 : BitVec 1 := Scalar.cmpi .slt v36 c0_i32_24
  let c0_i32_25 : BitVec 32 := 0#32
  let v39 : BitVec 1 := Scalar.cmpi .slt v35 c0_i32_25
  let v40 : BitVec 1 := Scalar.xori v38 v39
  let c0_i32_23 : BitVec 32 := 0#32
  let v37 : BitVec 1 := Scalar.cmpi .ne v36 c0_i32_23
  let v41 : BitVec 1 := Scalar.andi v40 v37
  let v42 : BitVec 32 := Scalar.addi v36 v35
  let v43 : BitVec 32 := Scalar.select v41 v42 v36
  let c3_i32_147 : BitVec 32 := 3#32
  let c0_i32_155 : BitVec 32 := 0#32
  let c0_i32_156 : BitVec 32 := 0#32
  ![v43.toNat, 3, 0, 0]
def k0_dev3 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_151 : BitVec 32 := 1#32
  let v232 : BitVec 32 := Scalar.muli v25 c1_i32_151
  let v233 : BitVec 32 := Scalar.addi c0_i32_152 v232
  v233.toNat
def k0_cond5 (i : grid0.Coords) : BitVec 1 :=
  let arg0 : BitVec 32 := BitVec.ofNat 32 (i 0).val
  let c2_i32_157 : BitVec 32 := 2#32
  let v242 : BitVec 1 := Scalar.cmpi .sge arg0 c2_i32_157
  let v243 : BitVec 32 := Scalar.extui v242
  let c0_i32_162 : BitVec 32 := 0#32
  let v244 : BitVec 1 := Scalar.cmpi .ne v243 c0_i32_162
  v244

def k0_off9 (i : grid0.Coords) : Fin 2 → Nat :=
  let arg0 : BitVec 32 := BitVec.ofNat 32 (i 0).val
  let c2_i32_48 : BitVec 32 := 2#32
  let v80 : BitVec 32 := Scalar.addi arg0 c2_i32_48
  let c0_i32_49 : BitVec 32 := 0#32
  let v81 : BitVec 32 := Scalar.subi v80 c0_i32_49
  let c2_i32_50 : BitVec 32 := 2#32
  let c0_i32_51 : BitVec 32 := 0#32
  let v82 : BitVec 1 := Scalar.cmpi .eq c2_i32_50 c0_i32_51
  let c1_i32_52 : BitVec 32 := 1#32
  let v83 : BitVec 32 := Scalar.select v82 c1_i32_52 c2_i32_50
  let v84 : BitVec 32 := Scalar.remsi v81 v83
  let c0_i32_54 : BitVec 32 := 0#32
  let v86 : BitVec 1 := Scalar.cmpi .slt v84 c0_i32_54
  let c0_i32_55 : BitVec 32 := 0#32
  let v87 : BitVec 1 := Scalar.cmpi .slt v83 c0_i32_55
  let v88 : BitVec 1 := Scalar.xori v86 v87
  let c0_i32_53 : BitVec 32 := 0#32
  let v85 : BitVec 1 := Scalar.cmpi .ne v84 c0_i32_53
  let v89 : BitVec 1 := Scalar.andi v88 v85
  let v90 : BitVec 32 := Scalar.addi v84 v83
  let v91 : BitVec 32 := Scalar.select v89 v90 v84
  let c0_i32_160 : BitVec 32 := 0#32
  ![v91.toNat, 0]
def k0_off10 (i : grid0.Coords) : Fin 4 → Nat :=
  let arg0 : BitVec 32 := BitVec.ofNat 32 (i 0).val
  let c4_i32_18 : BitVec 32 := 4#32
  let v32 : BitVec 32 := Scalar.addi arg0 c4_i32_18
  let c0_i32_19 : BitVec 32 := 0#32
  let v33 : BitVec 32 := Scalar.subi v32 c0_i32_19
  let c4_i32_20 : BitVec 32 := 4#32
  let c0_i32_21 : BitVec 32 := 0#32
  let v34 : BitVec 1 := Scalar.cmpi .eq c4_i32_20 c0_i32_21
  let c1_i32_22 : BitVec 32 := 1#32
  let v35 : BitVec 32 := Scalar.select v34 c1_i32_22 c4_i32_20
  let v36 : BitVec 32 := Scalar.remsi v33 v35
  let c0_i32_24 : BitVec 32 := 0#32
  let v38 : BitVec 1 := Scalar.cmpi .slt v36 c0_i32_24
  let c0_i32_25 : BitVec 32 := 0#32
  let v39 : BitVec 1 := Scalar.cmpi .slt v35 c0_i32_25
  let v40 : BitVec 1 := Scalar.xori v38 v39
  let c0_i32_23 : BitVec 32 := 0#32
  let v37 : BitVec 1 := Scalar.cmpi .ne v36 c0_i32_23
  let v41 : BitVec 1 := Scalar.andi v40 v37
  let v42 : BitVec 32 := Scalar.addi v36 v35
  let v43 : BitVec 32 := Scalar.select v41 v42 v36
  let c3_i32_159 : BitVec 32 := 3#32
  let c0_i32_181 : BitVec 32 := 0#32
  let c0_i32_182 : BitVec 32 := 0#32
  ![v43.toNat, 3, 0, 0]
def k0_off11 (i : grid0.Coords) : Fin 4 → Nat :=
  let arg0 : BitVec 32 := BitVec.ofNat 32 (i 0).val
  let c4_i32_18 : BitVec 32 := 4#32
  let v32 : BitVec 32 := Scalar.addi arg0 c4_i32_18
  let c0_i32_19 : BitVec 32 := 0#32
  let v33 : BitVec 32 := Scalar.subi v32 c0_i32_19
  let c4_i32_20 : BitVec 32 := 4#32
  let c0_i32_21 : BitVec 32 := 0#32
  let v34 : BitVec 1 := Scalar.cmpi .eq c4_i32_20 c0_i32_21
  let c1_i32_22 : BitVec 32 := 1#32
  let v35 : BitVec 32 := Scalar.select v34 c1_i32_22 c4_i32_20
  let v36 : BitVec 32 := Scalar.remsi v33 v35
  let c0_i32_24 : BitVec 32 := 0#32
  let v38 : BitVec 1 := Scalar.cmpi .slt v36 c0_i32_24
  let c0_i32_25 : BitVec 32 := 0#32
  let v39 : BitVec 1 := Scalar.cmpi .slt v35 c0_i32_25
  let v40 : BitVec 1 := Scalar.xori v38 v39
  let c0_i32_23 : BitVec 32 := 0#32
  let v37 : BitVec 1 := Scalar.cmpi .ne v36 c0_i32_23
  let v41 : BitVec 1 := Scalar.andi v40 v37
  let v42 : BitVec 32 := Scalar.addi v36 v35
  let v43 : BitVec 32 := Scalar.select v41 v42 v36
  let c0_i32_158 : BitVec 32 := 0#32
  let c0_i32_183 : BitVec 32 := 0#32
  let c0_i32_184 : BitVec 32 := 0#32
  ![v43.toNat, 0, 0, 0]
def k0_dev4 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_174 : BitVec 32 := 1#32
  let v257 : BitVec 32 := Scalar.muli v14 c1_i32_174
  let v258 : BitVec 32 := Scalar.addi c0_i32_175 v257
  v258.toNat
def k0_cond6 (i : grid0.Coords) : BitVec 1 :=
  let arg0 : BitVec 32 := BitVec.ofNat 32 (i 0).val
  let c1_i32_123 : BitVec 32 := 1#32
  let v197 : BitVec 1 := Scalar.cmpi .sge arg0 c1_i32_123
  let c16_i32_124 : BitVec 32 := 16#32
  let v198 : BitVec 1 := Scalar.cmpi .sle arg0 c16_i32_124
  let v199 : BitVec 1 := Scalar.andi v197 v198
  let v200 : BitVec 32 := Scalar.extui v199
  let c0_i32_125 : BitVec 32 := 0#32
  let v201 : BitVec 1 := Scalar.cmpi .ne v200 c0_i32_125
  v201

def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_87 : BitVec 32 := 2#32
  let v139 : BitVec 32 := Scalar.addi v2 c2_i32_87
  let c4_i32_88 : BitVec 32 := 4#32
  let c0_i32_89 : BitVec 32 := 0#32
  let v140 : BitVec 1 := Scalar.cmpi .eq c4_i32_88 c0_i32_89
  let c1_i32_90 : BitVec 32 := 1#32
  let v141 : BitVec 32 := Scalar.select v140 c1_i32_90 c4_i32_88
  let v142 : BitVec 32 := Scalar.remsi v139 v141
  let c0_i32_92 : BitVec 32 := 0#32
  let v144 : BitVec 1 := Scalar.cmpi .slt v142 c0_i32_92
  let c0_i32_93 : BitVec 32 := 0#32
  let v145 : BitVec 1 := Scalar.cmpi .slt v141 c0_i32_93
  let v146 : BitVec 1 := Scalar.xori v144 v145
  let c0_i32_91 : BitVec 32 := 0#32
  let v143 : BitVec 1 := Scalar.cmpi .ne v142 c0_i32_91
  let v147 : BitVec 1 := Scalar.andi v146 v143
  let v148 : BitVec 32 := Scalar.addi v142 v141
  let v149 : BitVec 32 := Scalar.select v147 v148 v142
  let c1024_i32 : BitVec 32 := 1024#32
  let v217 : BitVec 32 := Scalar.muli v149 c1024_i32
  let v218 : Index := Scalar.indexCast v217
  let c0 : Index := 0#32
  ![v218.toNat, 0]
def k0_off13 (i : grid0.Coords) : Fin 2 → Nat :=
  let arg0 : BitVec 32 := BitVec.ofNat 32 (i 0).val
  let c2_i32_56 : BitVec 32 := 2#32
  let v92 : BitVec 32 := Scalar.addi arg0 c2_i32_56
  let c1_i32_57 : BitVec 32 := 1#32
  let v93 : BitVec 32 := Scalar.subi v92 c1_i32_57
  let c2_i32_58 : BitVec 32 := 2#32
  let c0_i32_59 : BitVec 32 := 0#32
  let v94 : BitVec 1 := Scalar.cmpi .eq c2_i32_58 c0_i32_59
  let c1_i32_60 : BitVec 32 := 1#32
  let v95 : BitVec 32 := Scalar.select v94 c1_i32_60 c2_i32_58
  let v96 : BitVec 32 := Scalar.remsi v93 v95
  let c0_i32_62 : BitVec 32 := 0#32
  let v98 : BitVec 1 := Scalar.cmpi .slt v96 c0_i32_62
  let c0_i32_63 : BitVec 32 := 0#32
  let v99 : BitVec 1 := Scalar.cmpi .slt v95 c0_i32_63
  let v100 : BitVec 1 := Scalar.xori v98 v99
  let c0_i32_61 : BitVec 32 := 0#32
  let v97 : BitVec 1 := Scalar.cmpi .ne v96 c0_i32_61
  let v101 : BitVec 1 := Scalar.andi v100 v97
  let v102 : BitVec 32 := Scalar.addi v96 v95
  let v103 : BitVec 32 := Scalar.select v101 v102 v96
  let c0_i32_141 : BitVec 32 := 0#32
  ![v103.toNat, 0]
def k0_off14 (i : grid0.Coords) : Fin 4 → Nat :=
  let arg0 : BitVec 32 := BitVec.ofNat 32 (i 0).val
  let c4_i32_26 : BitVec 32 := 4#32
  let v44 : BitVec 32 := Scalar.addi arg0 c4_i32_26
  let c1_i32_27 : BitVec 32 := 1#32
  let v45 : BitVec 32 := Scalar.subi v44 c1_i32_27
  let c4_i32_28 : BitVec 32 := 4#32
  let c0_i32_29 : BitVec 32 := 0#32
  let v46 : BitVec 1 := Scalar.cmpi .eq c4_i32_28 c0_i32_29
  let c1_i32_30 : BitVec 32 := 1#32
  let v47 : BitVec 32 := Scalar.select v46 c1_i32_30 c4_i32_28
  let v48 : BitVec 32 := Scalar.remsi v45 v47
  let c0_i32_32 : BitVec 32 := 0#32
  let v50 : BitVec 1 := Scalar.cmpi .slt v48 c0_i32_32
  let c0_i32_33 : BitVec 32 := 0#32
  let v51 : BitVec 1 := Scalar.cmpi .slt v47 c0_i32_33
  let v52 : BitVec 1 := Scalar.xori v50 v51
  let c0_i32_31 : BitVec 32 := 0#32
  let v49 : BitVec 1 := Scalar.cmpi .ne v48 c0_i32_31
  let v53 : BitVec 1 := Scalar.andi v52 v49
  let v54 : BitVec 32 := Scalar.addi v48 v47
  let v55 : BitVec 32 := Scalar.select v53 v54 v48
  let c0_i32_140 : BitVec 32 := 0#32
  let c0_i32_145 : BitVec 32 := 0#32
  let c0_i32_146 : BitVec 32 := 0#32
  ![v55.toNat, 0, 0, 0]
def k0_cond7 (i : grid0.Coords) : BitVec 1 :=
  let arg0 : BitVec 32 := BitVec.ofNat 32 (i 0).val
  let c3_i32_149 : BitVec 32 := 3#32
  let v232 : BitVec 1 := Scalar.cmpi .sge arg0 c3_i32_149
  let v233 : BitVec 32 := Scalar.extui v232
  let c0_i32_154 : BitVec 32 := 0#32
  let v234 : BitVec 1 := Scalar.cmpi .ne v233 c0_i32_154
  v234

def k0_off15 (i : grid0.Coords) : Fin 2 → Nat :=
  let arg0 : BitVec 32 := BitVec.ofNat 32 (i 0).val
  let c2_i32_56 : BitVec 32 := 2#32
  let v92 : BitVec 32 := Scalar.addi arg0 c2_i32_56
  let c1_i32_57 : BitVec 32 := 1#32
  let v93 : BitVec 32 := Scalar.subi v92 c1_i32_57
  let c2_i32_58 : BitVec 32 := 2#32
  let c0_i32_59 : BitVec 32 := 0#32
  let v94 : BitVec 1 := Scalar.cmpi .eq c2_i32_58 c0_i32_59
  let c1_i32_60 : BitVec 32 := 1#32
  let v95 : BitVec 32 := Scalar.select v94 c1_i32_60 c2_i32_58
  let v96 : BitVec 32 := Scalar.remsi v93 v95
  let c0_i32_62 : BitVec 32 := 0#32
  let v98 : BitVec 1 := Scalar.cmpi .slt v96 c0_i32_62
  let c0_i32_63 : BitVec 32 := 0#32
  let v99 : BitVec 1 := Scalar.cmpi .slt v95 c0_i32_63
  let v100 : BitVec 1 := Scalar.xori v98 v99
  let c0_i32_61 : BitVec 32 := 0#32
  let v97 : BitVec 1 := Scalar.cmpi .ne v96 c0_i32_61
  let v101 : BitVec 1 := Scalar.andi v100 v97
  let v102 : BitVec 32 := Scalar.addi v96 v95
  let v103 : BitVec 32 := Scalar.select v101 v102 v96
  let c1_i32_152 : BitVec 32 := 1#32
  ![v103.toNat, 1]
def k0_off16 (i : grid0.Coords) : Fin 4 → Nat :=
  let arg0 : BitVec 32 := BitVec.ofNat 32 (i 0).val
  let c4_i32_26 : BitVec 32 := 4#32
  let v44 : BitVec 32 := Scalar.addi arg0 c4_i32_26
  let c1_i32_27 : BitVec 32 := 1#32
  let v45 : BitVec 32 := Scalar.subi v44 c1_i32_27
  let c4_i32_28 : BitVec 32 := 4#32
  let c0_i32_29 : BitVec 32 := 0#32
  let v46 : BitVec 1 := Scalar.cmpi .eq c4_i32_28 c0_i32_29
  let c1_i32_30 : BitVec 32 := 1#32
  let v47 : BitVec 32 := Scalar.select v46 c1_i32_30 c4_i32_28
  let v48 : BitVec 32 := Scalar.remsi v45 v47
  let c0_i32_32 : BitVec 32 := 0#32
  let v50 : BitVec 1 := Scalar.cmpi .slt v48 c0_i32_32
  let c0_i32_33 : BitVec 32 := 0#32
  let v51 : BitVec 1 := Scalar.cmpi .slt v47 c0_i32_33
  let v52 : BitVec 1 := Scalar.xori v50 v51
  let c0_i32_31 : BitVec 32 := 0#32
  let v49 : BitVec 1 := Scalar.cmpi .ne v48 c0_i32_31
  let v53 : BitVec 1 := Scalar.andi v52 v49
  let v54 : BitVec 32 := Scalar.addi v48 v47
  let v55 : BitVec 32 := Scalar.select v53 v54 v48
  let c0_i32_151 : BitVec 32 := 0#32
  let c0_i32_208 : BitVec 32 := 0#32
  let c0_i32_209 : BitVec 32 := 0#32
  ![v55.toNat, 0, 0, 0]
def k0_off17 (i : grid0.Coords) : Fin 4 → Nat :=
  let arg0 : BitVec 32 := BitVec.ofNat 32 (i 0).val
  let c4_i32_26 : BitVec 32 := 4#32
  let v44 : BitVec 32 := Scalar.addi arg0 c4_i32_26
  let c1_i32_27 : BitVec 32 := 1#32
  let v45 : BitVec 32 := Scalar.subi v44 c1_i32_27
  let c4_i32_28 : BitVec 32 := 4#32
  let c0_i32_29 : BitVec 32 := 0#32
  let v46 : BitVec 1 := Scalar.cmpi .eq c4_i32_28 c0_i32_29
  let c1_i32_30 : BitVec 32 := 1#32
  let v47 : BitVec 32 := Scalar.select v46 c1_i32_30 c4_i32_28
  let v48 : BitVec 32 := Scalar.remsi v45 v47
  let c0_i32_32 : BitVec 32 := 0#32
  let v50 : BitVec 1 := Scalar.cmpi .slt v48 c0_i32_32
  let c0_i32_33 : BitVec 32 := 0#32
  let v51 : BitVec 1 := Scalar.cmpi .slt v47 c0_i32_33
  let v52 : BitVec 1 := Scalar.xori v50 v51
  let c0_i32_31 : BitVec 32 := 0#32
  let v49 : BitVec 1 := Scalar.cmpi .ne v48 c0_i32_31
  let v53 : BitVec 1 := Scalar.andi v52 v49
  let v54 : BitVec 32 := Scalar.addi v48 v47
  let v55 : BitVec 32 := Scalar.select v53 v54 v48
  let c1_i32_150 : BitVec 32 := 1#32
  let c0_i32_210 : BitVec 32 := 0#32
  let c0_i32_211 : BitVec 32 := 0#32
  ![v55.toNat, 1, 0, 0]
def k0_off18 (i : grid0.Coords) : Fin 4 → Nat :=
  let arg0 : BitVec 32 := BitVec.ofNat 32 (i 0).val
  let c4_i32_26 : BitVec 32 := 4#32
  let v44 : BitVec 32 := Scalar.addi arg0 c4_i32_26
  let c1_i32_27 : BitVec 32 := 1#32
  let v45 : BitVec 32 := Scalar.subi v44 c1_i32_27
  let c4_i32_28 : BitVec 32 := 4#32
  let c0_i32_29 : BitVec 32 := 0#32
  let v46 : BitVec 1 := Scalar.cmpi .eq c4_i32_28 c0_i32_29
  let c1_i32_30 : BitVec 32 := 1#32
  let v47 : BitVec 32 := Scalar.select v46 c1_i32_30 c4_i32_28
  let v48 : BitVec 32 := Scalar.remsi v45 v47
  let c0_i32_32 : BitVec 32 := 0#32
  let v50 : BitVec 1 := Scalar.cmpi .slt v48 c0_i32_32
  let c0_i32_33 : BitVec 32 := 0#32
  let v51 : BitVec 1 := Scalar.cmpi .slt v47 c0_i32_33
  let v52 : BitVec 1 := Scalar.xori v50 v51
  let c0_i32_31 : BitVec 32 := 0#32
  let v49 : BitVec 1 := Scalar.cmpi .ne v48 c0_i32_31
  let v53 : BitVec 1 := Scalar.andi v52 v49
  let v54 : BitVec 32 := Scalar.addi v48 v47
  let v55 : BitVec 32 := Scalar.select v53 v54 v48
  let v235 : Index := Scalar.indexCast v55
  let c0_155 : Index := 0#32
  let c0_156 : Index := 0#32
  let c0_157 : Index := 0#32
  ![v235.toNat, 0, 0, 0]
def k0_off19 (i : grid0.Coords) : Fin 2 → Nat :=
  let arg0 : BitVec 32 := BitVec.ofNat 32 (i 0).val
  let c2_i32_56 : BitVec 32 := 2#32
  let v92 : BitVec 32 := Scalar.addi arg0 c2_i32_56
  let c1_i32_57 : BitVec 32 := 1#32
  let v93 : BitVec 32 := Scalar.subi v92 c1_i32_57
  let c2_i32_58 : BitVec 32 := 2#32
  let c0_i32_59 : BitVec 32 := 0#32
  let v94 : BitVec 1 := Scalar.cmpi .eq c2_i32_58 c0_i32_59
  let c1_i32_60 : BitVec 32 := 1#32
  let v95 : BitVec 32 := Scalar.select v94 c1_i32_60 c2_i32_58
  let v96 : BitVec 32 := Scalar.remsi v93 v95
  let c0_i32_62 : BitVec 32 := 0#32
  let v98 : BitVec 1 := Scalar.cmpi .slt v96 c0_i32_62
  let c0_i32_63 : BitVec 32 := 0#32
  let v99 : BitVec 1 := Scalar.cmpi .slt v95 c0_i32_63
  let v100 : BitVec 1 := Scalar.xori v98 v99
  let c0_i32_61 : BitVec 32 := 0#32
  let v97 : BitVec 1 := Scalar.cmpi .ne v96 c0_i32_61
  let v101 : BitVec 1 := Scalar.andi v100 v97
  let v102 : BitVec 32 := Scalar.addi v96 v95
  let v103 : BitVec 32 := Scalar.select v101 v102 v96
  let c1_i32_164 : BitVec 32 := 1#32
  ![v103.toNat, 1]
def k0_off20 (i : grid0.Coords) : Fin 4 → Nat :=
  let arg0 : BitVec 32 := BitVec.ofNat 32 (i 0).val
  let c4_i32_26 : BitVec 32 := 4#32
  let v44 : BitVec 32 := Scalar.addi arg0 c4_i32_26
  let c1_i32_27 : BitVec 32 := 1#32
  let v45 : BitVec 32 := Scalar.subi v44 c1_i32_27
  let c4_i32_28 : BitVec 32 := 4#32
  let c0_i32_29 : BitVec 32 := 0#32
  let v46 : BitVec 1 := Scalar.cmpi .eq c4_i32_28 c0_i32_29
  let c1_i32_30 : BitVec 32 := 1#32
  let v47 : BitVec 32 := Scalar.select v46 c1_i32_30 c4_i32_28
  let v48 : BitVec 32 := Scalar.remsi v45 v47
  let c0_i32_32 : BitVec 32 := 0#32
  let v50 : BitVec 1 := Scalar.cmpi .slt v48 c0_i32_32
  let c0_i32_33 : BitVec 32 := 0#32
  let v51 : BitVec 1 := Scalar.cmpi .slt v47 c0_i32_33
  let v52 : BitVec 1 := Scalar.xori v50 v51
  let c0_i32_31 : BitVec 32 := 0#32
  let v49 : BitVec 1 := Scalar.cmpi .ne v48 c0_i32_31
  let v53 : BitVec 1 := Scalar.andi v52 v49
  let v54 : BitVec 32 := Scalar.addi v48 v47
  let v55 : BitVec 32 := Scalar.select v53 v54 v48
  let c1_i32_162 : BitVec 32 := 1#32
  let c0_i32_167 : BitVec 32 := 0#32
  let c0_i32_168 : BitVec 32 := 0#32
  ![v55.toNat, 1, 0, 0]
def k0_dev5 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_165 : BitVec 32 := 1#32
  let v245 : BitVec 32 := Scalar.muli v25 c1_i32_165
  let v246 : BitVec 32 := Scalar.addi c0_i32_166 v245
  v246.toNat
def k0_cond8 (i : grid0.Coords) : BitVec 1 :=
  let arg0 : BitVec 32 := BitVec.ofNat 32 (i 0).val
  let c3_i32_185 : BitVec 32 := 3#32
  let v270 : BitVec 1 := Scalar.cmpi .sge arg0 c3_i32_185
  let v271 : BitVec 32 := Scalar.extui v270
  let c0_i32_190 : BitVec 32 := 0#32
  let v272 : BitVec 1 := Scalar.cmpi .ne v271 c0_i32_190
  v272

def k0_off21 (i : grid0.Coords) : Fin 2 → Nat :=
  let arg0 : BitVec 32 := BitVec.ofNat 32 (i 0).val
  let c2_i32_56 : BitVec 32 := 2#32
  let v92 : BitVec 32 := Scalar.addi arg0 c2_i32_56
  let c1_i32_57 : BitVec 32 := 1#32
  let v93 : BitVec 32 := Scalar.subi v92 c1_i32_57
  let c2_i32_58 : BitVec 32 := 2#32
  let c0_i32_59 : BitVec 32 := 0#32
  let v94 : BitVec 1 := Scalar.cmpi .eq c2_i32_58 c0_i32_59
  let c1_i32_60 : BitVec 32 := 1#32
  let v95 : BitVec 32 := Scalar.select v94 c1_i32_60 c2_i32_58
  let v96 : BitVec 32 := Scalar.remsi v93 v95
  let c0_i32_62 : BitVec 32 := 0#32
  let v98 : BitVec 1 := Scalar.cmpi .slt v96 c0_i32_62
  let c0_i32_63 : BitVec 32 := 0#32
  let v99 : BitVec 1 := Scalar.cmpi .slt v95 c0_i32_63
  let v100 : BitVec 1 := Scalar.xori v98 v99
  let c0_i32_61 : BitVec 32 := 0#32
  let v97 : BitVec 1 := Scalar.cmpi .ne v96 c0_i32_61
  let v101 : BitVec 1 := Scalar.andi v100 v97
  let v102 : BitVec 32 := Scalar.addi v96 v95
  let v103 : BitVec 32 := Scalar.select v101 v102 v96
  let c1_i32_188 : BitVec 32 := 1#32
  ![v103.toNat, 1]
def k0_off22 (i : grid0.Coords) : Fin 4 → Nat :=
  let arg0 : BitVec 32 := BitVec.ofNat 32 (i 0).val
  let c4_i32_26 : BitVec 32 := 4#32
  let v44 : BitVec 32 := Scalar.addi arg0 c4_i32_26
  let c1_i32_27 : BitVec 32 := 1#32
  let v45 : BitVec 32 := Scalar.subi v44 c1_i32_27
  let c4_i32_28 : BitVec 32 := 4#32
  let c0_i32_29 : BitVec 32 := 0#32
  let v46 : BitVec 1 := Scalar.cmpi .eq c4_i32_28 c0_i32_29
  let c1_i32_30 : BitVec 32 := 1#32
  let v47 : BitVec 32 := Scalar.select v46 c1_i32_30 c4_i32_28
  let v48 : BitVec 32 := Scalar.remsi v45 v47
  let c0_i32_32 : BitVec 32 := 0#32
  let v50 : BitVec 1 := Scalar.cmpi .slt v48 c0_i32_32
  let c0_i32_33 : BitVec 32 := 0#32
  let v51 : BitVec 1 := Scalar.cmpi .slt v47 c0_i32_33
  let v52 : BitVec 1 := Scalar.xori v50 v51
  let c0_i32_31 : BitVec 32 := 0#32
  let v49 : BitVec 1 := Scalar.cmpi .ne v48 c0_i32_31
  let v53 : BitVec 1 := Scalar.andi v52 v49
  let v54 : BitVec 32 := Scalar.addi v48 v47
  let v55 : BitVec 32 := Scalar.select v53 v54 v48
  let c0_i32_187 : BitVec 32 := 0#32
  let c0_i32_208 : BitVec 32 := 0#32
  let c0_i32_209 : BitVec 32 := 0#32
  ![v55.toNat, 0, 0, 0]
def k0_off23 (i : grid0.Coords) : Fin 4 → Nat :=
  let arg0 : BitVec 32 := BitVec.ofNat 32 (i 0).val
  let c4_i32_26 : BitVec 32 := 4#32
  let v44 : BitVec 32 := Scalar.addi arg0 c4_i32_26
  let c1_i32_27 : BitVec 32 := 1#32
  let v45 : BitVec 32 := Scalar.subi v44 c1_i32_27
  let c4_i32_28 : BitVec 32 := 4#32
  let c0_i32_29 : BitVec 32 := 0#32
  let v46 : BitVec 1 := Scalar.cmpi .eq c4_i32_28 c0_i32_29
  let c1_i32_30 : BitVec 32 := 1#32
  let v47 : BitVec 32 := Scalar.select v46 c1_i32_30 c4_i32_28
  let v48 : BitVec 32 := Scalar.remsi v45 v47
  let c0_i32_32 : BitVec 32 := 0#32
  let v50 : BitVec 1 := Scalar.cmpi .slt v48 c0_i32_32
  let c0_i32_33 : BitVec 32 := 0#32
  let v51 : BitVec 1 := Scalar.cmpi .slt v47 c0_i32_33
  let v52 : BitVec 1 := Scalar.xori v50 v51
  let c0_i32_31 : BitVec 32 := 0#32
  let v49 : BitVec 1 := Scalar.cmpi .ne v48 c0_i32_31
  let v53 : BitVec 1 := Scalar.andi v52 v49
  let v54 : BitVec 32 := Scalar.addi v48 v47
  let v55 : BitVec 32 := Scalar.select v53 v54 v48
  let c1_i32_186 : BitVec 32 := 1#32
  let c0_i32_210 : BitVec 32 := 0#32
  let c0_i32_211 : BitVec 32 := 0#32
  ![v55.toNat, 1, 0, 0]
def k0_dev6 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_201 : BitVec 32 := 1#32
  let v283 : BitVec 32 := Scalar.muli v14 c1_i32_201
  let v284 : BitVec 32 := Scalar.addi c0_i32_202 v283
  v284.toNat
def k0_cond9 (i : grid0.Coords) : BitVec 1 :=
  let arg0 : BitVec 32 := BitVec.ofNat 32 (i 0).val
  let c2_i32_126 : BitVec 32 := 2#32
  let v202 : BitVec 1 := Scalar.cmpi .sge arg0 c2_i32_126
  let c17_i32 : BitVec 32 := 17#32
  let v203 : BitVec 1 := Scalar.cmpi .sle arg0 c17_i32
  let v204 : BitVec 1 := Scalar.andi v202 v203
  let v205 : BitVec 32 := Scalar.extui v204
  let c0_i32_127 : BitVec 32 := 0#32
  let v206 : BitVec 1 := Scalar.cmpi .ne v205 c0_i32_127
  v206

def k0_off24 (d0 : Dev nD) (c1_i32_94 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v150 : BitVec 32 := Scalar.addi v2 c1_i32_94
  let c4_i32_95 : BitVec 32 := 4#32
  let c0_i32_96 : BitVec 32 := 0#32
  let v151 : BitVec 1 := Scalar.cmpi .eq c4_i32_95 c0_i32_96
  let c1_i32_97 : BitVec 32 := 1#32
  let v152 : BitVec 32 := Scalar.select v151 c1_i32_97 c4_i32_95
  let v153 : BitVec 32 := Scalar.remsi v150 v152
  let c0_i32_99 : BitVec 32 := 0#32
  let v155 : BitVec 1 := Scalar.cmpi .slt v153 c0_i32_99
  let c0_i32_100 : BitVec 32 := 0#32
  let v156 : BitVec 1 := Scalar.cmpi .slt v152 c0_i32_100
  let v157 : BitVec 1 := Scalar.xori v155 v156
  let c0_i32_98 : BitVec 32 := 0#32
  let v154 : BitVec 1 := Scalar.cmpi .ne v153 c0_i32_98
  let v158 : BitVec 1 := Scalar.andi v157 v154
  let v159 : BitVec 32 := Scalar.addi v153 v152
  let v160 : BitVec 32 := Scalar.select v158 v159 v153
  let c1024_i32 : BitVec 32 := 1024#32
  let v217 : BitVec 32 := Scalar.muli v160 c1024_i32
  let v218 : Index := Scalar.indexCast v217
  let c0 : Index := 0#32
  ![v218.toNat, 0]
def k0_off25 (i : grid0.Coords) : Fin 2 → Nat :=
  let arg0 : BitVec 32 := BitVec.ofNat 32 (i 0).val
  let c2_i32_64 : BitVec 32 := 2#32
  let v104 : BitVec 32 := Scalar.addi arg0 c2_i32_64
  let c2_i32_65 : BitVec 32 := 2#32
  let v105 : BitVec 32 := Scalar.subi v104 c2_i32_65
  let c2_i32_66 : BitVec 32 := 2#32
  let c0_i32_67 : BitVec 32 := 0#32
  let v106 : BitVec 1 := Scalar.cmpi .eq c2_i32_66 c0_i32_67
  let c1_i32_68 : BitVec 32 := 1#32
  let v107 : BitVec 32 := Scalar.select v106 c1_i32_68 c2_i32_66
  let v108 : BitVec 32 := Scalar.remsi v105 v107
  let c0_i32_70 : BitVec 32 := 0#32
  let v110 : BitVec 1 := Scalar.cmpi .slt v108 c0_i32_70
  let c0_i32_71 : BitVec 32 := 0#32
  let v111 : BitVec 1 := Scalar.cmpi .slt v107 c0_i32_71
  let v112 : BitVec 1 := Scalar.xori v110 v111
  let c0_i32_69 : BitVec 32 := 0#32
  let v109 : BitVec 1 := Scalar.cmpi .ne v108 c0_i32_69
  let v113 : BitVec 1 := Scalar.andi v112 v109
  let v114 : BitVec 32 := Scalar.addi v108 v107
  let v115 : BitVec 32 := Scalar.select v113 v114 v108
  let c1_i32_141 : BitVec 32 := 1#32
  ![v115.toNat, 1]
def k0_off26 (i : grid0.Coords) : Fin 4 → Nat :=
  let arg0 : BitVec 32 := BitVec.ofNat 32 (i 0).val
  let c4_i32_34 : BitVec 32 := 4#32
  let v56 : BitVec 32 := Scalar.addi arg0 c4_i32_34
  let c2_i32 : BitVec 32 := 2#32
  let v57 : BitVec 32 := Scalar.subi v56 c2_i32
  let c4_i32_35 : BitVec 32 := 4#32
  let c0_i32_36 : BitVec 32 := 0#32
  let v58 : BitVec 1 := Scalar.cmpi .eq c4_i32_35 c0_i32_36
  let c1_i32_37 : BitVec 32 := 1#32
  let v59 : BitVec 32 := Scalar.select v58 c1_i32_37 c4_i32_35
  let v60 : BitVec 32 := Scalar.remsi v57 v59
  let c0_i32_39 : BitVec 32 := 0#32
  let v62 : BitVec 1 := Scalar.cmpi .slt v60 c0_i32_39
  let c0_i32_40 : BitVec 32 := 0#32
  let v63 : BitVec 1 := Scalar.cmpi .slt v59 c0_i32_40
  let v64 : BitVec 1 := Scalar.xori v62 v63
  let c0_i32_38 : BitVec 32 := 0#32
  let v61 : BitVec 1 := Scalar.cmpi .ne v60 c0_i32_38
  let v65 : BitVec 1 := Scalar.andi v64 v61
  let v66 : BitVec 32 := Scalar.addi v60 v59
  let v67 : BitVec 32 := Scalar.select v65 v66 v60
  let c1_i32_140 : BitVec 32 := 1#32
  let c0_i32_145 : BitVec 32 := 0#32
  let c0_i32_146 : BitVec 32 := 0#32
  ![v67.toNat, 1, 0, 0]
def k0_cond10 (i : grid0.Coords) : BitVec 1 :=
  let arg0 : BitVec 32 := BitVec.ofNat 32 (i 0).val
  let c4_i32_149 : BitVec 32 := 4#32
  let v232 : BitVec 1 := Scalar.cmpi .sge arg0 c4_i32_149
  let v233 : BitVec 32 := Scalar.extui v232
  let c0_i32_154 : BitVec 32 := 0#32
  let v234 : BitVec 1 := Scalar.cmpi .ne v233 c0_i32_154
  v234

def k0_off27 (i : grid0.Coords) : Fin 2 → Nat :=
  let arg0 : BitVec 32 := BitVec.ofNat 32 (i 0).val
  let c2_i32_64 : BitVec 32 := 2#32
  let v104 : BitVec 32 := Scalar.addi arg0 c2_i32_64
  let c2_i32_65 : BitVec 32 := 2#32
  let v105 : BitVec 32 := Scalar.subi v104 c2_i32_65
  let c2_i32_66 : BitVec 32 := 2#32
  let c0_i32_67 : BitVec 32 := 0#32
  let v106 : BitVec 1 := Scalar.cmpi .eq c2_i32_66 c0_i32_67
  let c1_i32_68 : BitVec 32 := 1#32
  let v107 : BitVec 32 := Scalar.select v106 c1_i32_68 c2_i32_66
  let v108 : BitVec 32 := Scalar.remsi v105 v107
  let c0_i32_70 : BitVec 32 := 0#32
  let v110 : BitVec 1 := Scalar.cmpi .slt v108 c0_i32_70
  let c0_i32_71 : BitVec 32 := 0#32
  let v111 : BitVec 1 := Scalar.cmpi .slt v107 c0_i32_71
  let v112 : BitVec 1 := Scalar.xori v110 v111
  let c0_i32_69 : BitVec 32 := 0#32
  let v109 : BitVec 1 := Scalar.cmpi .ne v108 c0_i32_69
  let v113 : BitVec 1 := Scalar.andi v112 v109
  let v114 : BitVec 32 := Scalar.addi v108 v107
  let v115 : BitVec 32 := Scalar.select v113 v114 v108
  let c2_i32_152 : BitVec 32 := 2#32
  ![v115.toNat, 2]
def k0_off28 (i : grid0.Coords) : Fin 4 → Nat :=
  let arg0 : BitVec 32 := BitVec.ofNat 32 (i 0).val
  let c4_i32_34 : BitVec 32 := 4#32
  let v56 : BitVec 32 := Scalar.addi arg0 c4_i32_34
  let c2_i32 : BitVec 32 := 2#32
  let v57 : BitVec 32 := Scalar.subi v56 c2_i32
  let c4_i32_35 : BitVec 32 := 4#32
  let c0_i32_36 : BitVec 32 := 0#32
  let v58 : BitVec 1 := Scalar.cmpi .eq c4_i32_35 c0_i32_36
  let c1_i32_37 : BitVec 32 := 1#32
  let v59 : BitVec 32 := Scalar.select v58 c1_i32_37 c4_i32_35
  let v60 : BitVec 32 := Scalar.remsi v57 v59
  let c0_i32_39 : BitVec 32 := 0#32
  let v62 : BitVec 1 := Scalar.cmpi .slt v60 c0_i32_39
  let c0_i32_40 : BitVec 32 := 0#32
  let v63 : BitVec 1 := Scalar.cmpi .slt v59 c0_i32_40
  let v64 : BitVec 1 := Scalar.xori v62 v63
  let c0_i32_38 : BitVec 32 := 0#32
  let v61 : BitVec 1 := Scalar.cmpi .ne v60 c0_i32_38
  let v65 : BitVec 1 := Scalar.andi v64 v61
  let v66 : BitVec 32 := Scalar.addi v60 v59
  let v67 : BitVec 32 := Scalar.select v65 v66 v60
  let c1_i32_151 : BitVec 32 := 1#32
  let c0_i32_207 : BitVec 32 := 0#32
  let c0_i32_208 : BitVec 32 := 0#32
  ![v67.toNat, 1, 0, 0]
def k0_off29 (i : grid0.Coords) : Fin 4 → Nat :=
  let arg0 : BitVec 32 := BitVec.ofNat 32 (i 0).val
  let c4_i32_34 : BitVec 32 := 4#32
  let v56 : BitVec 32 := Scalar.addi arg0 c4_i32_34
  let c2_i32 : BitVec 32 := 2#32
  let v57 : BitVec 32 := Scalar.subi v56 c2_i32
  let c4_i32_35 : BitVec 32 := 4#32
  let c0_i32_36 : BitVec 32 := 0#32
  let v58 : BitVec 1 := Scalar.cmpi .eq c4_i32_35 c0_i32_36
  let c1_i32_37 : BitVec 32 := 1#32
  let v59 : BitVec 32 := Scalar.select v58 c1_i32_37 c4_i32_35
  let v60 : BitVec 32 := Scalar.remsi v57 v59
  let c0_i32_39 : BitVec 32 := 0#32
  let v62 : BitVec 1 := Scalar.cmpi .slt v60 c0_i32_39
  let c0_i32_40 : BitVec 32 := 0#32
  let v63 : BitVec 1 := Scalar.cmpi .slt v59 c0_i32_40
  let v64 : BitVec 1 := Scalar.xori v62 v63
  let c0_i32_38 : BitVec 32 := 0#32
  let v61 : BitVec 1 := Scalar.cmpi .ne v60 c0_i32_38
  let v65 : BitVec 1 := Scalar.andi v64 v61
  let v66 : BitVec 32 := Scalar.addi v60 v59
  let v67 : BitVec 32 := Scalar.select v65 v66 v60
  let c2_i32_150 : BitVec 32 := 2#32
  let c0_i32_209 : BitVec 32 := 0#32
  let c0_i32_210 : BitVec 32 := 0#32
  ![v67.toNat, 2, 0, 0]
def k0_off30 (i : grid0.Coords) : Fin 4 → Nat :=
  let arg0 : BitVec 32 := BitVec.ofNat 32 (i 0).val
  let c4_i32_34 : BitVec 32 := 4#32
  let v56 : BitVec 32 := Scalar.addi arg0 c4_i32_34
  let c2_i32 : BitVec 32 := 2#32
  let v57 : BitVec 32 := Scalar.subi v56 c2_i32
  let c4_i32_35 : BitVec 32 := 4#32
  let c0_i32_36 : BitVec 32 := 0#32
  let v58 : BitVec 1 := Scalar.cmpi .eq c4_i32_35 c0_i32_36
  let c1_i32_37 : BitVec 32 := 1#32
  let v59 : BitVec 32 := Scalar.select v58 c1_i32_37 c4_i32_35
  let v60 : BitVec 32 := Scalar.remsi v57 v59
  let c0_i32_39 : BitVec 32 := 0#32
  let v62 : BitVec 1 := Scalar.cmpi .slt v60 c0_i32_39
  let c0_i32_40 : BitVec 32 := 0#32
  let v63 : BitVec 1 := Scalar.cmpi .slt v59 c0_i32_40
  let v64 : BitVec 1 := Scalar.xori v62 v63
  let c0_i32_38 : BitVec 32 := 0#32
  let v61 : BitVec 1 := Scalar.cmpi .ne v60 c0_i32_38
  let v65 : BitVec 1 := Scalar.andi v64 v61
  let v66 : BitVec 32 := Scalar.addi v60 v59
  let v67 : BitVec 32 := Scalar.select v65 v66 v60
  let v235 : Index := Scalar.indexCast v67
  let c1 : Index := 1#32
  let c0_155 : Index := 0#32
  let c0_156 : Index := 0#32
  ![v235.toNat, 1, 0, 0]
def k0_off31 (i : grid0.Coords) : Fin 2 → Nat :=
  let arg0 : BitVec 32 := BitVec.ofNat 32 (i 0).val
  let c2_i32_64 : BitVec 32 := 2#32
  let v104 : BitVec 32 := Scalar.addi arg0 c2_i32_64
  let c2_i32_65 : BitVec 32 := 2#32
  let v105 : BitVec 32 := Scalar.subi v104 c2_i32_65
  let c2_i32_66 : BitVec 32 := 2#32
  let c0_i32_67 : BitVec 32 := 0#32
  let v106 : BitVec 1 := Scalar.cmpi .eq c2_i32_66 c0_i32_67
  let c1_i32_68 : BitVec 32 := 1#32
  let v107 : BitVec 32 := Scalar.select v106 c1_i32_68 c2_i32_66
  let v108 : BitVec 32 := Scalar.remsi v105 v107
  let c0_i32_70 : BitVec 32 := 0#32
  let v110 : BitVec 1 := Scalar.cmpi .slt v108 c0_i32_70
  let c0_i32_71 : BitVec 32 := 0#32
  let v111 : BitVec 1 := Scalar.cmpi .slt v107 c0_i32_71
  let v112 : BitVec 1 := Scalar.xori v110 v111
  let c0_i32_69 : BitVec 32 := 0#32
  let v109 : BitVec 1 := Scalar.cmpi .ne v108 c0_i32_69
  let v113 : BitVec 1 := Scalar.andi v112 v109
  let v114 : BitVec 32 := Scalar.addi v108 v107
  let v115 : BitVec 32 := Scalar.select v113 v114 v108
  let c2_i32_163 : BitVec 32 := 2#32
  ![v115.toNat, 2]
def k0_off32 (i : grid0.Coords) : Fin 4 → Nat :=
  let arg0 : BitVec 32 := BitVec.ofNat 32 (i 0).val
  let c4_i32_34 : BitVec 32 := 4#32
  let v56 : BitVec 32 := Scalar.addi arg0 c4_i32_34
  let c2_i32 : BitVec 32 := 2#32
  let v57 : BitVec 32 := Scalar.subi v56 c2_i32
  let c4_i32_35 : BitVec 32 := 4#32
  let c0_i32_36 : BitVec 32 := 0#32
  let v58 : BitVec 1 := Scalar.cmpi .eq c4_i32_35 c0_i32_36
  let c1_i32_37 : BitVec 32 := 1#32
  let v59 : BitVec 32 := Scalar.select v58 c1_i32_37 c4_i32_35
  let v60 : BitVec 32 := Scalar.remsi v57 v59
  let c0_i32_39 : BitVec 32 := 0#32
  let v62 : BitVec 1 := Scalar.cmpi .slt v60 c0_i32_39
  let c0_i32_40 : BitVec 32 := 0#32
  let v63 : BitVec 1 := Scalar.cmpi .slt v59 c0_i32_40
  let v64 : BitVec 1 := Scalar.xori v62 v63
  let c0_i32_38 : BitVec 32 := 0#32
  let v61 : BitVec 1 := Scalar.cmpi .ne v60 c0_i32_38
  let v65 : BitVec 1 := Scalar.andi v64 v61
  let v66 : BitVec 32 := Scalar.addi v60 v59
  let v67 : BitVec 32 := Scalar.select v65 v66 v60
  let c2_i32_161 : BitVec 32 := 2#32
  let c0_i32_166 : BitVec 32 := 0#32
  let c0_i32_167 : BitVec 32 := 0#32
  ![v67.toNat, 2, 0, 0]
def k0_dev7 (d0 : Dev nD) : Nat :=
  let c0_i32_165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_164 : BitVec 32 := 1#32
  let v245 : BitVec 32 := Scalar.muli v25 c1_i32_164
  let v246 : BitVec 32 := Scalar.addi c0_i32_165 v245
  v246.toNat
def k0_cond11 (i : grid0.Coords) : BitVec 1 :=
  let arg0 : BitVec 32 := BitVec.ofNat 32 (i 0).val
  let c4_i32_184 : BitVec 32 := 4#32
  let v270 : BitVec 1 := Scalar.cmpi .sge arg0 c4_i32_184
  let v271 : BitVec 32 := Scalar.extui v270
  let c0_i32_189 : BitVec 32 := 0#32
  let v272 : BitVec 1 := Scalar.cmpi .ne v271 c0_i32_189
  v272

def k0_off33 (i : grid0.Coords) : Fin 2 → Nat :=
  let arg0 : BitVec 32 := BitVec.ofNat 32 (i 0).val
  let c2_i32_64 : BitVec 32 := 2#32
  let v104 : BitVec 32 := Scalar.addi arg0 c2_i32_64
  let c2_i32_65 : BitVec 32 := 2#32
  let v105 : BitVec 32 := Scalar.subi v104 c2_i32_65
  let c2_i32_66 : BitVec 32 := 2#32
  let c0_i32_67 : BitVec 32 := 0#32
  let v106 : BitVec 1 := Scalar.cmpi .eq c2_i32_66 c0_i32_67
  let c1_i32_68 : BitVec 32 := 1#32
  let v107 : BitVec 32 := Scalar.select v106 c1_i32_68 c2_i32_66
  let v108 : BitVec 32 := Scalar.remsi v105 v107
  let c0_i32_70 : BitVec 32 := 0#32
  let v110 : BitVec 1 := Scalar.cmpi .slt v108 c0_i32_70
  let c0_i32_71 : BitVec 32 := 0#32
  let v111 : BitVec 1 := Scalar.cmpi .slt v107 c0_i32_71
  let v112 : BitVec 1 := Scalar.xori v110 v111
  let c0_i32_69 : BitVec 32 := 0#32
  let v109 : BitVec 1 := Scalar.cmpi .ne v108 c0_i32_69
  let v113 : BitVec 1 := Scalar.andi v112 v109
  let v114 : BitVec 32 := Scalar.addi v108 v107
  let v115 : BitVec 32 := Scalar.select v113 v114 v108
  let c2_i32_187 : BitVec 32 := 2#32
  ![v115.toNat, 2]
def k0_off34 (i : grid0.Coords) : Fin 4 → Nat :=
  let arg0 : BitVec 32 := BitVec.ofNat 32 (i 0).val
  let c4_i32_34 : BitVec 32 := 4#32
  let v56 : BitVec 32 := Scalar.addi arg0 c4_i32_34
  let c2_i32 : BitVec 32 := 2#32
  let v57 : BitVec 32 := Scalar.subi v56 c2_i32
  let c4_i32_35 : BitVec 32 := 4#32
  let c0_i32_36 : BitVec 32 := 0#32
  let v58 : BitVec 1 := Scalar.cmpi .eq c4_i32_35 c0_i32_36
  let c1_i32_37 : BitVec 32 := 1#32
  let v59 : BitVec 32 := Scalar.select v58 c1_i32_37 c4_i32_35
  let v60 : BitVec 32 := Scalar.remsi v57 v59
  let c0_i32_39 : BitVec 32 := 0#32
  let v62 : BitVec 1 := Scalar.cmpi .slt v60 c0_i32_39
  let c0_i32_40 : BitVec 32 := 0#32
  let v63 : BitVec 1 := Scalar.cmpi .slt v59 c0_i32_40
  let v64 : BitVec 1 := Scalar.xori v62 v63
  let c0_i32_38 : BitVec 32 := 0#32
  let v61 : BitVec 1 := Scalar.cmpi .ne v60 c0_i32_38
  let v65 : BitVec 1 := Scalar.andi v64 v61
  let v66 : BitVec 32 := Scalar.addi v60 v59
  let v67 : BitVec 32 := Scalar.select v65 v66 v60
  let c1_i32_186 : BitVec 32 := 1#32
  let c0_i32_207 : BitVec 32 := 0#32
  let c0_i32_208 : BitVec 32 := 0#32
  ![v67.toNat, 1, 0, 0]
def k0_off35 (i : grid0.Coords) : Fin 4 → Nat :=
  let arg0 : BitVec 32 := BitVec.ofNat 32 (i 0).val
  let c4_i32_34 : BitVec 32 := 4#32
  let v56 : BitVec 32 := Scalar.addi arg0 c4_i32_34
  let c2_i32 : BitVec 32 := 2#32
  let v57 : BitVec 32 := Scalar.subi v56 c2_i32
  let c4_i32_35 : BitVec 32 := 4#32
  let c0_i32_36 : BitVec 32 := 0#32
  let v58 : BitVec 1 := Scalar.cmpi .eq c4_i32_35 c0_i32_36
  let c1_i32_37 : BitVec 32 := 1#32
  let v59 : BitVec 32 := Scalar.select v58 c1_i32_37 c4_i32_35
  let v60 : BitVec 32 := Scalar.remsi v57 v59
  let c0_i32_39 : BitVec 32 := 0#32
  let v62 : BitVec 1 := Scalar.cmpi .slt v60 c0_i32_39
  let c0_i32_40 : BitVec 32 := 0#32
  let v63 : BitVec 1 := Scalar.cmpi .slt v59 c0_i32_40
  let v64 : BitVec 1 := Scalar.xori v62 v63
  let c0_i32_38 : BitVec 32 := 0#32
  let v61 : BitVec 1 := Scalar.cmpi .ne v60 c0_i32_38
  let v65 : BitVec 1 := Scalar.andi v64 v61
  let v66 : BitVec 32 := Scalar.addi v60 v59
  let v67 : BitVec 32 := Scalar.select v65 v66 v60
  let c2_i32_185 : BitVec 32 := 2#32
  let c0_i32_209 : BitVec 32 := 0#32
  let c0_i32_210 : BitVec 32 := 0#32
  ![v67.toNat, 2, 0, 0]
def k0_dev8 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_200 : BitVec 32 := 1#32
  let v283 : BitVec 32 := Scalar.muli v14 c1_i32_200
  let v284 : BitVec 32 := Scalar.addi c0_i32_201 v283
  v284.toNat
def k0_cond12 (i : grid0.Coords) : BitVec 1 :=
  let arg0 : BitVec 32 := BitVec.ofNat 32 (i 0).val
  let c3_i32_128 : BitVec 32 := 3#32
  let v207 : BitVec 1 := Scalar.cmpi .sge arg0 c3_i32_128
  let v208 : BitVec 32 := Scalar.extui v207
  let c0_i32_129 : BitVec 32 := 0#32
  let v209 : BitVec 1 := Scalar.cmpi .ne v208 c0_i32_129
  v209

def k0_off36 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v217 : BitVec 32 := Scalar.muli v2 c1024_i32
  let v218 : Index := Scalar.indexCast v217
  let c0 : Index := 0#32
  ![v218.toNat, 0]
def k0_off37 (i : grid0.Coords) : Fin 2 → Nat :=
  let arg0 : BitVec 32 := BitVec.ofNat 32 (i 0).val
  let c2_i32_72 : BitVec 32 := 2#32
  let v116 : BitVec 32 := Scalar.addi arg0 c2_i32_72
  let c3_i32_73 : BitVec 32 := 3#32
  let v117 : BitVec 32 := Scalar.subi v116 c3_i32_73
  let c2_i32_74 : BitVec 32 := 2#32
  let c0_i32_75 : BitVec 32 := 0#32
  let v118 : BitVec 1 := Scalar.cmpi .eq c2_i32_74 c0_i32_75
  let c1_i32_76 : BitVec 32 := 1#32
  let v119 : BitVec 32 := Scalar.select v118 c1_i32_76 c2_i32_74
  let v120 : BitVec 32 := Scalar.remsi v117 v119
  let c0_i32_78 : BitVec 32 := 0#32
  let v122 : BitVec 1 := Scalar.cmpi .slt v120 c0_i32_78
  let c0_i32_79 : BitVec 32 := 0#32
  let v123 : BitVec 1 := Scalar.cmpi .slt v119 c0_i32_79
  let v124 : BitVec 1 := Scalar.xori v122 v123
  let c0_i32_77 : BitVec 32 := 0#32
  let v121 : BitVec 1 := Scalar.cmpi .ne v120 c0_i32_77
  let v125 : BitVec 1 := Scalar.andi v124 v121
  let v126 : BitVec 32 := Scalar.addi v120 v119
  let v127 : BitVec 32 := Scalar.select v125 v126 v120
  let c2_i32_141 : BitVec 32 := 2#32
  ![v127.toNat, 2]
def k0_off38 (i : grid0.Coords) : Fin 4 → Nat :=
  let arg0 : BitVec 32 := BitVec.ofNat 32 (i 0).val
  let c4_i32_41 : BitVec 32 := 4#32
  let v68 : BitVec 32 := Scalar.addi arg0 c4_i32_41
  let c3_i32 : BitVec 32 := 3#32
  let v69 : BitVec 32 := Scalar.subi v68 c3_i32
  let c4_i32_42 : BitVec 32 := 4#32
  let c0_i32_43 : BitVec 32 := 0#32
  let v70 : BitVec 1 := Scalar.cmpi .eq c4_i32_42 c0_i32_43
  let c1_i32_44 : BitVec 32 := 1#32
  let v71 : BitVec 32 := Scalar.select v70 c1_i32_44 c4_i32_42
  let v72 : BitVec 32 := Scalar.remsi v69 v71
  let c0_i32_46 : BitVec 32 := 0#32
  let v74 : BitVec 1 := Scalar.cmpi .slt v72 c0_i32_46
  let c0_i32_47 : BitVec 32 := 0#32
  let v75 : BitVec 1 := Scalar.cmpi .slt v71 c0_i32_47
  let v76 : BitVec 1 := Scalar.xori v74 v75
  let c0_i32_45 : BitVec 32 := 0#32
  let v73 : BitVec 1 := Scalar.cmpi .ne v72 c0_i32_45
  let v77 : BitVec 1 := Scalar.andi v76 v73
  let v78 : BitVec 32 := Scalar.addi v72 v71
  let v79 : BitVec 32 := Scalar.select v77 v78 v72
  let c2_i32_140 : BitVec 32 := 2#32
  let c0_i32_145 : BitVec 32 := 0#32
  let c0_i32_146 : BitVec 32 := 0#32
  ![v79.toNat, 2, 0, 0]
def k0_off39 (i : grid0.Coords) : Fin 4 → Nat :=
  let arg0 : BitVec 32 := BitVec.ofNat 32 (i 0).val
  let c4_i32_41 : BitVec 32 := 4#32
  let v68 : BitVec 32 := Scalar.addi arg0 c4_i32_41
  let c3_i32 : BitVec 32 := 3#32
  let v69 : BitVec 32 := Scalar.subi v68 c3_i32
  let c4_i32_42 : BitVec 32 := 4#32
  let c0_i32_43 : BitVec 32 := 0#32
  let v70 : BitVec 1 := Scalar.cmpi .eq c4_i32_42 c0_i32_43
  let c1_i32_44 : BitVec 32 := 1#32
  let v71 : BitVec 32 := Scalar.select v70 c1_i32_44 c4_i32_42
  let v72 : BitVec 32 := Scalar.remsi v69 v71
  let c0_i32_46 : BitVec 32 := 0#32
  let v74 : BitVec 1 := Scalar.cmpi .slt v72 c0_i32_46
  let c0_i32_47 : BitVec 32 := 0#32
  let v75 : BitVec 1 := Scalar.cmpi .slt v71 c0_i32_47
  let v76 : BitVec 1 := Scalar.xori v74 v75
  let c0_i32_45 : BitVec 32 := 0#32
  let v73 : BitVec 1 := Scalar.cmpi .ne v72 c0_i32_45
  let v77 : BitVec 1 := Scalar.andi v76 v73
  let v78 : BitVec 32 := Scalar.addi v72 v71
  let v79 : BitVec 32 := Scalar.select v77 v78 v72
  let v232 : Index := Scalar.indexCast v79
  let c2 : Index := 2#32
  let c0_149 : Index := 0#32
  let c0_150 : Index := 0#32
  ![v232.toNat, 2, 0, 0]
def k0_dev9 (d0 : Dev nD) : Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_131 : BitVec 32 := 1#32
  let v210 : BitVec 32 := Scalar.muli v14 c1_i32_131
  let v211 : BitVec 32 := Scalar.addi c0_i32_132 v210
  v211.toNat
def k0_dev10 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_134 : BitVec 32 := 1#32
  let v212 : BitVec 32 := Scalar.muli v25 c1_i32_134
  let v213 : BitVec 32 := Scalar.addi c0_i32_135 v212
  v213.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c15_i32 : BitVec 32 := 15#32
  let v0 : BitVec 32 := Scalar.maxsi c0_i32 arg0
  let v1 : BitVec 32 := Scalar.minsi c15_i32 v0
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![c0_i32_0.toNat, v2.toNat]

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Forms.lean ====
module

public import proofs.«01_k».proof.Proof.Gen.KernelIdeal.Skeleton

/-! The closed forms of the kernel's conditions, offsets and device numbers, at each of the nineteen
steps: the lists the proof computes with instead of the word arithmetic. -/

@[expose] public section

noncomputable section

namespace Cert.KernelIdeal.Hand

open Idealize.ShloMosaic Cert.KernelIdeal Cert.KernelIdeal.Gen

/-- The prologue runs at step 0 only. -/
theorem cond1_eq : ∀ t : Fin grid0.N, (k0_cond1 (grid0.coords t) = 1#1 ↔ t.val = 0) := by decide +kernel
/-- Hop 0 is sent at steps 0 to 15. -/
theorem cond3_eq : ∀ t : Fin grid0.N, (k0_cond3 (grid0.coords t) = 1#1 ↔ t.val < 16) := by decide +kernel
/-- The send of hop 0 two tiles before is waited for from step 2 on. -/
theorem cond4_eq : ∀ t : Fin grid0.N, (k0_cond4 (grid0.coords t) = 1#1 ↔ 2 ≤ t.val) := by decide +kernel
theorem cond5_eq : ∀ t : Fin grid0.N, (k0_cond5 (grid0.coords t) = 1#1 ↔ 2 ≤ t.val) := by decide +kernel
/-- Hop 1 is sent at steps 1 to 16. -/
theorem cond6_eq : ∀ t : Fin grid0.N, (k0_cond6 (grid0.coords t) = 1#1 ↔ 1 ≤ t.val ∧ t.val < 17) := by decide +kernel
theorem cond7_eq : ∀ t : Fin grid0.N, (k0_cond7 (grid0.coords t) = 1#1 ↔ 3 ≤ t.val) := by decide +kernel
theorem cond8_eq : ∀ t : Fin grid0.N, (k0_cond8 (grid0.coords t) = 1#1 ↔ 3 ≤ t.val) := by decide +kernel
/-- Hop 2 is sent at steps 2 to 17. -/
theorem cond9_eq : ∀ t : Fin grid0.N, (k0_cond9 (grid0.coords t) = 1#1 ↔ 2 ≤ t.val ∧ t.val < 18) := by decide +kernel
theorem cond10_eq : ∀ t : Fin grid0.N, (k0_cond10 (grid0.coords t) = 1#1 ↔ 4 ≤ t.val) := by decide +kernel
theorem cond11_eq : ∀ t : Fin grid0.N, (k0_cond11 (grid0.coords t) = 1#1 ↔ 4 ≤ t.val) := by decide +kernel
/-- The last stage runs at steps 3 to 18. -/
theorem cond12_eq : ∀ t : Fin grid0.N, (k0_cond12 (grid0.coords t) = 1#1 ↔ 3 ≤ t.val) := by decide +kernel

/-! Slots (`row`, `hop`) and semaphores (`parity`, `hop`) by step. -/
theorem off1_eq : ∀ t : Fin grid0.N, k0_off1 (grid0.coords t) = ![t.val % 2, 0] := by decide +kernel
theorem off5_eq : ∀ t : Fin grid0.N, k0_off5 (grid0.coords t) = ![t.val % 4, 3, 0, 0] := by decide +kernel
theorem off6_eq : ∀ t : Fin grid0.N, k0_off6 (grid0.coords t) = ![t.val % 2, 0] := by decide +kernel
theorem off7_eq : ∀ t : Fin grid0.N, k0_off7 (grid0.coords t) = ![t.val % 4, 0, 0, 0] := by decide +kernel
theorem off8_eq : ∀ t : Fin grid0.N, k0_off8 (grid0.coords t) = ![t.val % 4, 3, 0, 0] := by decide +kernel
theorem off9_eq : ∀ t : Fin grid0.N, k0_off9 (grid0.coords t) = ![t.val % 2, 0] := by decide +kernel
theorem off13_eq : ∀ t : Fin grid0.N, 1 ≤ t.val → k0_off13 (grid0.coords t) = ![(t.val - 1) % 2, 0] := by decide +kernel
theorem off14_eq : ∀ t : Fin grid0.N, 1 ≤ t.val → k0_off14 (grid0.coords t) = ![(t.val - 1) % 4, 0, 0, 0] := by decide +kernel
theorem off15_eq : ∀ t : Fin grid0.N, 1 ≤ t.val → k0_off15 (grid0.coords t) = ![(t.val - 1) % 2, 1] := by decide +kernel
theorem off18_eq : ∀ t : Fin grid0.N, 1 ≤ t.val → k0_off18 (grid0.coords t) = ![(t.val - 1) % 4, 0, 0, 0] := by decide +kernel
theorem off19_eq : ∀ t : Fin grid0.N, 1 ≤ t.val → k0_off19 (grid0.coords t) = ![(t.val - 1) % 2, 1] := by decide +kernel
theorem off20_eq : ∀ t : Fin grid0.N, 1 ≤ t.val → k0_off20 (grid0.coords t) = ![(t.val - 1) % 4, 1, 0, 0] := by decide +kernel
theorem off21_eq : ∀ t : Fin grid0.N, 1 ≤ t.val → k0_off21 (grid0.coords t) = ![(t.val - 1) % 2, 1] := by decide +kernel
theorem off25_eq : ∀ t : Fin grid0.N, 2 ≤ t.val → k0_off25 (grid0.coords t) = ![(t.val - 2) % 2, 1] := by decide +kernel
theorem off26_eq : ∀ t : Fin grid0.N, 2 ≤ t.val → k0_off26 (grid0.coords t) = ![(t.val - 2) % 4, 1, 0, 0] := by decide +kernel
theorem off27_eq : ∀ t : Fin grid0.N, 2 ≤ t.val → k0_off27 (grid0.coords t) = ![(t.val - 2) % 2, 2] := by decide +kernel
theorem off30_eq : ∀ t : Fin grid0.N, 2 ≤ t.val → k0_off30 (grid0.coords t) = ![(t.val - 2) % 4, 1, 0, 0] := by decide +kernel
theorem off31_eq : ∀ t : Fin grid0.N, 2 ≤ t.val → k0_off31 (grid0.coords t) = ![(t.val - 2) % 2, 2] := by decide +kernel
theorem off32_eq : ∀ t : Fin grid0.N, 2 ≤ t.val → k0_off32 (grid0.coords t) = ![(t.val - 2) % 4, 2, 0, 0] := by decide +kernel
theorem off33_eq : ∀ t : Fin grid0.N, 2 ≤ t.val → k0_off33 (grid0.coords t) = ![(t.val - 2) % 2, 2] := by decide +kernel
theorem off37_eq : ∀ t : Fin grid0.N, 3 ≤ t.val → k0_off37 (grid0.coords t) = ![(t.val - 3) % 2, 2] := by decide +kernel
theorem off38_eq : ∀ t : Fin grid0.N, 3 ≤ t.val → k0_off38 (grid0.coords t) = ![(t.val - 3) % 4, 2, 0, 0] := by decide +kernel
theorem off39_eq : ∀ t : Fin grid0.N, 3 ≤ t.val → k0_off39 (grid0.coords t) = ![(t.val - 3) % 4, 2, 0, 0] := by decide +kernel

/-! The row chunks of the first operand. -/
theorem off4_3_eq : ∀ c : Dev nD, k0_off4 c 3#32 = ![1024 * (c + 3 : Fin 4).val, 0] := by decide +kernel
theorem off4_1_eq : ∀ c : Dev nD, k0_off4 c 1#32 = ![1024 * (c + 1 : Fin 4).val, 0] := by decide +kernel
theorem off12_eq : ∀ c : Dev nD, k0_off12 c = ![1024 * (c + 2 : Fin 4).val, 0] := by decide +kernel
theorem off24_1_eq : ∀ c : Dev nD, k0_off24 c 1#32 = ![1024 * (c + 1 : Fin 4).val, 0] := by decide +kernel
theorem off24_3_eq : ∀ c : Dev nD, k0_off24 c 3#32 = ![1024 * (c + 3 : Fin 4).val, 0] := by decide +kernel
theorem off36_eq : ∀ c : Dev nD, k0_off36 c = ![1024 * (c + 0 : Fin 4).val, 0] := by decide +kernel

/-! The neighbours. -/
theorem dev1_eq : ∀ c : Dev nD, k0_dev1 c = (c + 3 : Fin 4).val := by decide +kernel
theorem dev2_eq : ∀ c : Dev nD, k0_dev2 c = (c + 1 : Fin 4).val := by decide +kernel
theorem dev3_eq : ∀ c : Dev nD, k0_dev3 c = (c + 1 : Fin 4).val := by decide +kernel
theorem dev4_eq : ∀ c : Dev nD, k0_dev4 c = (c + 3 : Fin 4).val := by decide +kernel
theorem dev5_eq : ∀ c : Dev nD, k0_dev5 c = (c + 1 : Fin 4).val := by decide +kernel
theorem dev6_eq : ∀ c : Dev nD, k0_dev6 c = (c + 3 : Fin 4).val := by decide +kernel
theorem dev7_eq : ∀ c : Dev nD, k0_dev7 c = (c + 1 : Fin 4).val := by decide +kernel
theorem dev8_eq : ∀ c : Dev nD, k0_dev8 c = (c + 3 : Fin 4).val := by decide +kernel
theorem dev9_eq : ∀ c : Dev nD, k0_dev9 c = (c + 3 : Fin 4).val := by decide +kernel
theorem dev10_eq : ∀ c : Dev nD, k0_dev10 c = (c + 1 : Fin 4).val := by decide +kernel

end Cert.KernelIdeal.Hand
-- ==== Proof.Slots.lean ====
module

public import proofs.«01_k».proof.Proof.Forms
public import proofs.«01_k».proof.Proof.Gen.KernelIdeal.Launch
public import Idealize.ShloMosaic.Lib.Rounds
public import Idealize.ShloMosaic.Lib.Release
public import Idealize.ShloMosaic.Lib.Tactic
public import Idealize.ShloMosaic.Lib.Pipeline.Value

/-! The slots of the two communication buffers: naming one, owning it, loading and storing it, and
what it holds once a slot has been copied into it. -/

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-- The resource algebra: the pipeline's, the rounds' and the slots'. -/
abbrev Key : Type := Dev nD × Fin 2 × Fin 4 × Fin 3
abbrev U : Type := UR sig nD τ × (URounds (GSem nD τ sig) ℕ × USlots Key)

local notation "𝕄" => MT nD τ sig ℕ (Elt F) ℕ U ℕ

abbrev EP : Emb (UR sig nD τ) (MT nD τ sig ℕ (Elt F) ℕ U ℕ) := embL
abbrev ER : Emb (URounds (GSem nD τ sig) ℕ) (MT nD τ sig ℕ (Elt F) ℕ U ℕ) :=
  (Emb.inl : Emb _ (URounds (GSem nD τ sig) ℕ × USlots Key)).trans embR
abbrev ES : Emb (USlots Key) (MT nD τ sig ℕ (Elt F) ℕ U ℕ) :=
  (Emb.inr : Emb _ (URounds (GSem nD τ sig) ℕ × USlots Key)).trans embR

/-- The ring buffer of each direction. -/
abbrev bufM (d : Fin 2) : Memref sig .tc .vmem S4x4x1024x256 .bf16 :=
  match d with | 0 => Memref.whole cc0_scratch0 | 1 => Memref.whole cc0_scratch1

/-- Where tile `t`'s slot of hop `h` starts (`h = 3`: the slot a device sends its first hop from). -/
abbrev slotOff (t h : ℕ) : Fin 4 → ℕ := ![t % 4, h % 4, 0, 0]

theorem slotOff_inb (t h : ℕ) : ∀ a, slotOff t h a + S1x1x1024x256.size a ≤ S4x4x1024x256.size a := by
  have h1 : t % 4 < 4 := Nat.mod_lt _ (by decide)
  have h2 : h % 4 < 4 := Nat.mod_lt _ (by decide)
  intro a
  match a with
  | 0 => show t % 4 + 1 ≤ 4; omega
  | 1 => show h % 4 + 1 ≤ 4; omega
  | 2 => show 0 + 1024 ≤ 1024; omega
  | 3 => show 0 + 256 ≤ 256; omega

abbrev slotR (t h : ℕ) : Rect S4x4x1024x256 := Rect.unit (s := S4x4x1024x256) (slotOff t h) S1x1x1024x256.size (slotOff_inb t h)

/-- The slot as the copies name it. -/
abbrev slotM (d : Fin 2) (t h : ℕ) : Memref sig .tc .vmem S1024x256 .bf16 :=
  ((bufM d).slice (slotR t h) (fun _ => rfl)).squeeze S1024x256 squeezes_S1x1x1024x256_S1024x256

/-- The elements of the slot in its buffer. -/
abbrev slotSet (d : Fin 2) (t h : ℕ) := (slotM d t h).view.set

/-- The slot's vector, as a load reads it. -/
abbrev slotVec (d : Fin 2) (t h : ℕ) (f : (bufM d).view.ty.Contents (Elt F)) : FVec F S1x1x1024x256 .bf16 :=
  (bufM d).view.readAt (Elt F) (slotR t h).toLoadRect f

/-- Owning the slot of device `c` at contents `f` of its buffer. -/
abbrev slotPts (c : Dev nD) (d : Fin 2) (t h : ℕ) (f : (bufM d).view.ty.Contents (Elt F)) : sProp 𝕄 :=
  (slotM d t h).view.loc (c : Thread nD τ) ↦[slotSet d t h]{fullShare} f

/-- Owning the slot, whatever it holds. -/
abbrev slotAny (c : Dev nD) (d : Fin 2) (t h : ℕ) : sProp 𝕄 :=
  Release.slot ((slotM d t h).view.loc (c : Thread nD τ)) (slotSet d t h)

/-- Owning the slot, holding the vector `v`. -/
def slotHas (c : Dev nD) (d : Fin 2) (t h : ℕ) (v : FVec F S1x1x1024x256 .bf16) : sProp 𝕄 :=
  iprop(∃ f, ⌜slotVec d t h f = v⌝ ∗ slotPts c d t h f)

instance slotHas_storable (c : Dev nD) (d : Fin 2) (t h : ℕ) (v : FVec F S1x1x1024x256 .bf16) :
    Storable (upEmb : UEmb _ 𝕄) (slotHas (F := F) c d t h v) := by unfold slotHas; infer_instance

theorem slotHas_any (c : Dev nD) (d : Fin 2) (t h : ℕ) (v : FVec F S1x1x1024x256 .bf16) :
    slotHas (F := F) c d t h v ⊢ slotAny c d t h := by
  unfold slotHas slotAny Release.slot
  iintro ⟨%f, -, H⟩
  iexists f; iexact H

theorem slotSet_eq (d : Fin 2) (t h : ℕ) : slotSet d t h = ((bufM d).access (slotR t h)).set :=
  View.set_reshape _ _

theorem slotSet_load (d : Fin 2) (t h : ℕ) :
    (bufM d).view.setOn (slotR t h).toLoadRect.set ⊆ slotSet d t h := by
  rw [slotSet_eq, View.set_slice]; exact subset_refl _

theorem slotSet_store (d : Fin 2) (t h : ℕ) : ((bufM d).access (slotR t h)).setOn Finset.univ ⊆ slotSet d t h := by
  rw [slotSet_eq]; exact subset_refl _

theorem slotSet_nonempty (d : Fin 2) (t h : ℕ) : (slotSet d t h).Nonempty := View.set_nonempty (by decide)

/-- Two owners of one slot are impossible. -/
theorem slotAny_false (c : Dev nD) (d : Fin 2) (t h : ℕ) :
    iprop(slotAny (F := F) c d t h ∗ slotAny c d t h) ⊢ (False : sProp 𝕄) :=
  Release.slot_slot_false (slotSet_nonempty d t h)

/-- A tile's slot is the slot of every tile four later. -/
theorem slotAny_congr (c : Dev nD) (d : Fin 2) {t t' : ℕ} (h : ℕ) (ht : t % 4 = t' % 4) :
    slotAny (F := F) c d t h = slotAny c d t' h := by
  have e : slotOff t h = slotOff t' h := by unfold slotOff; rw [ht]
  have : ∀ (o o' : Fin 4 → ℕ) (i : ∀ a, o a + S1x1x1024x256.size a ≤ S4x4x1024x256.size a)
      (i' : ∀ a, o' a + S1x1x1024x256.size a ≤ S4x4x1024x256.size a), o = o' →
      (Release.slot ((((bufM d).slice (Rect.unit (s := S4x4x1024x256) o S1x1x1024x256.size i) (fun _ => rfl)).squeeze S1024x256 squeezes_S1x1x1024x256_S1024x256).view.loc (c : Thread nD τ))
        (((bufM d).slice (Rect.unit (s := S4x4x1024x256) o S1x1x1024x256.size i) (fun _ => rfl)).squeeze S1024x256 squeezes_S1x1x1024x256_S1024x256).view.set : sProp 𝕄)
      = Release.slot ((((bufM d).slice (Rect.unit (s := S4x4x1024x256) o' S1x1x1024x256.size i') (fun _ => rfl)).squeeze S1024x256 squeezes_S1x1x1024x256_S1024x256).view.loc (c : Thread nD τ))
        (((bufM d).slice (Rect.unit (s := S4x4x1024x256) o' S1x1x1024x256.size i') (fun _ => rfl)).squeeze S1024x256 squeezes_S1x1x1024x256_S1024x256).view.set := by
    rintro o o' i i' rfl; rfl
  exact this _ _ _ _ e

/-- A slot copied into a slot: the destination's vector is the source's. -/
theorem slotVec_copy (d d' : Fin 2) (t h t' h' : ℕ) (fd : (bufM d).view.ty.Contents (Elt F)) (fs : (bufM d').view.ty.Contents (Elt F)) :
    slotVec d t h ((slotM d t h).view.write (Elt F) fd ((slotM d' t' h').view.read (Elt F) fs) Finset.univ) = slotVec d' t' h' fs := by
  have inj : ∀ u v : FVec F S1x1x1024x256 .bf16,
      shapeCast S1024x256 u shapeCasts_S1x1x1024x256_S1024x256 = shapeCast S1024x256 v shapeCasts_S1x1x1024x256_S1024x256 → u = v := by
    intro u v e
    funext x
    obtain ⟨y, rfl⟩ := (Shape.reshapeEquiv (shapeCasts_S1x1x1024x256_S1024x256 : S1x1x1024x256.ShapeCasts S1024x256)).surjective x
    exact congrFun e y
  apply inj
  exact View.read_write_univ _ _

/-- The slot's transfers all move the same number of units. -/
abbrev unitsN : ℕ := (slotM 0 0 0).view.dmaCredit
theorem slotM_credit (d : Fin 2) (t h : ℕ) : (slotM d t h).view.dmaCredit = unitsN := by
  fin_cases d <;> rfl
theorem unitsN_pos : 0 < unitsN := View.dmaCredit_pos _ (by decide)

end Cert.KernelIdeal.Hand
-- ==== Proof.Table.lean ====
module

public import proofs.«01_k».proof.Proof.Slots

/-! Who sends what to whom: the neighbours, the semaphore cells and their kinds, the rounds every cell
goes through and what each round hands over. -/

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ U ℕ

/-! ## The ring -/

/-- The device that direction `d` sends to. -/
def down (d : Fin 2) (c : Dev nD) : Dev nD := match d with | 0 => (c + 1 : Fin 4) | 1 => (c + 3 : Fin 4)
/-- The device that direction `d` receives from. -/
def up (d : Fin 2) (c : Dev nD) : Dev nD := match d with | 0 => (c + 3 : Fin 4) | 1 => (c + 1 : Fin 4)
/-- The other direction. -/
def opp (d : Fin 2) : Fin 2 := match d with | 0 => 1 | 1 => 0

theorem up_down : ∀ (d : Fin 2) (c : Dev nD), up d (down d c) = c := by decide
theorem down_up : ∀ (d : Fin 2) (c : Dev nD), down d (up d c) = c := by decide
theorem down_opp : ∀ (d : Fin 2) (c : Dev nD), down (opp d) c = up d c := by decide
theorem up_opp : ∀ (d : Fin 2) (c : Dev nD), up (opp d) c = down d c := by decide
theorem opp_opp : ∀ (d : Fin 2), opp (opp d) = d := by decide

/-! ## Semaphores -/

/-- The semaphores of the sends, and of the receives, of direction `d`. -/
abbrev sndArr (d : Fin 2) : DmaSems sig S2x3 := match d with | 0 => cc0_scratch2 | 1 => cc0_scratch4
abbrev rcvArr (d : Fin 2) : DmaSems sig S2x3 := match d with | 0 => cc0_scratch3 | 1 => cc0_scratch5

abbrev semOff (t h : ℕ) : Fin 2 → ℕ := ![t % 2, h % 3]

theorem semOff_inb (t h : ℕ) : ∀ a, semOff t h a + S1x1.size a ≤ S2x3.size a := by
  have h1 : t % 2 < 2 := Nat.mod_lt _ (by decide)
  have h2 : h % 3 < 3 := Nat.mod_lt _ (by decide)
  intro a
  match a with
  | 0 => show t % 2 + 1 ≤ 2; omega
  | 1 => show h % 3 + 1 ≤ 3; omega

abbrev semAt (A : DmaSems sig S2x3) (t h : ℕ) : DmaSem sig :=
  ((A.slice (Rect.unit (s := S2x3) (semOff t h) S1x1.size (semOff_inb t h))).squeeze S_ squeezes_S1x1_S_).sem

/-- The semaphore tile `t`'s hop `h` completes on at the sender, and at the receiver. -/
abbrev sndS (d : Fin 2) (t h : ℕ) : DmaSem sig := semAt (sndArr d) t h
abbrev rcvS (d : Fin 2) (t h : ℕ) : DmaSem sig := semAt (rcvArr d) t h

theorem semAt_congr (A : DmaSems sig S2x3) {t t' h h' : ℕ} (ht : t % 2 = t' % 2) (hh : h % 3 = h' % 3) :
    semAt A t h = semAt A t' h' := by
  have e : semOff t h = semOff t' h' := by unfold semOff; rw [ht, hh]
  have : ∀ (o o' : Fin 2 → ℕ) (i : ∀ a, o a + S1x1.size a ≤ S2x3.size a) (i' : ∀ a, o' a + S1x1.size a ≤ S2x3.size a), o = o' →
      ((A.slice (Rect.unit (s := S2x3) o S1x1.size i)).squeeze S_ squeezes_S1x1_S_).sem
        = ((A.slice (Rect.unit (s := S2x3) o' S1x1.size i')).squeeze S_ squeezes_S1x1_S_).sem := by
    rintro o o' i i' rfl; rfl
  exact this _ _ _ _ e

/-- The credit semaphores: direction `d`'s counts the steps finished by the device `d` sends to. -/
abbrev crS (d : Fin 2) : Sem sig := match d with | 0 => cc0_scratch6.sem | 1 => cc0_scratch7.sem

/-- What a semaphore is for. -/
inductive Kind : Type
  | snd (d : Fin 2) (p h : ℕ)
  | rcv (d : Fin 2) (p h : ℕ)
  | cr (d : Fin 2)
  | bar
  | off
  deriving DecidableEq

def kind : SemLoc sig → Kind
  | .reg s => if s.val = 0 then .cr 0 else if s.val = 1 then .cr 1 else .bar
  | .dma n => if n.val < 11 then .off
      else if (n.val - 11) % 12 < 6 then .snd (if n.val - 11 < 12 then 0 else 1) ((n.val - 11) % 6 / 3) ((n.val - 11) % 3)
      else .rcv (if n.val - 11 < 12 then 0 else 1) ((n.val - 11) % 6 / 3) ((n.val - 11) % 3)

theorem kind_snd_aux : ∀ (d : Fin 2) (p : Fin 2) (h : Fin 3), kind (.dma (sndS d p.val h.val)) = .snd d p.val h.val := by decide
theorem kind_rcv_aux : ∀ (d : Fin 2) (p : Fin 2) (h : Fin 3), kind (.dma (rcvS d p.val h.val)) = .rcv d p.val h.val := by decide

theorem kind_snd (d : Fin 2) (t h : ℕ) : kind (.dma (sndS d t h)) = .snd d (t % 2) (h % 3) := by
  have := kind_snd_aux d ⟨t % 2, Nat.mod_lt _ (by decide)⟩ ⟨h % 3, Nat.mod_lt _ (by decide)⟩
  rwa [show sndS d (⟨t % 2, Nat.mod_lt _ (by decide)⟩ : Fin 2).val (⟨h % 3, Nat.mod_lt _ (by decide)⟩ : Fin 3).val = sndS d t h
    from semAt_congr _ (Nat.mod_mod _ _) (Nat.mod_mod _ _)] at this
theorem kind_rcv (d : Fin 2) (t h : ℕ) : kind (.dma (rcvS d t h)) = .rcv d (t % 2) (h % 3) := by
  have := kind_rcv_aux d ⟨t % 2, Nat.mod_lt _ (by decide)⟩ ⟨h % 3, Nat.mod_lt _ (by decide)⟩
  rwa [show rcvS d (⟨t % 2, Nat.mod_lt _ (by decide)⟩ : Fin 2).val (⟨h % 3, Nat.mod_lt _ (by decide)⟩ : Fin 3).val = rcvS d t h
    from semAt_congr _ (Nat.mod_mod _ _) (Nat.mod_mod _ _)] at this
theorem kind_cr : ∀ d : Fin 2, kind (.reg (crS d)) = .cr d := by decide
theorem kind_bar : kind (.reg barrier0) = .bar := by decide

abbrev sndCell (c : Dev nD) (d : Fin 2) (t h : ℕ) : GSem nD τ sig := ((c : Thread nD τ), .dma (sndS d t h))
abbrev rcvCell (c : Dev nD) (d : Fin 2) (t h : ℕ) : GSem nD τ sig := ((c : Thread nD τ), .dma (rcvS d t h))
abbrev crCell (c : Dev nD) (d : Fin 2) : GSem nD τ sig := ((c : Thread nD τ), .reg (crS d))
abbrev barCell (c : Dev nD) : GSem nD τ sig := ((c : Thread nD τ), .reg barrier0)

theorem sndCell_congr (c : Dev nD) (d : Fin 2) {t t' : ℕ} (h : ℕ) (ht : t % 2 = t' % 2) : sndCell c d t h = sndCell c d t' h := by
  unfold sndCell sndS; rw [semAt_congr _ ht rfl]
theorem rcvCell_congr (c : Dev nD) (d : Fin 2) {t t' : ℕ} (h : ℕ) (ht : t % 2 = t' % 2) : rcvCell c d t h = rcvCell c d t' h := by
  unfold rcvCell rcvS; rw [semAt_congr _ ht rfl]

/-! ## What is known of the receiver -/

abbrev keyOf (c : Dev nD) (d : Fin 2) (t h : ℕ) : Key := (c, d, ⟨t % 4, Nat.mod_lt _ (by decide)⟩, ⟨h % 3, Nat.mod_lt _ (by decide)⟩)

theorem keyOf_congr (c : Dev nD) (d : Fin 2) {t t' : ℕ} (h : ℕ) (ht : t % 4 = t' % 4) : keyOf c d t h = keyOf c d t' h := by
  unfold keyOf; simp only [ht]

/-- Device `c` is ready for tile `t` of hop `h` of direction `d`: the receive semaphore is at the tile's round, and
the slot has been given back for it. -/
def Ready (c : Dev nD) (d : Fin 2) (h t : ℕ) : sProp 𝕄 :=
  iprop(reached ER (rcvCell c d t h) (t / 2) ∗ released ES (keyOf c d t h) (t / 4 + 1))

instance Ready_persistent (c : Dev nD) (d : Fin 2) (h t : ℕ) : BI.Persistent (Ready (F := F) c d h t) := by unfold Ready; infer_instance
instance Ready_storable (c : Dev nD) (d : Fin 2) (h t : ℕ) : Storable (upEmb : UEmb _ 𝕄) (Ready (F := F) c d h t) := by
  unfold Ready; infer_instance

/-- The hops with a tile at step `n`. -/
abbrev hops (n : ℕ) : Finset ℕ := (Finset.range 3).filter fun h => h ≤ n ∧ n - h < 16

/-- Device `c` is ready for everything it is sent at step `n` in direction `d`. -/
def ReadyAt (c : Dev nD) (d : Fin 2) (n : ℕ) : sProp 𝕄 := bigSep (hops n) fun h => Ready c d h (n - h)

instance ReadyAt_persistent (c : Dev nD) (d : Fin 2) (n : ℕ) : BI.Persistent (ReadyAt (F := F) c d n) := by unfold ReadyAt; infer_instance
instance ReadyAt_storable (c : Dev nD) (d : Fin 2) (n : ℕ) : Storable (upEmb : UEmb _ 𝕄) (ReadyAt (F := F) c d n) := by
  unfold ReadyAt; infer_instance

/-- Device `c` is ready for everything it is sent up to step `n`. -/
def ReadyTo (c : Dev nD) (d : Fin 2) (n : ℕ) : sProp 𝕄 := bigSep (Finset.range (n + 1)) fun j => ReadyAt c d j

instance ReadyTo_persistent (c : Dev nD) (d : Fin 2) (n : ℕ) : BI.Persistent (ReadyTo (F := F) c d n) := by unfold ReadyTo; infer_instance
instance ReadyTo_storable (c : Dev nD) (d : Fin 2) (n : ℕ) : Storable (upEmb : UEmb _ 𝕄) (ReadyTo (F := F) c d n) := by
  unfold ReadyTo; infer_instance

theorem ReadyTo_at (c : Dev nD) (d : Fin 2) {n j : ℕ} (h : j ≤ n) : ReadyTo (F := F) c d n ⊢ ReadyAt c d j :=
  bigSep_elim (Finset.mem_range.mpr (Nat.lt_succ_of_le h))

theorem ReadyAt_hop (c : Dev nD) (d : Fin 2) {n h : ℕ} (h1 : h < 3) (h2 : h ≤ n) (h3 : n - h < 16) :
    ReadyAt (F := F) c d n ⊢ Ready c d h (n - h) :=
  bigSep_elim (Finset.mem_filter.mpr ⟨Finset.mem_range.mpr h1, h2, h3⟩)

/-- What the barrier's unit from the device direction `d` sends to carries: it is ready for the first tile, and its
other credit semaphore is open. -/
def BarPay (e : Dev nD) (d : Fin 2) : sProp 𝕄 := iprop(ReadyTo e d 0 ∗ reached ER (crCell e (opp d)) 0)

instance BarPay_persistent (c : Dev nD) (d : Fin 2) : BI.Persistent (BarPay (F := F) c d) := by unfold BarPay; infer_instance
instance BarPay_storable (c : Dev nD) (d : Fin 2) : Storable (upEmb : UEmb _ 𝕄) (BarPay (F := F) c d) := by unfold BarPay; infer_instance

/-! ## The rounds -/

/-- The vector device `c` sends in direction `d` at hop `h` for tile `t`. -/
abbrev Cont (F : FTy → Type) : Type := Fin 2 → ℕ → Dev nD → ℕ → FVec F S1x1x1024x256 .bf16

/-- The hop's source slot: the fourth for the first hop, the slot received into after. -/
abbrev srcH (h : ℕ) : ℕ := if h = 0 then 3 else h - 1

def dutiesK : Kind → ℕ → Finset ℕ
  | .snd _ _ _, r => if r < 8 then {0} else ∅
  | .rcv _ _ _, r => if r < 8 then {0} else ∅
  | .cr _, r => if r = 0 then Finset.range 19 else ∅
  | .bar, r => if r = 0 then Finset.range 2 else ∅
  | .off, _ => ∅

def amountK : Kind → ℕ
  | .snd _ _ _ => unitsN
  | .rcv _ _ _ => unitsN
  | _ => 1

def payK (A : Cont F) (c : Dev nD) : Kind → ℕ → ℕ → sProp 𝕄
  | .snd d p h, r, _ => slotAny c d (2 * r + p) (srcH h)
  | .rcv d p h, r, _ => slotHas c d (2 * r + p) h (A d h (up d c) (2 * r + p))
  | .cr d, _, j => ReadyTo (down d c) d (j + 1)
  | .bar, _, j => BarPay (down (if j = 0 then 0 else 1) c) (if j = 0 then 0 else 1)
  | .off, _, _ => iprop(⌜True⌝)

instance payK_storable (A : Cont F) (c : Dev nD) (k : Kind) (r j : ℕ) : Storable (upEmb : UEmb _ 𝕄) (payK A c k r j) := by
  cases k <;> (unfold payK; infer_instance)

theorem amountK_pos (k : Kind) : 0 < amountK k := by
  cases k <;> first | exact unitsN_pos | exact Nat.one_pos

/-- The rounds of every cell. -/
def Rd (A : Cont F) : Schedule (GSem nD τ sig) ℕ 𝕄 where
  duties g r := if g.1 = Dev.tc g.1.1 then dutiesK (kind g.2) r else ∅
  amount g _ _ := amountK (kind g.2)
  payload g r j := payK A g.1.1 (kind g.2) r j
  amount_pos g _ _ _ := amountK_pos (kind g.2)

instance Rd_storable (A : Cont F) (g : GSem nD τ sig) (r j : ℕ) : Storable (upEmb : UEmb _ 𝕄) ((Rd A).payload g r j) := by
  unfold Rd; infer_instance

variable (A : Cont F)

theorem duties_tc (c : Dev nD) (s : SemLoc sig) (r : ℕ) : (Rd A).duties ((c : Thread nD τ), s) r = dutiesK (kind s) r := if_pos rfl
theorem duties_snd (c : Dev nD) (d : Fin 2) (t h : ℕ) {r : ℕ} (hr : r < 8) : (Rd A).duties (sndCell c d t h) r = {0} := by
  rw [duties_tc, kind_snd]; exact if_pos hr
theorem duties_rcv (c : Dev nD) (d : Fin 2) (t h : ℕ) {r : ℕ} (hr : r < 8) : (Rd A).duties (rcvCell c d t h) r = {0} := by
  rw [duties_tc, kind_rcv]; exact if_pos hr
theorem duties_cr (c : Dev nD) (d : Fin 2) : (Rd A).duties (crCell c d) 0 = Finset.range 19 := by rw [duties_tc, kind_cr]; rfl
theorem duties_bar (c : Dev nD) : (Rd A).duties (barCell c) 0 = Finset.range 2 := by rw [duties_tc, kind_bar]; rfl
theorem amount_snd (c : Dev nD) (d : Fin 2) (t h r j : ℕ) : (Rd A).amount (sndCell c d t h) r j = unitsN := by
  show amountK (kind (.dma (sndS d t h))) = _; rw [kind_snd]; rfl
theorem amount_rcv (c : Dev nD) (d : Fin 2) (t h r j : ℕ) : (Rd A).amount (rcvCell c d t h) r j = unitsN := by
  show amountK (kind (.dma (rcvS d t h))) = _; rw [kind_rcv]; rfl
theorem amount_cr (c : Dev nD) (d : Fin 2) (r j : ℕ) : (Rd A).amount (crCell c d) r j = 1 := by
  show amountK (kind (.reg (crS d))) = _; rw [kind_cr]; rfl
theorem amount_bar (c : Dev nD) (r j : ℕ) : (Rd A).amount (barCell c) r j = 1 := by
  show amountK (kind (.reg barrier0)) = _; rw [kind_bar]; rfl
theorem expect_snd (c : Dev nD) (d : Fin 2) (t h : ℕ) {r : ℕ} (hr : r < 8) : (Rd A).expect (sndCell c d t h) r = unitsN := by
  unfold Schedule.expect Schedule.amountOf; rw [duties_snd A c d t h hr, Finset.sum_singleton, amount_snd]
theorem expect_rcv (c : Dev nD) (d : Fin 2) (t h : ℕ) {r : ℕ} (hr : r < 8) : (Rd A).expect (rcvCell c d t h) r = unitsN := by
  unfold Schedule.expect Schedule.amountOf; rw [duties_rcv A c d t h hr, Finset.sum_singleton, amount_rcv]
theorem expect_cr (c : Dev nD) (d : Fin 2) : (Rd A).expect (crCell c d) 0 = 19 := by
  unfold Schedule.expect Schedule.amountOf; rw [duties_cr]; simp only [amount_cr]; decide
theorem expect_bar (c : Dev nD) : (Rd A).expect (barCell c) 0 = 2 := by
  unfold Schedule.expect Schedule.amountOf; rw [duties_bar]; simp only [amount_bar]; decide

/-- A send's round gives its tile's source slot back. -/
theorem pay_snd (c : Dev nD) (d : Fin 2) (t h j : ℕ) (hh : h < 3) :
    (Rd A).payload (sndCell c d t h) (t / 2) j = slotAny c d t (srcH h) := by
  show payK A c (kind (.dma (sndS d t h))) (t / 2) j = _
  rw [kind_snd, Nat.mod_eq_of_lt hh]
  show slotAny c d (2 * (t / 2) + t % 2) (srcH h) = _
  rw [Nat.div_add_mod]
/-- A receive's round gives its tile's slot, holding what the sender sent. -/
theorem pay_rcv (c : Dev nD) (d : Fin 2) (t h j : ℕ) (hh : h < 3) :
    (Rd A).payload (rcvCell c d t h) (t / 2) j = slotHas c d t h (A d h (up d c) t) := by
  show payK A c (kind (.dma (rcvS d t h))) (t / 2) j = _
  rw [kind_rcv, Nat.mod_eq_of_lt hh]
  show slotHas c d (2 * (t / 2) + t % 2) h (A d h (up d c) (2 * (t / 2) + t % 2)) = _
  rw [Nat.div_add_mod]
theorem pay_cr (c : Dev nD) (d : Fin 2) (r j : ℕ) : (Rd A).payload (crCell c d) r j = ReadyTo (down d c) d (j + 1) := by
  show payK A c (kind (.reg (crS d))) r j = _; rw [kind_cr]; rfl
theorem pay_bar (c : Dev nD) (r j : ℕ) : (Rd A).payload (barCell c) r j
    = BarPay (down (if j = 0 then 0 else 1) c) (if j = 0 then 0 else 1) := by
  show payK A c (kind (.reg barrier0)) r j = _; rw [kind_bar]; rfl

/-- After its last round a send, or receive, cell has no duty left; a credit or barrier cell after its only one. -/
theorem duties_snd_end (c : Dev nD) (d : Fin 2) (t h : ℕ) (r : ℕ) (hr : 8 ≤ r) : (Rd A).duties (sndCell c d t h) r = ∅ := by
  rw [duties_tc, kind_snd]; exact if_neg (Nat.not_lt.mpr hr)
theorem duties_rcv_end (c : Dev nD) (d : Fin 2) (t h : ℕ) (r : ℕ) (hr : 8 ≤ r) : (Rd A).duties (rcvCell c d t h) r = ∅ := by
  rw [duties_tc, kind_rcv]; exact if_neg (Nat.not_lt.mpr hr)
theorem duties_cr_end (c : Dev nD) (d : Fin 2) (r : ℕ) (hr : 1 ≤ r) : (Rd A).duties (crCell c d) r = ∅ := by
  rw [duties_tc, kind_cr]; exact if_neg (by omega)
theorem duties_bar_end (c : Dev nD) (r : ℕ) (hr : 1 ≤ r) : (Rd A).duties (barCell c) r = ∅ := by
  rw [duties_tc, kind_bar]; exact if_neg (by omega)

/-! ## Levels -/

/-- The indices a cell is credited at: the steps. -/
def L (g : GSem nD τ sig) : Finset ℕ := if g.1.2 = .tc then Finset.range 20 else ∅

def lvK : Kind → ℕ → ℕ
  | .rcv _ _ _, n => n + 2
  | .cr _, n => n + 2
  | .bar, _ => 1
  | _, _ => 0

/-- What is raised at step `n` is above all that is waited for at step `n`. -/
def lv (g : GSem nD τ sig) (n : ℕ) : ℕ := lvK (kind g.2) n

theorem L_tc (c : Dev nD) (s : SemLoc sig) : L ((c : Thread nD τ), s) = Finset.range 20 := if_pos rfl

/-- Everything `O` owes is owed at level above `b`, on a step's index, at a TensorCore's cell. -/
def Above (b : ℕ) (O : CellTallies nD τ sig ℕ) : Prop :=
  ∀ (g : GSem nD τ sig) (n : ℕ), 0 < O g n → b < lv g n ∧ n ∈ L g

theorem Above.zero (b : ℕ) : Above b 0 := fun _ _ h => absurd h (Nat.lt_irrefl 0)
theorem Above.add {b : ℕ} {O O' : CellTallies nD τ sig ℕ} (h : Above b O) (h' : Above b O') : Above b (O + O') := by
  intro g n hp
  rcases Nat.eq_zero_or_pos (O g n) with h0 | h0
  · exact h' g n (by have : (O + O') g n = O g n + O' g n := rfl; omega)
  · exact h g n h0
theorem Above.mono {b b' : ℕ} {O : CellTallies nD τ sig ℕ} (h : Above b O) (hb : b' ≤ b) : Above b' O :=
  fun g n hp => ⟨lt_of_le_of_lt hb (h g n hp).1, (h g n hp).2⟩
theorem Above.at {b : ℕ} (c : Dev nD) (s : SemLoc sig) (n k : ℕ) (h : b < lv ((c : Thread nD τ), s) n) (hn : n < 20) :
    Above b (tallyAt ((c : Thread nD τ), s) n k) := by
  intro g u hp
  rw [tallyAt_apply] at hp
  by_cases e : g = ((c : Thread nD τ), s) ∧ u = n
  · rw [e.1, e.2, L_tc]; exact ⟨h, Finset.mem_range.mpr hn⟩
  · rw [if_neg e] at hp; exact absurd hp (Nat.lt_irrefl 0)

theorem mayWait_of_above (c : Dev nD) (s : SemLoc sig) {n b : ℕ} {O : CellTallies nD τ sig ℕ} (hO : Above b O)
    (hn : n < 20) (h : lv ((c : Thread nD τ), s) n ≤ b) :
    (levAts L lv : sProp 𝕄) ⊢ MayWait (c : Thread nD τ) s n O :=
  MayOwe.of_cut (L := L) (lev := lv) b
    (fun p hp => by rw [Finset.mem_singleton.mp hp, L_tc]; exact Finset.mem_range.mpr hn)
    (fun g u hg => (hO g u hg).2)
    (fun p hp => by rw [Finset.mem_singleton.mp hp]; exact h)
    (fun g u hg => (hO g u hg).1)

theorem lv_snd (c : Dev nD) (d : Fin 2) (t h n : ℕ) : lv (sndCell c d t h) n = 0 := by
  show lvK (kind (.dma (sndS d t h))) n = _; rw [kind_snd]; rfl
theorem lv_rcv (c : Dev nD) (d : Fin 2) (t h n : ℕ) : lv (rcvCell c d t h) n = n + 2 := by
  show lvK (kind (.dma (rcvS d t h))) n = _; rw [kind_rcv]; rfl
theorem lv_cr (c : Dev nD) (d : Fin 2) (n : ℕ) : lv (crCell c d) n = n + 2 := by
  show lvK (kind (.reg (crS d))) n = _; rw [kind_cr]; rfl
theorem lv_bar (c : Dev nD) (n : ℕ) : lv (barCell c) n = 1 := by
  show lvK (kind (.reg barrier0)) n = _; rw [kind_bar]; rfl

end Cert.KernelIdeal.Hand
-- ==== Proof.Lanes.lean ====
module

public import proofs.«01_k».proof.Proof.Table

/-! One lane of the ring — a direction and a hop —: what its device holds after `a` sends, `w` awaited
sends and `b` receives, and the three operations that move it on. -/

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ U ℕ

abbrev 𝒱₀ : Variants := Variants.none

/-- One element of a separating conjunction may be taken out and put back changed, if the rest is unchanged. -/
theorem bigSep_upd {I : Type} [DecidableEq I] {s : Finset I} {i : I} (hi : i ∈ s) {f g : I → sProp 𝕄}
    (h : ∀ j ∈ s, j ≠ i → f j = g j) : bigSep s f ⊢ iprop(f i ∗ (g i -∗ bigSep s g)) := by
  have e : bigSep (s.erase i) f = bigSep (s.erase i) g :=
    bigSep_congr fun j hj => h j (Finset.mem_of_mem_erase hj) (Finset.ne_of_mem_erase hj)
  have e1 : ∀ u : I → sProp 𝕄, bigSep s u = iprop(u i ∗ bigSep (s.erase i) u) := fun u => by
    conv_lhs => rw [← Finset.insert_erase hi]
    exact bigSep_insert (Finset.notMem_erase i s)
  rw [e1 f, e1 g, e]
  iintro ⟨H1, H2⟩
  isplitl [H1]; · iexact H1
  iintro H3
  isplitl [H3]; · iexact H3
  iexact H2

/-- With a lasting fact `P` every element of a separating conjunction is updated. -/
theorem bigSep_each {I : Type} [DecidableEq I] {P : sProp 𝕄} [BI.Persistent P] {s : Finset I} {f g : I → sProp 𝕄}
    (h : ∀ i ∈ s, iprop(P ∗ f i) ⊢ (|={Set.univ}=> g i : sProp 𝕄)) :
    iprop(P ∗ bigSep s f) ⊢ (|={Set.univ}=> bigSep s g : sProp 𝕄) := by
  induction s using Finset.induction_on with
  | empty =>
    rw [bigSep_empty, bigSep_empty]
    iintro -
    imodintro; iempintro
  | insert i s hi ih =>
    have e1 : ∀ u : I → sProp 𝕄, bigSep (insert i s) u = iprop(u i ∗ bigSep s u) := fun u => bigSep_insert hi
    rw [e1, e1]
    iintro ⟨#HP, H1, H2⟩
    imod (h i (Finset.mem_insert_self i s)) $$ [H1] with H1
    · isplitr; · iexact HP
      iexact H1
    imod (ih fun j hj => h j (Finset.mem_insert_of_mem hj)) $$ [H2] with H2
    · isplitr; · iexact HP
      iexact H2
    imodintro
    isplitl [H1]; · iexact H1
    iexact H2

/-- The tiles below `x` of parity `p`. -/
abbrev cnt (x p : ℕ) : ℕ := (x + 1 - p) / 2

/-- The positions of a pair of cells that took turns at `x` tiles. -/
def Pos (cell : ℕ → GSem nD τ sig) (x : ℕ) : sProp 𝕄 :=
  bigSep (Finset.range 2) fun p => iprop(atPos ER (cell p) (cnt x p) ∅ 0 ∗ reached ER (cell p) (cnt x p))

/-- What device `c` still owes: some record of waits with it. -/
def Owes (c : Dev nD) (O : CellTallies nD τ sig ℕ) : sProp 𝕄 := iprop(∃ W, owes (c : Thread nD τ) O W)

/-- What one send needs: its two duties, and the right to write the receiver's slot. -/
def sndTok (c : Dev nD) (d : Fin 2) (h t : ℕ) : sProp 𝕄 :=
  iprop(dutyTok ER (sndCell c d t h) (t / 2) 0 ∗ dutyTok ER (rcvCell (down d c) d t h) (t / 2) 0
    ∗ writeTok ES (keyOf (down d c) d t h) (t / 4 + 1))

/-- The sending side of a lane: `a` tiles sent, `w` of them awaited. -/
def Snd (c : Dev nD) (d : Fin 2) (h a w : ℕ) : sProp 𝕄 :=
  iprop((bigSep (Finset.range 16) fun t => if a ≤ t then sndTok c d h t else if w ≤ t then cred (tallyAt (sndCell c d t h) 0 unitsN) else iprop(emp))
    ∗ Pos (fun p => sndCell c d p h) w)

/-- The receiving side of a lane: `b` tiles received. -/
def Rcv (c : Dev nD) (d : Fin 2) (h b : ℕ) : sProp 𝕄 :=
  iprop((bigSep (Finset.range 16) fun t => if b ≤ t then cred (tallyAt (rcvCell c d t h) (t + h) unitsN) else iprop(emp))
    ∗ Pos (fun p => rcvCell c d p h) b)

/-- How often slot row `q` has been given back once `x` tiles are done with: the last four tiles' slots are kept. -/
abbrev gave (x q : ℕ) : ℕ := 1 + (min x 12 + 3 - q) / 4

/-- The receive slots of a lane, `x` of its tiles done with. -/
def Slt (c : Dev nD) (d : Fin 2) (h x : ℕ) : sProp 𝕄 :=
  iprop((bigSep (Finset.range 4) fun q => iprop(readerAt ES (keyOf c d q h) (gave x q) ∗ released ES (keyOf c d q h) (gave x q)))
    ∗ bigSep (Finset.range 16) fun t => if 12 ≤ t ∧ t < x then slotAny c d t h else iprop(emp))

/-- The slots the first hop is sent from: those not under a send. -/
def Src (c : Dev nD) (d : Fin 2) (a w : ℕ) : sProp 𝕄 :=
  bigSep (Finset.range 4) fun q => if (q + 4 - w % 4) % 4 < a - w then iprop(emp) else slotAny c d q 3

/-- The cells of the protocol: every TensorCore's semaphores, those of the pipeline's own staging apart. -/
abbrev Cells : Finset (GSem nD τ sig) := Finset.univ.filter fun g => g.1 = Dev.tc g.1.1 ∧ kind g.2 ≠ .off

abbrev keySlot (k : Key) : sProp 𝕄 := slotAny k.1 k.2.1 k.2.2.1.val k.2.2.2.val

/-- The invariants of all cells and of all receive slots. -/
def Inv (A : Cont F) (κ : GSem nD τ sig → ℕ) (κs : Key → ℕ) : sProp 𝕄 :=
  iprop((bigSep Cells fun g => cellInv ER (Rd A) (κ g) g) ∗ bigSep Finset.univ fun k : Key => slotInv ES (κs k) k (keySlot k))

instance Inv_persistent (A : Cont F) (κ : GSem nD τ sig → ℕ) (κs : Key → ℕ) : BI.Persistent (Inv A κ κs) := by
  unfold Inv; infer_instance

variable (A : Cont F) (κ : GSem nD τ sig → ℕ) (κs : Key → ℕ)

theorem Inv_cell (c : Dev nD) (s : SemLoc sig) (h : kind s ≠ .off) :
    Inv A κ κs ⊢ cellInv ER (Rd A) (κ ((c : Thread nD τ), s)) ((c : Thread nD τ), s) :=
  sep_elim_left.trans (bigSep_elim (Finset.mem_filter.mpr ⟨Finset.mem_univ _, rfl, h⟩))
theorem Inv_snd (c : Dev nD) (d : Fin 2) (t h : ℕ) : Inv A κ κs ⊢ cellInv ER (Rd A) (κ (sndCell c d t h)) (sndCell c d t h) :=
  Inv_cell A κ κs c _ (by rw [kind_snd]; exact nofun)
theorem Inv_rcv (c : Dev nD) (d : Fin 2) (t h : ℕ) : Inv A κ κs ⊢ cellInv ER (Rd A) (κ (rcvCell c d t h)) (rcvCell c d t h) :=
  Inv_cell A κ κs c _ (by rw [kind_rcv]; exact nofun)
theorem Inv_cr (c : Dev nD) (d : Fin 2) : Inv A κ κs ⊢ cellInv ER (Rd A) (κ (crCell c d)) (crCell c d) :=
  Inv_cell A κ κs c _ (by rw [kind_cr]; exact nofun)
theorem Inv_bar (c : Dev nD) : Inv A κ κs ⊢ cellInv ER (Rd A) (κ (barCell c)) (barCell c) :=
  Inv_cell A κ κs c _ (by rw [kind_bar]; exact nofun)
theorem Inv_slot (c : Dev nD) (d : Fin 2) (t h : ℕ) (hh : h < 3) :
    Inv A κ κs ⊢ slotInv ES (κs (keyOf c d t h)) (keyOf c d t h) (slotAny (F := F) c d t h) := by
  have e : keySlot (F := F) (keyOf c d t h) = slotAny c d t h := by
    show slotAny (F := F) c d (t % 4) (h % 3) = _
    rw [Nat.mod_eq_of_lt hh, slotAny_congr c d h (Nat.mod_mod t 4)]
  rw [← e]
  exact sep_elim_right.trans (bigSep_elim (Finset.mem_univ (keyOf c d t h)))

/-! ## The pair of cells of a lane -/

theorem Pos_step {cell : ℕ → GSem nD τ sig} (hcell : ∀ t, cell (t % 2) = cell t) (n : ℕ) :
    Pos (F := F) cell n ⊢ iprop(atPos ER (cell n) (n / 2) ∅ 0
      ∗ (iprop(atPos ER (cell n) (n / 2 + 1) ∅ 0 ∗ reached ER (cell n) (n / 2 + 1)) -∗ Pos cell (n + 1))) := by
  have hp : n % 2 < 2 := Nat.mod_lt _ (by decide)
  have hr : cnt n (n % 2) = n / 2 := by unfold cnt; omega
  have hr' : cnt (n + 1) (n % 2) = n / 2 + 1 := by unfold cnt; omega
  have H2 := bigSep_upd (F := F) (i := n % 2) (f := fun p => iprop(atPos ER (cell p) (cnt n p) ∅ 0 ∗ reached ER (cell p) (cnt n p)))
    (g := fun p => iprop(atPos ER (cell p) (cnt (n + 1) p) ∅ 0 ∗ reached ER (cell p) (cnt (n + 1) p)))
    (s := Finset.range 2) (Finset.mem_range.mpr hp) (fun j hj hj' => by
      have : j < 2 := Finset.mem_range.mp hj
      have e : cnt n j = cnt (n + 1) j := by unfold cnt; omega
      simp only [e])
  simp only [hcell, hr, hr'] at H2
  unfold Pos
  iintro Hp
  ihave Hp' := H2 $$ Hp
  icases Hp' with ⟨⟨Hat, -⟩, Hp⟩
  isplitl [Hat]; · iexact Hat
  iexact Hp

theorem Pos_reached {cell : ℕ → GSem nD τ sig} (hcell : ∀ t, cell (t % 2) = cell t) {n t : ℕ} (h : t ≤ n + 1) :
    Pos (F := F) cell n ⊢ reached ER (cell t) (t / 2) := by
  have hp : t % 2 < 2 := Nat.mod_lt _ (by decide)
  have H : Pos (F := F) cell n ⊢ iprop(atPos ER (cell (t % 2)) (cnt n (t % 2)) ∅ 0 ∗ reached ER (cell (t % 2)) (cnt n (t % 2))) :=
    bigSep_elim (Finset.mem_range.mpr hp)
  rw [hcell] at H
  exact H.trans (sep_elim_right.trans (reached_mono ER (by unfold cnt; omega)))

theorem snd_turn (c : Dev nD) (d : Fin 2) (h : ℕ) : ∀ t, (fun p => sndCell c d p h) (t % 2) = (fun p => sndCell c d p h) t :=
  fun t => sndCell_congr c d h (Nat.mod_mod _ _)
theorem rcv_turn (c : Dev nD) (d : Fin 2) (h : ℕ) : ∀ t, (fun p => rcvCell c d p h) (t % 2) = (fun p => rcvCell c d p h) t :=
  fun t => rcvCell_congr c d h (Nat.mod_mod _ _)

/-! ## Awaiting a send -/

theorem Snd_wait (c : Dev nD) (d : Fin 2) {h a n : ℕ} (hw : n < a) (ha : a ≤ 16) :
    Snd (F := F) c d h a n ⊢ iprop(cred (tallyAt (sndCell c d n h) 0 unitsN) ∗ atPos ER (sndCell c d n h) (n / 2) ∅ 0
      ∗ (iprop(atPos ER (sndCell c d n h) (n / 2 + 1) ∅ 0 ∗ reached ER (sndCell c d n h) (n / 2 + 1)) -∗ Snd c d h a (n + 1))) := by
  have H1 := bigSep_upd (i := n) (f := fun t => if a ≤ t then sndTok (F := F) c d h t else if n ≤ t then cred (tallyAt (sndCell c d t h) 0 unitsN) else iprop(emp))
    (g := fun t => if a ≤ t then sndTok c d h t else if n + 1 ≤ t then cred (tallyAt (sndCell c d t h) 0 unitsN) else iprop(emp))
    (s := Finset.range 16) (Finset.mem_range.mpr (by omega)) (fun j _ hj => by
      by_cases e : a ≤ j
      · simp only [if_pos e]
      · simp only [if_neg e]
        by_cases e' : n ≤ j
        · rw [if_pos e', if_pos (by omega)]
        · rw [if_neg e', if_neg (by omega)])
  simp only [if_neg (by omega : ¬ a ≤ n), if_pos (le_refl n), if_neg (by omega : ¬ n + 1 ≤ n)] at H1
  have H2 := Pos_step (F := F) (cell := fun p => sndCell c d p h) (snd_turn c d h) n
  unfold Snd
  iintro ⟨Ht, Hp⟩
  ihave Ht' := H1 $$ Ht
  icases Ht' with ⟨Hc, Ht⟩
  ihave Hp' := H2 $$ Hp
  icases Hp' with ⟨Hat, Hp⟩
  isplitl [Hc]; · iexact Hc
  isplitl [Hat]; · iexact Hat
  iintro Hx
  isplitl [Ht]
  · iapply Ht; iempintro
  iapply Hp; iexact Hx

/-- The next send of a lane is awaited: its source slot comes back. -/
theorem wp_sndwait (c : Dev nD) (d : Fin 2) {h a w : ℕ} (hh : h < 3) (hw : w < a) (ha : a ≤ 16)
    {o : Fin 2 → ℕ} {inb : ∀ x, o x + S1x1.size x ≤ S2x3.size x} (ho : o = semOff w h)
    {src dst : Memref sig .tc .vmem S1024x256 .bf16} {h1 : src.view.WordExact} {h2 : dst.view.WordExact}
    (hd : dst.view.dmaCredit = unitsN) {O : CellTallies nD τ sig ℕ} (hO : Above 0 O)
    {α : Type} {k : PUnit → Prog (TpuEff nD τ sig (Elt F) Λ₀ .tc) α} {Q : α → sProp 𝕄} :
    iprop(Inv A κ κs ∗ levAts L lv ∗ Snd c d h a w ∗ Owes c O)
      ⊢ iprop((iprop(Snd c d h a (w + 1) ∗ Owes c O ∗ slotAny c d w (srcH h)) -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 (((sndArr d).slice (Rect.unit (s := S2x3) o S1x1.size inb)).squeeze S_ squeezes_S1x1_S_).sem src dst h1 h2) k) Q) := by
  subst ho
  have hpay : (bigSep ((Rd A).duties (sndCell c d w h) (w / 2) \ ∅) fun j => (Rd A).payload (sndCell c d w h) (w / 2) j) = slotAny c d w (srcH h) := by
    rw [duties_snd A c d w h (by omega), Finset.sdiff_empty, bigSep_singleton, pay_snd A c d w h 0 hh]
  unfold Owes
  iintro ⟨#HI, #Hlev, HS, ⟨%W, HO⟩⟩ Hk
  ihave HS' := (Snd_wait c d hw ha) $$ HS
  icases HS' with ⟨Hc, Hat, HS⟩
  iapply (Rounds.wp_wait_rest_token 𝒱₀ ER (Rd A) (c : Thread nD τ) none (κ := κ (sndCell c d w h))
      (wpE_waitDma2_eq 𝒱₀ (c : Thread nD τ) none Set.univ) (Set.mem_univ _) 0 (O := O) (W := W) (R := w / 2) (m := 0) (T := ∅)
      (by rw [hd, Nat.zero_add]; exact (expect_snd A c d w h (by omega)).symm)) $$ [Hc HO Hat]
  · isplitr; · iapply (Inv_snd A κ κs c d w h); iexact HI
    isplitl [Hc]; · rw [hd]; iexact Hc
    isplitl [HO]; · iexact HO
    isplitr; · iapply (mayWait_of_above c _ hO (by decide) (le_of_eq (lv_snd c d w h 0))); iexact Hlev
    iexact Hat
  iintro ⟨HO, Hat, #Hr, Hpay⟩
  ihave Hpay := (Entails.of_eq hpay) $$ Hpay
  iapply Hk
  isplitl [HS Hat]
  · iapply HS
    isplitl [Hat]; · iexact Hat
    iexact Hr
  isplitl [HO]
  · iexists _; iexact HO
  iexact Hpay

/-! ## Awaiting a receive -/

theorem Rcv_wait (c : Dev nD) (d : Fin 2) {h n : ℕ} (hn : n < 16) :
    Rcv (F := F) c d h n ⊢ iprop(cred (tallyAt (rcvCell c d n h) (n + h) unitsN) ∗ atPos ER (rcvCell c d n h) (n / 2) ∅ 0
      ∗ (iprop(atPos ER (rcvCell c d n h) (n / 2 + 1) ∅ 0 ∗ reached ER (rcvCell c d n h) (n / 2 + 1)) -∗ Rcv c d h (n + 1))) := by
  have H1 := bigSep_upd (F := F) (i := n) (f := fun t => if n ≤ t then cred (tallyAt (rcvCell c d t h) (t + h) unitsN) else iprop(emp))
    (g := fun t => if n + 1 ≤ t then cred (tallyAt (rcvCell c d t h) (t + h) unitsN) else iprop(emp))
    (s := Finset.range 16) (Finset.mem_range.mpr (by omega)) (fun j _ hj => by
      by_cases e' : n ≤ j
      · rw [if_pos e', if_pos (by omega)]
      · rw [if_neg e', if_neg (by omega)])
  simp only [if_pos (le_refl n), if_neg (by omega : ¬ n + 1 ≤ n)] at H1
  have H2 := Pos_step (F := F) (cell := fun p => rcvCell c d p h) (rcv_turn c d h) n
  unfold Rcv
  iintro ⟨Ht, Hp⟩
  ihave Ht' := H1 $$ Ht
  icases Ht' with ⟨Hc, Ht⟩
  ihave Hp' := H2 $$ Hp
  icases Hp' with ⟨Hat, Hp⟩
  isplitl [Hc]; · iexact Hc
  isplitl [Hat]; · iexact Hat
  iintro Hx
  isplitl [Ht]
  · iapply Ht; iempintro
  iapply Hp; iexact Hx

/-- The next receive of a lane is awaited: its slot comes, holding what the sender sent. -/
theorem wp_rcvwait (c : Dev nD) (d : Fin 2) {h b : ℕ} (hh : h < 3) (hb : b < 16)
    {o : Fin 2 → ℕ} {inb : ∀ x, o x + S1x1.size x ≤ S2x3.size x} (ho : o = semOff b h)
    {src dst : Memref sig .tc .vmem S1024x256 .bf16} {h1 : src.view.WordExact} {h2 : dst.view.WordExact}
    (hd : dst.view.dmaCredit = unitsN) {O : CellTallies nD τ sig ℕ} (hO : Above (b + h + 2) O)
    {α : Type} {k : PUnit → Prog (TpuEff nD τ sig (Elt F) Λ₀ .tc) α} {Q : α → sProp 𝕄} :
    iprop(Inv A κ κs ∗ levAts L lv ∗ Rcv c d h b ∗ Owes c O)
      ⊢ iprop((iprop(Rcv c d h (b + 1) ∗ Owes c O ∗ slotHas c d b h (A d h (up d c) b)) -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 (((rcvArr d).slice (Rect.unit (s := S2x3) o S1x1.size inb)).squeeze S_ squeezes_S1x1_S_).sem src dst h1 h2) k) Q) := by
  subst ho
  have hpay : (bigSep ((Rd A).duties (rcvCell c d b h) (b / 2) \ ∅) fun j => (Rd A).payload (rcvCell c d b h) (b / 2) j)
      = slotHas c d b h (A d h (up d c) b) := by
    rw [duties_rcv A c d b h (by omega), Finset.sdiff_empty, bigSep_singleton, pay_rcv A c d b h 0 hh]
  unfold Owes
  iintro ⟨#HI, #Hlev, HS, ⟨%W, HO⟩⟩ Hk
  ihave HS' := (Rcv_wait c d hb) $$ HS
  icases HS' with ⟨Hc, Hat, HS⟩
  iapply (Rounds.wp_wait_rest_token 𝒱₀ ER (Rd A) (c : Thread nD τ) none (κ := κ (rcvCell c d b h))
      (wpE_waitDma2_eq 𝒱₀ (c : Thread nD τ) none Set.univ) (Set.mem_univ _) (b + h) (O := O) (W := W) (R := b / 2) (m := 0) (T := ∅)
      (by rw [hd, Nat.zero_add]; exact (expect_rcv A c d b h (by omega)).symm)) $$ [Hc HO Hat]
  · isplitr; · iapply (Inv_rcv A κ κs c d b h); iexact HI
    isplitl [Hc]; · rw [hd]; iexact Hc
    isplitl [HO]; · iexact HO
    isplitr; · iapply (mayWait_of_above c _ hO (by omega) (le_of_eq (lv_rcv c d b h (b + h)))); iexact Hlev
    iexact Hat
  iintro ⟨HO, Hat, #Hr, Hpay⟩
  ihave Hpay := (Entails.of_eq hpay) $$ Hpay
  iapply Hk
  isplitl [HS Hat]
  · iapply HS
    isplitl [Hat]; · iexact Hat
    iexact Hr
  isplitl [HO]
  · iexists _; iexact HO
  iexact Hpay

/-! ## Sending -/

theorem Snd_send (c : Dev nD) (d : Fin 2) {h a w : ℕ} (ha : a < 16) (hw : w ≤ a) (hw' : a ≤ w + 1) :
    Snd (F := F) c d h a w ⊢ iprop(sndTok c d h a ∗ reached ER (sndCell c d a h) (a / 2)
      ∗ (cred (tallyAt (sndCell c d a h) 0 unitsN) -∗ Snd c d h (a + 1) w)) := by
  have H1 := bigSep_upd (i := a) (f := fun t => if a ≤ t then sndTok (F := F) c d h t else if w ≤ t then cred (tallyAt (sndCell c d t h) 0 unitsN) else iprop(emp))
    (g := fun t => if a + 1 ≤ t then sndTok c d h t else if w ≤ t then cred (tallyAt (sndCell c d t h) 0 unitsN) else iprop(emp))
    (s := Finset.range 16) (Finset.mem_range.mpr ha) (fun j _ hj => by
      by_cases e : a ≤ j
      · rw [if_pos e, if_pos (by omega)]
      · rw [if_neg e, if_neg (by omega : ¬ a + 1 ≤ j)])
  simp only [if_pos (le_refl a), if_neg (by omega : ¬ a + 1 ≤ a), if_pos hw] at H1
  have H2 := Pos_reached (F := F) (cell := fun p => sndCell c d p h) (snd_turn c d h) hw'
  unfold Snd
  iintro ⟨Ht, Hp⟩
  ihave Ht' := H1 $$ Ht
  icases Ht' with ⟨Hc, Ht⟩
  ihave #Hr := H2 $$ Hp
  isplitl [Hc]; · iexact Hc
  isplitr; · iexact Hr
  iintro Hx
  isplitl [Ht Hx]
  · iapply Ht; iexact Hx
  iexact Hp

/-- The next send of a lane is started: its source slot is handed over, holding what the lane's tile is to be, and the
receiver's slot is taken, it being ready. -/
theorem wp_sendhop (c : Dev nD) (d : Fin 2) {h a w : ℕ} (hh : h < 3) (ha : a < 16) (hw : w ≤ a) (hw' : a ≤ w + 1)
    {o o' : Fin 2 → ℕ} {inb : ∀ x, o x + S1x1.size x ≤ S2x3.size x} {inb' : ∀ x, o' x + S1x1.size x ≤ S2x3.size x}
    (ho : o = semOff a h) (ho' : o' = semOff a h)
    {os od : Fin 4 → ℕ} {is : ∀ x, os x + S1x1x1024x256.size x ≤ S4x4x1024x256.size x}
    {id : ∀ x, od x + S1x1x1024x256.size x ≤ S4x4x1024x256.size x} (hos : os = slotOff a (srcH h)) (hod : od = slotOff a h)
    {e : Dev nD} (he : e = down d c) {f : (bufM d).view.ty.Contents (Elt F)} (hf : slotVec d a (srcH h) f = A d h c a)
    {O₀ O : CellTallies nD τ sig ℕ} (hO : O₀ = O + tallyAt (rcvCell (down d c) d a h) (a + h) unitsN)
    {hsc : (((bufM d).slice (Rect.unit (s := S4x4x1024x256) od S1x1x1024x256.size id) (fun _ => rfl)).squeeze S1024x256 squeezes_S1x1x1024x256_S1024x256).view.ref.isScScratch = false}
    {h1 h2 h3}
    {α : Type} {k : PUnit → Prog (TpuEff nD τ sig (Elt F) Λ₀ .tc) α} {Q : α → sProp 𝕄} :
    iprop(Inv A κ κs ∗ Ready (down d c) d h a ∗ Snd c d h a w ∗ Owes c O₀ ∗ slotPts c d a (srcH h) f)
      ⊢ iprop((iprop(Snd c d h (a + 1) w ∗ Owes c O) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (((bufM d).slice (Rect.unit (s := S4x4x1024x256) os S1x1x1024x256.size is) (fun _ => rfl)).squeeze S1024x256 squeezes_S1x1x1024x256_S1024x256)
            (.remote (Dev.tc e) (((bufM d).slice (Rect.unit (s := S4x4x1024x256) od S1x1x1024x256.size id) (fun _ => rfl)).squeeze S1024x256 squeezes_S1x1x1024x256_S1024x256)
              (.dma (((sndArr d).slice (Rect.unit (s := S2x3) o S1x1.size inb)).squeeze S_ squeezes_S1x1_S_).sem) hsc)
            (.dma (((rcvArr d).slice (Rect.unit (s := S2x3) o' S1x1.size inb')).squeeze S_ squeezes_S1x1_S_).sem) h1 h2 h3) k) Q) := by
  subst ho ho' hos hod he
  unfold Owes
  iintro ⟨#HI, #Hrdy, HS, ⟨%W, HO⟩, Hsrc⟩ Hk
  ihave HS' := (Snd_send c d ha hw hw') $$ HS
  icases HS' with ⟨Htok, #Hr1, HS⟩
  unfold sndTok
  icases Htok with ⟨Hd1, Hd2, Hwt⟩
  unfold Ready
  icases Hrdy with ⟨#Hr2, #Hrel⟩
  ihave #Hsi := (Inv_slot A κ κs (down d c) d a h hh) $$ HI
  imod (slot_take (Es := Set.univ) ES (Set.mem_univ _) (a / 4 + 1)) $$ [Hwt] with Hdst
  · isplitr; · iexact Hsi
    isplitr; · iexact Hrel
    iexact Hwt
  unfold slotAny Release.slot
  icases Hdst with ⟨%fd, Hdst⟩
  iapply (Rounds.wp_send_pointsTo 𝒱₀ ER (Rd A) (c : Thread nD τ) none (κ₁ := κ (sndCell c d a h)) (κ₂ := κ (rcvCell (down d c) d a h))
      (r₁ := a / 2) (r₂ := a / 2) (d₁ := 0) (d₂ := 0) (sS := .dma (sndS d a h)) (sem := .dma (rcvS d a h)) (q := fullShare) (fs := f) (fd := fd)
      (by rw [duties_snd A c d a h (by omega)]; exact Finset.mem_singleton_self 0)
      (by rw [duties_rcv A (down d c) d a h (by omega)]; exact Finset.mem_singleton_self 0)
      (a + h) 0 unitsN (slotM_credit d a h) (amount_snd A c d a h _ _) (amount_rcv A (down d c) d a h _ _) O hO
      (by rw [pay_snd A c d a h 0 hh]
          unfold slotAny Release.slot
          iintro H; iexists _; iexact H)
      (by rw [pay_rcv A (down d c) d a h 0 hh, up_down]
          unfold slotHas
          iintro H
          iexists _
          isplitr
          rotate_left
          · iexact H
          ipureintro
          rw [← hf]
          exact slotVec_copy d d a h a (srcH h) _ _)) $$ [Hsrc Hdst HO Hd1 Hd2]
  · isplitr; · iapply (Inv_snd A κ κs c d a h); iexact HI
    isplitr; · iapply (Inv_rcv A κ κs (down d c) d a h); iexact HI
    isplitl [Hsrc]; · iexact Hsrc
    isplitl [Hdst]; · iexact Hdst
    isplitl [HO]; · iexact HO
    isplitl [Hd1]; · iexact Hd1
    isplitr; · iexact Hr1
    isplitl [Hd2]; · iexact Hd2
    iexact Hr2
  iintro ⟨Hc, HO⟩
  iapply Hk
  isplitl [HS Hc]
  · iapply HS; iexact Hc
  iexists _; iexact HO

/-! ## The receive slots -/

/-- A tile's slot is done with: it is given back for the tile four later, or kept if there is none. -/
theorem Slt_done (c : Dev nD) (d : Fin 2) {h x : ℕ} (hh : h < 3) (hx : x < 16) :
    iprop(Inv A κ κs ∗ Slt c d h x ∗ slotAny c d x h) ⊢ (|={Set.univ}=> Slt c d h (x + 1) : sProp 𝕄) := by
  have hp : x % 4 < 4 := Nat.mod_lt _ (by decide)
  by_cases h12 : 12 ≤ x
  · have e : ∀ q, gave x q = gave (x + 1) q := fun q => by unfold gave; rw [Nat.min_eq_right h12, Nat.min_eq_right (by omega)]
    have H1 := bigSep_upd (F := F) (i := x) (f := fun t => if 12 ≤ t ∧ t < x then slotAny c d t h else iprop(emp))
      (g := fun t => if 12 ≤ t ∧ t < x + 1 then slotAny c d t h else iprop(emp)) (s := Finset.range 16) (Finset.mem_range.mpr hx)
      (fun j _ hj => if_congr (by omega) rfl rfl)
    simp only [if_neg (by omega : ¬ (12 ≤ x ∧ x < x)), if_pos (by omega : 12 ≤ x ∧ x < x + 1)] at H1
    unfold Slt
    simp only [e]
    iintro ⟨-, ⟨HR, HK⟩, Hs⟩
    imodintro
    isplitl [HR]; · iexact HR
    ihave HK' := H1 $$ HK
    icases HK' with ⟨-, HK⟩
    iapply HK; iexact Hs
  · have e : ∀ t, (if 12 ≤ t ∧ t < x then slotAny c d t h else iprop(emp) : sProp 𝕄) = (if 12 ≤ t ∧ t < x + 1 then slotAny c d t h else iprop(emp)) :=
      fun t => if_congr (by omega) rfl rfl
    have hk : keyOf c d (x % 4) h = keyOf c d x h := keyOf_congr c d h (Nat.mod_mod _ _)
    have g1 : gave x (x % 4) = x / 4 + 1 := by unfold gave; omega
    have g2 : gave (x + 1) (x % 4) = x / 4 + 1 + 1 := by unfold gave; omega
    have H1 := bigSep_upd (F := F) (i := x % 4) (f := fun q => iprop(readerAt ES (keyOf c d q h) (gave x q) ∗ released ES (keyOf c d q h) (gave x q)))
      (g := fun q => iprop(readerAt ES (keyOf c d q h) (gave (x + 1) q) ∗ released ES (keyOf c d q h) (gave (x + 1) q))) (s := Finset.range 4) (Finset.mem_range.mpr hp)
      (fun j hj hj' => by
        have := Finset.mem_range.mp hj
        have e : gave x j = gave (x + 1) j := by unfold gave; omega
        simp only [e])
    simp only [hk, g1, g2] at H1
    unfold Slt
    simp only [e]
    iintro ⟨#HI, ⟨HR, HK⟩, Hs⟩
    ihave HR' := H1 $$ HR
    icases HR' with ⟨⟨Hr, -⟩, HR⟩
    ihave #Hsi := (Inv_slot A κ κs c d x h hh) $$ HI
    imod (slot_release (Es := Set.univ) ES (Set.mem_univ _) (slotAny_false c d x h) (x / 4 + 1)) $$ [Hr Hs] with Hr
    · isplitr; · iexact Hsi
      isplitl [Hr]; · iexact Hr
      iexact Hs
    imodintro
    isplitl [HR Hr]
    · iapply HR; iexact Hr
    iexact HK

theorem Slt_released (c : Dev nD) (d : Fin 2) {h x t : ℕ} (hx : t ≤ x + 3) (ht : t < 16) :
    Slt (F := F) c d h x ⊢ released ES (keyOf c d t h) (t / 4 + 1) := by
  have hp : t % 4 < 4 := Nat.mod_lt _ (by decide)
  have hk : keyOf c d (t % 4) h = keyOf c d t h := keyOf_congr c d h (Nat.mod_mod _ _)
  have H : (bigSep (Finset.range 4) fun q => iprop(readerAt ES (keyOf c d q h) (gave x q) ∗ released ES (keyOf c d q h) (gave x q)) : sProp 𝕄)
      ⊢ iprop(readerAt ES (keyOf c d (t % 4) h) (gave x (t % 4)) ∗ released ES (keyOf c d (t % 4) h) (gave x (t % 4))) :=
    bigSep_elim (Finset.mem_range.mpr hp)
  rw [hk] at H
  exact sep_elim_left.trans (H.trans (sep_elim_right.trans (released_mono ES (by unfold gave; omega))))

/-- A device with `b` tiles received and `x` done with is ready for tile `t`, `t ≤ b + 1` and `t ≤ x + 3`. -/
theorem Ready_intro (c : Dev nD) (d : Fin 2) {h b x t : ℕ} (hb : t ≤ b + 1) (hx : t ≤ x + 3) (ht : t < 16) :
    iprop(Rcv c d h b ∗ Slt c d h x) ⊢ Ready (F := F) c d h t := by
  have H1 := Pos_reached (F := F) (cell := fun p => rcvCell c d p h) (rcv_turn c d h) hb
  have H2 := Slt_released (F := F) c d (h := h) hx ht
  unfold Rcv Ready
  iintro ⟨⟨-, HP⟩, HS⟩
  ihave #Hr := H1 $$ HP
  ihave #Hq := H2 $$ HS
  isplitr; · iexact Hr
  iexact Hq

/-- The first time, every slot of the lane is given. -/
theorem Slt_first (c : Dev nD) (d : Fin 2) {h : ℕ} (hh : h < 3) :
    iprop(Inv A κ κs ∗ bigSep (Finset.range 4) fun q => iprop(readerAt ES (keyOf c d q h) 0 ∗ slotAny c d q h))
      ⊢ (|={Set.univ}=> Slt c d h 0 : sProp 𝕄) := by
  have one : ∀ q ∈ Finset.range 4, iprop(Inv A κ κs ∗ iprop(readerAt ES (keyOf c d q h) 0 ∗ slotAny c d q h))
      ⊢ (|={Set.univ}=> iprop(readerAt ES (keyOf c d q h) (gave 0 q) ∗ released ES (keyOf c d q h) (gave 0 q)) : sProp 𝕄) := by
    intro q hq
    have := Finset.mem_range.mp hq
    rw [show gave 0 q = 0 + 1 by unfold gave; omega]
    iintro ⟨#HI, Hr, Hs⟩
    ihave #Hsi := (Inv_slot A κ κs c d q h hh) $$ HI
    iapply (slot_release (Es := Set.univ) ES (Set.mem_univ _) (slotAny_false c d q h) 0)
    isplitr; · iexact Hsi
    isplitl [Hr]; · iexact Hr
    iexact Hs
  exact (bigSep_each one).trans (fupd_mono sep_emp.2 |>.trans (Entails.of_eq (by unfold Slt; rw [show (bigSep (Finset.range 16) fun t => if 12 ≤ t ∧ t < 0 then slotAny c d t h else iprop(emp) : sProp 𝕄) = iprop(emp) from by
    rw [bigSep_congr (fun t _ => if_neg (by omega : ¬ (12 ≤ t ∧ t < 0)))]; exact bigSep_emp_const _])))

/-! ## The slots sent from first -/

/-- The slot of the next tile is taken out. -/
theorem Src_take (c : Dev nD) (d : Fin 2) {a w : ℕ} (h : a - w < 4) (hw : w ≤ a) :
    Src (F := F) c d a w ⊢ iprop(slotAny c d a 3 ∗ Src c d (a + 1) w) := by
  have hk : slotAny (F := F) c d (a % 4) 3 = slotAny c d a 3 := slotAny_congr c d 3 (Nat.mod_mod _ _)
  have H1 := bigSep_upd (F := F) (i := a % 4) (f := fun q => if (q + 4 - w % 4) % 4 < a - w then iprop(emp) else slotAny c d q 3)
    (g := fun q => if (q + 4 - w % 4) % 4 < a + 1 - w then iprop(emp) else slotAny c d q 3) (s := Finset.range 4)
    (Finset.mem_range.mpr (Nat.mod_lt _ (by decide)))
    (fun j hj hj' => by
      have := Finset.mem_range.mp hj
      exact if_congr (by omega) rfl rfl)
  simp only [if_neg (by omega : ¬ ((a % 4 + 4 - w % 4) % 4 < a - w)), if_pos (by omega : (a % 4 + 4 - w % 4) % 4 < a + 1 - w), hk] at H1
  unfold Src
  iintro H
  ihave H' := H1 $$ H
  icases H' with ⟨Hs, H⟩
  isplitl [Hs]; · iexact Hs
  iapply H; iempintro

/-- An awaited tile's slot is put back. -/
theorem Src_put (c : Dev nD) (d : Fin 2) {a w : ℕ} (h : a - w ≤ 4) (hw : w < a) :
    iprop(Src (F := F) c d a w ∗ slotAny c d w 3) ⊢ Src c d a (w + 1) := by
  have hk : slotAny (F := F) c d (w % 4) 3 = slotAny c d w 3 := slotAny_congr c d 3 (Nat.mod_mod _ _)
  have H1 := bigSep_upd (F := F) (i := w % 4) (f := fun q => if (q + 4 - w % 4) % 4 < a - w then iprop(emp) else slotAny c d q 3)
    (g := fun q => if (q + 4 - (w + 1) % 4) % 4 < a - (w + 1) then iprop(emp) else slotAny c d q 3) (s := Finset.range 4)
    (Finset.mem_range.mpr (Nat.mod_lt _ (by decide)))
    (fun j hj hj' => by
      have := Finset.mem_range.mp hj
      exact if_congr (by omega) rfl rfl)
  simp only [if_pos (by omega : ((w % 4 + 4 - w % 4) % 4 < a - w)), if_neg (by omega : ¬ (w % 4 + 4 - (w + 1) % 4) % 4 < a - (w + 1)), hk] at H1
  unfold Src
  iintro ⟨H, Hs⟩
  ihave H' := H1 $$ H
  icases H' with ⟨-, H⟩
  iapply H; iexact Hs

end Cert.KernelIdeal.Hand
-- ==== Proof.Sync.lean ====
module

public import proofs.«01_k».proof.Proof.Lanes

/-! What the devices tell each other: the opening barrier and the credits, step by step; and what a
device owes from a step on. -/

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ U ℕ

/-! ## What is owed -/

/-- The receiver's units of the send of hop `h` at step `n`. -/
def payH (d : Fin 2) (h n : ℕ) (c : Dev nD) : CellTallies nD τ sig ℕ :=
  if h ≤ n ∧ n < 16 + h then tallyAt (rcvCell (down d c) d (n - h) h) n unitsN else 0
/-- The credit of step `n`. -/
def payC (d : Fin 2) (n : ℕ) (c : Dev nD) : CellTallies nD τ sig ℕ := tallyAt (crCell (up d c) d) n 1

/-- What step `n` pays, the last first. -/
def stepO (c : Dev nD) (n : ℕ) : CellTallies nD τ sig ℕ :=
  payC 1 n c + payC 0 n c + payH 1 2 n c + payH 0 2 n c + payH 1 1 n c + payH 0 1 n c + payH 1 0 n c + payH 0 0 n c

/-- What the steps from `n` on pay. -/
def rem (c : Dev nD) (n : ℕ) : CellTallies nD τ sig ℕ := ∑ j ∈ Finset.Ico n 19, stepO c j

theorem rem_step (c : Dev nD) {n : ℕ} (hn : n < 19) : rem c n = rem c (n + 1)
    + payC 1 n c + payC 0 n c + payH 1 2 n c + payH 0 2 n c + payH 1 1 n c + payH 0 1 n c + payH 1 0 n c + payH 0 0 n c := by
  unfold rem
  have e : Finset.Ico n 19 = insert n (Finset.Ico (n + 1) 19) := by
    ext j; simp only [Finset.mem_Ico, Finset.mem_insert]; omega
  rw [e, Finset.sum_insert (by simp only [Finset.mem_Ico]; omega), add_comm]
  unfold stepO
  simp only [add_assoc]
theorem rem_end (c : Dev nD) : rem c 19 = 0 := by unfold rem; rw [Finset.Ico_self, Finset.sum_empty]

theorem payH_above (d : Fin 2) (h n : ℕ) (c : Dev nD) (hn : n < 20) : Above (n + 1) (payH d h n c) := by
  unfold payH
  split
  · exact Above.at (down d c) _ n unitsN (by rw [lv_rcv]; omega) hn
  · exact Above.zero _
theorem payC_above (d : Fin 2) (n : ℕ) (c : Dev nD) (hn : n < 20) : Above (n + 1) (payC d n c) :=
  Above.at (up d c) _ n 1 (by rw [lv_cr]; omega) hn
theorem stepO_above (c : Dev nD) (n : ℕ) (hn : n < 20) : Above (n + 1) (stepO c n) := by
  unfold stepO
  have h1 := fun d h => payH_above d h n c hn
  have h2 := fun d => payC_above d n c hn
  exact ((((((((h2 1).add (h2 0)).add (h1 1 2)).add (h1 0 2)).add (h1 1 1)).add (h1 0 1)).add (h1 1 0)).add (h1 0 0))
theorem rem_above (c : Dev nD) (n : ℕ) : Above (n + 1) (rem c n) := by
  unfold rem
  have : ∀ s : Finset ℕ, (∀ j ∈ s, n ≤ j ∧ j < 19) → Above (n + 1) (∑ j ∈ s, stepO c j) := by
    intro s
    induction s using Finset.induction_on with
    | empty => intro _; rw [Finset.sum_empty]; exact Above.zero _
    | insert i s hi ih =>
      intro h
      rw [Finset.sum_insert hi]
      have := h i (Finset.mem_insert_self i s)
      exact ((stepO_above c i (by omega)).mono (by omega)).add (ih fun j hj => h j (Finset.mem_insert_of_mem hj))
  exact this _ fun j hj => Finset.mem_Ico.mp hj

/-! ## Credits -/

/-- The credits of direction `d` at device `c`, `k` of them taken. -/
def Crd (c : Dev nD) (d : Fin 2) (k : ℕ) : sProp 𝕄 :=
  iprop((bigSep (Finset.range 19) fun j => if k ≤ j then cred (tallyAt (crCell c d) j 1) else iprop(emp))
    ∗ ∃ S : Finset ℕ, ⌜S ⊆ Finset.range 19 ∧ k ≤ S.card⌝ ∗ atPos ER (crCell c d) 0 S k
        ∗ bigSep S fun j => ReadyTo (down d c) d (j + 1))

theorem Crd_take (c : Dev nD) (d : Fin 2) {k : ℕ} (hk : k < 19) :
    Crd (F := F) c d k ⊢ iprop(cred (tallyAt (crCell c d) k 1)
      ∗ (∃ S : Finset ℕ, ⌜S ⊆ Finset.range 19 ∧ k ≤ S.card⌝ ∗ atPos ER (crCell c d) 0 S k ∗ bigSep S fun j => ReadyTo (down d c) d (j + 1))
      ∗ ((∃ S : Finset ℕ, ⌜S ⊆ Finset.range 19 ∧ k + 1 ≤ S.card⌝ ∗ atPos ER (crCell c d) 0 S (k + 1) ∗ bigSep S fun j => ReadyTo (down d c) d (j + 1))
          -∗ Crd c d (k + 1))) := by
  have H1 := bigSep_upd (F := F) (i := k) (f := fun j => if k ≤ j then cred (tallyAt (crCell c d) j 1) else iprop(emp))
    (g := fun j => if k + 1 ≤ j then cred (tallyAt (crCell c d) j 1) else iprop(emp))
    (s := Finset.range 19) (Finset.mem_range.mpr hk) (fun j _ hj => if_congr (by omega) rfl rfl)
  simp only [if_pos (le_refl k), if_neg (by omega : ¬ k + 1 ≤ k)] at H1
  unfold Crd
  iintro ⟨Hc, HS⟩
  ihave Hc' := H1 $$ Hc
  icases Hc' with ⟨Hc, Hcs⟩
  isplitl [Hc]; · iexact Hc
  isplitl [HS]; · iexact HS
  iintro HS
  isplitl [Hcs]
  · iapply Hcs; iempintro
  iexact HS

/-- Of `k + 1` payments some is at least the `k`-th. -/
theorem exists_late {S : Finset ℕ} {k : ℕ} (h : k + 1 ≤ S.card) : ∃ j ∈ S, k ≤ j := by
  by_contra hc
  have : S ⊆ Finset.range k := fun j hj => Finset.mem_range.mpr (by
    by_contra hj'; exact hc ⟨j, hj, by omega⟩)
  have := Finset.card_le_card this
  rw [Finset.card_range] at this
  omega

theorem late_ready (e : Dev nD) (d : Fin 2) {S : Finset ℕ} {k : ℕ} (h : k + 1 ≤ S.card) :
    (bigSep S fun j => ReadyTo e d (j + 1)) ⊢ ReadyAt (F := F) e d (k + 1) := by
  obtain ⟨j, hj, hk⟩ := exists_late h
  have H : (bigSep S fun j => ReadyTo e d (j + 1)) ⊢ ReadyTo (F := F) e d (j + 1) := bigSep_elim hj
  exact H.trans (ReadyTo_at e d (by omega))

variable (A : Cont F) (κ : GSem nD τ sig → ℕ) (κs : Key → ℕ)

/-- A credit is awaited: the device sent to has finished a step more, and is ready for the next. -/
theorem wp_crwait (c : Dev nD) (d : Fin 2) {k : ℕ} (hk : k < 18) {O : CellTallies nD τ sig ℕ} (hO : Above (k + 2) O)
    {α : Type} {p : PUnit → Prog (TpuEff nD τ sig (Elt F) Λ₀ .tc) α} {Q : α → sProp 𝕄} :
    iprop(Inv A κ κs ∗ levAts L lv ∗ Crd c d k ∗ Owes c O)
      ⊢ iprop((iprop(Crd c d (k + 1) ∗ Owes c O ∗ ReadyAt (down d c) d (k + 1)) -∗ wp frame (wpE (defs₀ (F := F)) 𝒱₀ (c : Thread nD τ) none) Set.univ (p ⟨⟩) Q)
        -∗ wp frame (wpE (defs₀ (F := F)) 𝒱₀ (c : Thread nD τ) none) Set.univ (.op (.semWait (crS d) 1) p) Q) := by
  unfold Owes
  iintro ⟨#HI, #Hlev, HC, ⟨%W, HO⟩⟩ Hk
  ihave HC' := (Crd_take c d (by omega)) $$ HC
  icases HC' with ⟨Hc, ⟨%T, %hT, Hat, #HT⟩, HC⟩
  iapply (Rounds.wp_wait 𝒱₀ ER (Rd A) (c : Thread nD τ) none (κ := κ (crCell c d))
      (wpE_semWait_eq 𝒱₀ (c : Thread nD τ) none Set.univ) (Set.mem_univ _) (cr := Finsupp.single k 1) (O := O) (W := W)
      {((.reg (crS d) : SemLoc sig), k)} (R := 0) (m := k) (T := T) (Util.total_single _ _) (image_single_subset _ k 1)) $$ [Hc HO Hat]
  · isplitr; · iapply (Inv_cr A κ κs c d); iexact HI
    isplitl [Hc]; · iexact Hc
    isplitl [HO]; · iexact HO
    isplitr; · iapply (mayWait_of_above c _ hO (by omega) (le_of_eq (lv_cr c d k))); iexact Hlev
    iexact Hat
  iintro %S ⟨%hS, HO, Hat, Hpay⟩
  rw [duties_cr, expect_cr] at hS
  have hcard : k + 1 ≤ S.card := by
    have := Finset.card_sdiff_add_card_eq_card hS.2.1
    rw [Finset.card_range] at this
    have := hS.2.2
    omega
  have hsub : (bigSep (S \ T) fun j => (Rd A).payload (crCell c d) 0 j) = bigSep (S \ T) fun j => ReadyTo (down d c) d (j + 1) :=
    bigSep_congr fun j _ => pay_cr A c d 0 j
  have hun : iprop((bigSep T fun j => ReadyTo (down d c) d (j + 1)) ∗ bigSep (S \ T) fun j => ReadyTo (down d c) d (j + 1))
      ⊢ (bigSep S fun j => ReadyTo (F := F) (down d c) d (j + 1)) := by
    have : (bigSep S fun j => ReadyTo (F := F) (down d c) d (j + 1)) = iprop((bigSep T fun j => ReadyTo (down d c) d (j + 1)) ∗ bigSep (S \ T) fun j => ReadyTo (down d c) d (j + 1)) := by
      conv_lhs => rw [← Finset.union_sdiff_of_subset hS.1]
      exact bigSep_union Finset.disjoint_sdiff
    rw [this]
  ihave #Hnew := (Entails.of_eq hsub) $$ Hpay
  ihave #Hall := hun $$ [HT Hnew]
  · isplitr; · iexact HT
    iexact Hnew
  iapply Hk
  isplitl [HC Hat]
  · iapply HC
    iexists S
    isplitr; · ipureintro; exact ⟨hS.2.1, hcard⟩
    isplitl [Hat]; · iexact Hat
    iexact Hall
  isplitl [HO]
  · iexists _; iexact HO
  iapply (late_ready (down d c) d hcard); iexact Hall

/-- The last credit is awaited. -/
theorem wp_crlast (c : Dev nD) (d : Fin 2)
    {α : Type} {p : PUnit → Prog (TpuEff nD τ sig (Elt F) Λ₀ .tc) α} {Q : α → sProp 𝕄} :
    iprop(Inv A κ κs ∗ levAts L lv ∗ Crd c d 18 ∗ Owes c 0)
      ⊢ iprop((iprop(atPos ER (crCell c d) 1 ∅ 0 ∗ Owes c 0) -∗ wp frame (wpE (defs₀ (F := F)) 𝒱₀ (c : Thread nD τ) none) Set.univ (p ⟨⟩) Q)
        -∗ wp frame (wpE (defs₀ (F := F)) 𝒱₀ (c : Thread nD τ) none) Set.univ (.op (.semWait (crS d) 1) p) Q) := by
  unfold Owes
  iintro ⟨#HI, #Hlev, HC, ⟨%W, HO⟩⟩ Hk
  ihave HC' := (Crd_take c d (by omega)) $$ HC
  icases HC' with ⟨Hc, ⟨%T, %hT, Hat, #HT⟩, -⟩
  iapply (Rounds.wp_wait_rest_token 𝒱₀ ER (Rd A) (c : Thread nD τ) none (κ := κ (crCell c d))
      (wpE_semWait_eq 𝒱₀ (c : Thread nD τ) none Set.univ) (Set.mem_univ _) 18 (O := 0) (W := W)
      (R := 0) (m := 18) (T := T) (expect_cr A c d).symm) $$ [Hc HO Hat]
  · isplitr; · iapply (Inv_cr A κ κs c d); iexact HI
    isplitl [Hc]; · iexact Hc
    isplitl [HO]; · iexact HO
    isplitr; · iapply (mayWait_of_above c _ (Above.zero _) (by omega) (le_refl _)); iexact Hlev
    iexact Hat
  iintro ⟨HO, Hat, -, -⟩
  iapply Hk
  isplitl [Hat]; · iexact Hat
  iexists _; iexact HO

/-- The step's credit is given to the device received from: this device is ready for the next step. -/
theorem wp_crsignal (c : Dev nD) (d : Fin 2) {n : ℕ} (hn : n < 19) {e : Dev nD} (he : e = up d c)
    {O₀ O : CellTallies nD τ sig ℕ} (hO : O₀ = O + payC d n c)
    {α : Type} {p : PUnit → Prog (TpuEff nD τ sig (Elt F) Λ₀ .tc) α} {Q : α → sProp 𝕄} :
    iprop(Inv A κ κs ∗ ReadyTo c d (n + 1) ∗ reached ER (crCell (up d c) d) 0 ∗ dutyTok ER (crCell (up d c) d) 0 n ∗ Owes c O₀)
      ⊢ iprop((Owes c O -∗ wp frame (wpE (defs₀ (F := F)) 𝒱₀ (c : Thread nD τ) none) Set.univ (p ⟨⟩) Q)
        -∗ wp frame (wpE (defs₀ (F := F)) 𝒱₀ (c : Thread nD τ) none) Set.univ (.op (.semSignal (e : Thread nD τ) (crS d) 1) p) Q) := by
  subst he
  unfold Owes
  iintro ⟨#HI, #HR, #Hr, Ht, ⟨%W, HO⟩⟩ Hk
  iapply (Rounds.wp_signal 𝒱₀ ER (Rd A) (c : Thread nD τ) none (dst := (up d c : Thread nD τ)) (sem := crS d) (r := 0) (d := n)
      (κ := κ (crCell (up d c) d)) (by rw [duties_cr]; exact Finset.mem_range.mpr hn) (amount_cr A (up d c) d 0 n) n O hO) $$ [HO Ht]
  · isplitr; · iapply (Inv_cr A κ κs (up d c) d); iexact HI
    isplitl [HO]; · iexact HO
    isplitl [Ht]; · iexact Ht
    isplitr
    · rw [pay_cr, down_up]; iexact HR
    iexact Hr
  iintro HO
  iapply Hk
  iexists _; iexact HO

/-! ## The barrier -/

/-- The device received from in direction `d` is told that this one is ready. -/
theorem wp_barsignal (c : Dev nD) (d : Fin 2) {e : Dev nD} (he : e = up d c)
    {O₀ O : CellTallies nD τ sig ℕ} (hO : O₀ = O + tallyAt (barCell (up d c)) 0 1)
    {α : Type} {p : PUnit → Prog (TpuEff nD τ sig (Elt F) Λ₀ .tc) α} {Q : α → sProp 𝕄} :
    iprop(Inv A κ κs ∗ BarPay c d ∗ reached ER (barCell (up d c)) 0 ∗ dutyTok ER (barCell (up d c)) 0 d.val ∗ Owes c O₀)
      ⊢ iprop((Owes c O -∗ wp frame (wpE (defs₀ (F := F)) 𝒱₀ (c : Thread nD τ) none) Set.univ (p ⟨⟩) Q)
        -∗ wp frame (wpE (defs₀ (F := F)) 𝒱₀ (c : Thread nD τ) none) Set.univ (.op (.semSignal (e : Thread nD τ) barrier0 1) p) Q) := by
  subst he
  have hpay : (Rd A).payload (barCell (up d c)) 0 d.val = BarPay c d := by
    rw [pay_bar]
    have : ∀ d : Fin 2, (if d.val = 0 then (0 : Fin 2) else 1) = d := by decide
    rw [this d, down_up]
  unfold Owes
  iintro ⟨#HI, #HR, #Hr, Ht, ⟨%W, HO⟩⟩ Hk
  iapply (Rounds.wp_signal 𝒱₀ ER (Rd A) (c : Thread nD τ) none (dst := (up d c : Thread nD τ)) (sem := barrier0) (r := 0) (d := d.val)
      (κ := κ (barCell (up d c))) (by rw [duties_bar]; exact Finset.mem_range.mpr d.isLt) (amount_bar A (up d c) 0 _) 0 O hO) $$ [HO Ht]
  · isplitr; · iapply (Inv_bar A κ κs (up d c)); iexact HI
    isplitl [HO]; · iexact HO
    isplitl [Ht]; · iexact Ht
    isplitr
    · rw [hpay]; iexact HR
    iexact Hr
  iintro HO
  iapply Hk
  iexists _; iexact HO

/-- Both neighbours are awaited: each is ready for the first tile, and its credit semaphore is open. -/
theorem wp_barwait (c : Dev nD) {O : CellTallies nD τ sig ℕ} (hO : Above 1 O)
    {α : Type} {p : PUnit → Prog (TpuEff nD τ sig (Elt F) Λ₀ .tc) α} {Q : α → sProp 𝕄} :
    iprop(Inv A κ κs ∗ levAts L lv ∗ atPos ER (barCell c) 0 ∅ 0 ∗ cred (tallyAt (barCell c) 0 2) ∗ Owes c O)
      ⊢ iprop((iprop(atPos ER (barCell c) 1 ∅ 0 ∗ Owes c O ∗ BarPay (down 0 c) 0 ∗ BarPay (down 1 c) 1) -∗ wp frame (wpE (defs₀ (F := F)) 𝒱₀ (c : Thread nD τ) none) Set.univ (p ⟨⟩) Q)
        -∗ wp frame (wpE (defs₀ (F := F)) 𝒱₀ (c : Thread nD τ) none) Set.univ (.op (.semWait barrier0 2) p) Q) := by
  have hpay : (bigSep ((Rd A).duties (barCell c) 0 \ ∅) fun j => (Rd A).payload (barCell c) 0 j)
      = iprop(BarPay (down 0 c) 0 ∗ BarPay (down 1 c) 1) := by
    rw [duties_bar, Finset.sdiff_empty, show Finset.range 2 = {0, 1} by decide]
    rw [bigSep_insert (by decide), bigSep_singleton, pay_bar, pay_bar]
    rfl
  unfold Owes
  iintro ⟨#HI, #Hlev, Hat, Hc, ⟨%W, HO⟩⟩ Hk
  iapply (Rounds.wp_wait_rest_token 𝒱₀ ER (Rd A) (c : Thread nD τ) none (κ := κ (barCell c))
      (wpE_semWait_eq 𝒱₀ (c : Thread nD τ) none Set.univ) (Set.mem_univ _) 0 (O := O) (W := W)
      (R := 0) (m := 0) (T := ∅) (by rw [Nat.zero_add, expect_bar])) $$ [Hc HO Hat]
  · isplitr; · iapply (Inv_bar A κ κs c); iexact HI
    isplitl [Hc]; · iexact Hc
    isplitl [HO]; · iexact HO
    isplitr; · iapply (mayWait_of_above c _ hO (by omega) (le_of_eq (lv_bar c 0))); iexact Hlev
    iexact Hat
  iintro ⟨HO, Hat, -, Hpay⟩
  ihave Hpay := (Entails.of_eq hpay) $$ Hpay
  icases Hpay with ⟨H1, H2⟩
  iapply Hk
  isplitl [Hat]; · iexact Hat
  isplitl [HO]; · iexists _; iexact HO
  isplitl [H1]; · iexact H1
  iexact H2

end Cert.KernelIdeal.Hand
-- ==== Proof.Ops.lean ====
module

public import proofs.«01_k».proof.Proof.Sync

/-! Loading and storing: the windows the pipeline stages, and the slots of the communication buffers. -/

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ U ℕ

theorem rows_inb (k : Fin 4) : ∀ a, (![1024 * k.val, 0] : Fin 2 → ℕ) a + S1024x1024.size a ≤ S4096x1024.size a := by
  have := k.isLt
  intro a
  match a with
  | 0 => show 1024 * k.val + 1024 ≤ 4096; omega
  | 1 => show 0 + 1024 ≤ 1024; omega

theorem cols_inb (k : Fin 2) : ∀ a, (![0, 256 * k.val] : Fin 2 → ℕ) a + S1024x256.size a ≤ S1024x512.size a := by
  have := k.isLt
  intro a
  match a with
  | 0 => show 0 + 1024 ≤ 1024; omega
  | 1 => show 256 * k.val + 256 ≤ 512; omega

/-- The `k`-th quarter of the rows. -/
def rows (k : Fin 4) (X : Vec F S4096x1024 .f32) : Vec F S1024x1024 .f32 :=
  fun x => X ((Rect.unit (s := S4096x1024) ![1024 * k.val, 0] S1024x1024.size (rows_inb k)).idx x)

/-- The `k`-th half of the columns. -/
def cols (k : Fin 2) (W : Vec F S1024x512 .f32) : Vec F S1024x256 .f32 :=
  fun x => W ((Rect.unit (s := S1024x512) ![0, 256 * k.val] S1024x256.size (cols_inb k)).idx x)

variable (c : Dev nD)

/-- A quarter of the rows of a staged window is loaded. -/
theorem wp_loadRows (M : Memref sig .tc .vmem S4096x1024 .f32) (X : Vec F S4096x1024 .f32) (j : Fin 4)
    {o : Fin 2 → ℕ} {inb : ∀ a, o a + S1024x1024.size a ≤ S4096x1024.size a} (ho : o = ![1024 * j.val, 0])
    {hl : M.view.LoadsAt (Rect.unit (s := S4096x1024) o S1024x1024.size inb).toLoadRect}
    {α : Type} {Q : α → sProp 𝕄} {k : Vec F S1024x1024 .f32 → Prog (TpuEff nD τ sig (Elt F) Λ₀ .tc) α} :
    owns (c : Thread nD τ) M fullShare X
      ⊢ iprop((owns (c : Thread nD τ) M fullShare X -∗ wp frame (wpE (defs₀ (F := F)) 𝒱₀ (c : Thread nD τ) none) Set.univ (k (rows j X)) Q)
        -∗ wp frame (wpE (defs₀ (F := F)) 𝒱₀ (c : Thread nD τ) none) Set.univ
          (.op (.load M (Rect.unit (s := S4096x1024) o S1024x1024.size inb).toLoadRect hl) k) Q) := by
  subst ho
  unfold owns
  iintro ⟨%f, %hf, H⟩ Hk
  iapply (wp_load (defs := defs₀ (F := F)) 𝒱₀ (c : Thread nD τ) none Set.univ (m := M) (f := f) (S := M.view.set)
    (View.setOn_subset_set _ _)) $$ H
  iintro H
  subst hf
  iapply Hk
  iexists f
  isplitr; · ipureintro; rfl
  iexact H

/-- A half of the columns of a staged window is loaded. -/
theorem wp_loadCols (M : Memref sig .tc .vmem S1024x512 .f32) (X : Vec F S1024x512 .f32) (j : Fin 2)
    {o : Fin 2 → ℕ} {inb : ∀ a, o a + S1024x256.size a ≤ S1024x512.size a} (ho : o = ![0, 256 * j.val])
    {hl : M.view.LoadsAt (Rect.unit (s := S1024x512) o S1024x256.size inb).toLoadRect}
    {α : Type} {Q : α → sProp 𝕄} {k : Vec F S1024x256 .f32 → Prog (TpuEff nD τ sig (Elt F) Λ₀ .tc) α} :
    owns (c : Thread nD τ) M fullShare X
      ⊢ iprop((owns (c : Thread nD τ) M fullShare X -∗ wp frame (wpE (defs₀ (F := F)) 𝒱₀ (c : Thread nD τ) none) Set.univ (k (cols j X)) Q)
        -∗ wp frame (wpE (defs₀ (F := F)) 𝒱₀ (c : Thread nD τ) none) Set.univ
          (.op (.load M (Rect.unit (s := S1024x512) o S1024x256.size inb).toLoadRect hl) k) Q) := by
  subst ho
  unfold owns
  iintro ⟨%f, %hf, H⟩ Hk
  iapply (wp_load (defs := defs₀ (F := F)) 𝒱₀ (c : Thread nD τ) none Set.univ (m := M) (f := f) (S := M.view.set)
    (View.setOn_subset_set _ _)) $$ H
  iintro H
  subst hf
  iapply Hk
  iexists f
  isplitr; · ipureintro; rfl
  iexact H

theorem cols_disjoint {i j : Fin 2} (h : i ≠ j) :
    Disjoint (Rect.unit (s := S1024x512) ![0, 256 * i.val] S1024x256.size (cols_inb i)).set
      (Rect.unit (s := S1024x512) ![0, 256 * j.val] S1024x256.size (cols_inb j)).set :=
  Rect.unit_disjoint 1 (by
    show 256 * i.val + 256 ≤ 256 * j.val ∨ 256 * j.val + 256 ≤ 256 * i.val
    have : i.val ≠ j.val := fun e => h (Fin.ext e)
    omega)

abbrev colR (j : Fin 2) : Rect S1024x512 := Rect.unit (s := S1024x512) ![0, 256 * j.val] S1024x256.size (cols_inb j)

theorem cols_write_same (M : Memref sig .tc .vmem S1024x512 .f32) (f : M.view.ty.Contents (Elt F)) (j : Fin 2) (w : (colR j).shape.Idx → Elt F .f32) :
    cols j (M.view.read (Elt F) ((M.view.slice (colR j)).write (Elt F) f w Finset.univ)) = w :=
  View.read_write_univ (v := M.view.slice (colR j)) f w

theorem cols_write_other (M : Memref sig .tc .vmem S1024x512 .f32) (f : M.view.ty.Contents (Elt F)) {i j : Fin 2} (h : i ≠ j)
    (w : (colR j).shape.Idx → Elt F .f32) :
    cols i (M.view.read (Elt F) ((M.view.slice (colR j)).write (Elt F) f w Finset.univ)) = cols i (M.view.read (Elt F) f) := by
  have hd : Disjoint (M.view.slice (colR i)).set ((M.view.slice (colR j)).setOn Finset.univ) := by
    rw [View.setOn_univ, View.set_slice, View.set_slice, Finset.disjoint_map]
    exact cols_disjoint h
  have := View.read_slice_write_slice_of_disjoint (v := M.view) (Val := Elt F) (colR i) (colR j) f w Finset.univ hd
  exact this

/-- A half of the columns of a staged window is stored: the other half is as before. -/
theorem wp_storeCols (M : Memref sig .tc .vmem S1024x512 .f32) (X : Vec F S1024x512 .f32) (j : Fin 2)
    {o : Fin 2 → ℕ} {inb : ∀ a, o a + S1024x256.size a ≤ S1024x512.size a} (ho : o = ![0, 256 * j.val])
    {w : Vec F S1024x256 .f32}
    {hx : (M.access (Rect.unit (s := S1024x512) o S1024x256.size inb)).Stores Finset.univ}
    {hm : (Finset.univ : Finset (Rect.unit (s := S1024x512) o S1024x256.size inb).shape.Idx) = Finset.univ
      ∨ ∀ a, (Rect.unit (s := S1024x512) o S1024x256.size inb).stride a = 1}
    {α : Type} {Q : α → sProp 𝕄} {k : PUnit → Prog (TpuEff nD τ sig (Elt F) Λ₀ .tc) α} :
    owns (c : Thread nD τ) M fullShare X
      ⊢ iprop((∀ X' : Vec F S1024x512 .f32, ⌜cols j X' = w ∧ ∀ i, i ≠ j → cols i X' = cols i X⌝ -∗ owns (c : Thread nD τ) M fullShare X'
          -∗ wp frame (wpE (defs₀ (F := F)) 𝒱₀ (c : Thread nD τ) none) Set.univ (k ⟨⟩) Q)
        -∗ wp frame (wpE (defs₀ (F := F)) 𝒱₀ (c : Thread nD τ) none) Set.univ
          (.op (.store M (Rect.unit (s := S1024x512) o S1024x256.size inb) w Finset.univ hx hm) k) Q) := by
  subst ho
  unfold owns
  iintro ⟨%f, %hf, H⟩ Hk
  iapply (wp_store (defs := defs₀ (F := F)) 𝒱₀ (c : Thread nD τ) none Set.univ (m := M) (r := Rect.unit (s := S1024x512) ![0, 256 * j.val] S1024x256.size (cols_inb j)) (f := f) (S := M.view.set)
    (by rw [View.setOn_univ, View.set_slice]; exact View.setOn_subset_set _ _)) $$ H
  iintro H
  iapply Hk $$ %(M.view.read (Elt F) ((M.access (Rect.unit (s := S1024x512) ![0, 256 * j.val] S1024x256.size inb)).write (Elt F) f w Finset.univ)) %_ [H]
  · constructor
    · exact cols_write_same M f j w
    · intro i hi
      subst hf
      exact cols_write_other M f hi w
  · iexists _
    isplitr; · ipureintro; rfl
    iexact H

/-- A slot is loaded. -/
theorem wp_slotload (d : Fin 2) (t h : ℕ) (v : FVec F S1x1x1024x256 .bf16)
    {o : Fin 4 → ℕ} {inb : ∀ a, o a + S1x1x1024x256.size a ≤ S4x4x1024x256.size a} (ho : o = slotOff t h)
    {hl : (bufM d).view.LoadsAt (Rect.unit (s := S4x4x1024x256) o S1x1x1024x256.size inb).toLoadRect}
    {α : Type} {Q : α → sProp 𝕄} {k : Vec F S1x1x1024x256 .bf16 → Prog (TpuEff nD τ sig (Elt F) Λ₀ .tc) α} :
    slotHas c d t h v
      ⊢ iprop((slotHas c d t h v -∗ wp frame (wpE (defs₀ (F := F)) 𝒱₀ (c : Thread nD τ) none) Set.univ (k v) Q)
        -∗ wp frame (wpE (defs₀ (F := F)) 𝒱₀ (c : Thread nD τ) none) Set.univ
          (.op (.load (bufM d) (Rect.unit (s := S4x4x1024x256) o S1x1x1024x256.size inb).toLoadRect hl) k) Q) := by
  subst ho
  unfold slotHas
  iintro ⟨%f, %hf, H⟩ Hk
  iapply (wp_load (defs := defs₀ (F := F)) 𝒱₀ (c : Thread nD τ) none Set.univ (m := bufM d) (f := f) (S := slotSet d t h)
    (slotSet_load d t h)) $$ H
  iintro H
  subst hf
  iapply Hk
  iexists f
  isplitr; · ipureintro; rfl
  iexact H

/-- A slot is loaded, whatever it holds. -/
theorem wp_slotpeek (d : Fin 2) (t h : ℕ)
    {o : Fin 4 → ℕ} {inb : ∀ a, o a + S1x1x1024x256.size a ≤ S4x4x1024x256.size a} (ho : o = slotOff t h)
    {hl : (bufM d).view.LoadsAt (Rect.unit (s := S4x4x1024x256) o S1x1x1024x256.size inb).toLoadRect}
    {α : Type} {Q : α → sProp 𝕄} {k : Vec F S1x1x1024x256 .bf16 → Prog (TpuEff nD τ sig (Elt F) Λ₀ .tc) α} :
    slotAny c d t h
      ⊢ iprop((∀ v, slotAny c d t h -∗ wp frame (wpE (defs₀ (F := F)) 𝒱₀ (c : Thread nD τ) none) Set.univ (k v) Q)
        -∗ wp frame (wpE (defs₀ (F := F)) 𝒱₀ (c : Thread nD τ) none) Set.univ
          (.op (.load (bufM d) (Rect.unit (s := S4x4x1024x256) o S1x1x1024x256.size inb).toLoadRect hl) k) Q) := by
  subst ho
  unfold slotAny Release.slot
  iintro ⟨%f, H⟩ Hk
  iapply (wp_load (defs := defs₀ (F := F)) 𝒱₀ (c : Thread nD τ) none Set.univ (m := bufM d) (f := f) (S := slotSet d t h)
    (slotSet_load d t h)) $$ H
  iintro H
  iapply Hk $$ %_ [H]
  iexists f
  iexact H

/-- A slot is stored. -/
theorem wp_slotstore (d : Fin 2) (t h : ℕ) (w : FVec F S1x1x1024x256 .bf16)
    {o : Fin 4 → ℕ} {inb : ∀ a, o a + S1x1x1024x256.size a ≤ S4x4x1024x256.size a} (ho : o = slotOff t h)
    {hx : ((bufM d).access (Rect.unit (s := S4x4x1024x256) o S1x1x1024x256.size inb)).Stores Finset.univ}
    {hm : (Finset.univ : Finset (Rect.unit (s := S4x4x1024x256) o S1x1x1024x256.size inb).shape.Idx) = Finset.univ
      ∨ ∀ a, (Rect.unit (s := S4x4x1024x256) o S1x1x1024x256.size inb).stride a = 1}
    {α : Type} {Q : α → sProp 𝕄} {k : PUnit → Prog (TpuEff nD τ sig (Elt F) Λ₀ .tc) α} :
    slotAny c d t h
      ⊢ iprop((slotHas c d t h w -∗ wp frame (wpE (defs₀ (F := F)) 𝒱₀ (c : Thread nD τ) none) Set.univ (k ⟨⟩) Q)
        -∗ wp frame (wpE (defs₀ (F := F)) 𝒱₀ (c : Thread nD τ) none) Set.univ
          (.op (.store (bufM d) (Rect.unit (s := S4x4x1024x256) o S1x1x1024x256.size inb) w Finset.univ hx hm) k) Q) := by
  subst ho
  unfold slotAny Release.slot slotHas
  iintro ⟨%f, H⟩ Hk
  iapply (wp_store (defs := defs₀ (F := F)) 𝒱₀ (c : Thread nD τ) none Set.univ (m := bufM d) (r := slotR t h) (f := f) (S := slotSet d t h)
    (slotSet_store d t h)) $$ H
  iintro H
  iapply Hk
  iexists _
  isplitr
  · ipureintro
    exact View.read_write_univ (v := (bufM d).access (slotR t h)) f w
  iexact H

end Cert.KernelIdeal.Hand
-- ==== Proof.Contents.lean ====
module

public import proofs.«01_k».proof.Proof.Ops
public import proofs.«01_k».proof.Proof.Gen.KernelIdeal.Skeleton

/-! What each lane carries: tile `t` of what hop `h` brings device `c` on. -/

@[expose] public section

noncomputable section

namespace Cert.KernelIdeal.Hand

open Idealize.ShloMosaic Idealize.ShloMosaic.TcCoe Cert.KernelIdeal Cert.KernelIdeal.Gen

variable {F : FTy → Type} [FloatOps F]

/-- The running sum device `c` sends at hop `h` for tile `t`, each device `c` holding the columns `X c` of the left array
and, tile by tile, the rows `W c` of the right one. -/
def sums (X : Dev nD → Vec F S4096x1024 .f32) (W : Dev nD → ℕ → Vec F S1024x512 .f32) : Cont F := fun d h c t =>
  match d, h with
  | 0, 0 => k0_pay1 (rows (c + 3 : Fin 4) (X c)) (cols 0 (W c t))
  | 0, 1 => k0_pay2 (rows (c + 2 : Fin 4) (X c)) (cols 0 (W c t)) (k0_pay1 (rows (up 0 c + 3 : Fin 4) (X (up 0 c))) (cols 0 (W (up 0 c) t)))
  | 0, _ => k0_pay4 (rows (c + 1 : Fin 4) (X c)) (cols 0 (W c t))
      (k0_pay2 (rows (up 0 c + 2 : Fin 4) (X (up 0 c))) (cols 0 (W (up 0 c) t))
        (k0_pay1 (rows (up 0 (up 0 c) + 3 : Fin 4) (X (up 0 (up 0 c)))) (cols 0 (W (up 0 (up 0 c)) t))))
  | 1, 0 => k0_pay8 (rows (c + 1 : Fin 4) (X c)) (cols 1 (W c t))
  | 1, 1 => k0_pay9 (k0_pay3 (rows (c + 2 : Fin 4) (X c)) (cols 1 (W c t))) (k0_pay8 (rows (up 1 c + 1 : Fin 4) (X (up 1 c))) (cols 1 (W (up 1 c) t)))
  | 1, _ => k0_pay10 (k0_pay5 (rows (c + 3 : Fin 4) (X c)) (cols 1 (W c t)))
      (k0_pay9 (k0_pay3 (rows (up 1 c + 2 : Fin 4) (X (up 1 c))) (cols 1 (W (up 1 c) t)))
        (k0_pay8 (rows (up 1 (up 1 c) + 1 : Fin 4) (X (up 1 (up 1 c)))) (cols 1 (W (up 1 (up 1 c)) t))))

variable (X : Dev nD → Vec F S4096x1024 .f32) (W : Dev nD → ℕ → Vec F S1024x512 .f32)

/-- The half of the result tile `t` of device `c` that comes by direction `d`. -/
def outs (d : Fin 2) (c : Dev nD) (t : ℕ) : Vec F S1024x256 .f32 :=
  match d with
  | 0 => k0_pay6 (rows (c + 0 : Fin 4) (X c)) (cols 0 (W c t)) (sums X W 0 2 (up 0 c) t)
  | 1 => k0_pay11 (k0_pay7 (rows (c + 0 : Fin 4) (X c)) (cols 1 (W c t))) (sums X W 1 2 (up 1 c) t)

theorem sums_00 (c : Dev nD) (t : ℕ) : k0_pay1 (rows (c + 3 : Fin 4) (X c)) (cols 0 (W c t)) = sums X W 0 0 c t := rfl
theorem sums_01 (c : Dev nD) (t : ℕ) :
    k0_pay2 (rows (c + 2 : Fin 4) (X c)) (cols 0 (W c t)) (sums X W 0 0 (up 0 c) t) = sums X W 0 1 c t := rfl
theorem sums_02 (c : Dev nD) (t : ℕ) :
    k0_pay4 (rows (c + 1 : Fin 4) (X c)) (cols 0 (W c t)) (sums X W 0 1 (up 0 c) t) = sums X W 0 2 c t := rfl
theorem sums_10 (c : Dev nD) (t : ℕ) : k0_pay8 (rows (c + 1 : Fin 4) (X c)) (cols 1 (W c t)) = sums X W 1 0 c t := rfl
theorem sums_11 (c : Dev nD) (t : ℕ) :
    k0_pay9 (k0_pay3 (rows (c + 2 : Fin 4) (X c)) (cols 1 (W c t))) (sums X W 1 0 (up 1 c) t) = sums X W 1 1 c t := rfl
theorem sums_12 (c : Dev nD) (t : ℕ) :
    k0_pay10 (k0_pay5 (rows (c + 3 : Fin 4) (X c)) (cols 1 (W c t))) (sums X W 1 1 (up 1 c) t) = sums X W 1 2 c t := rfl

end Cert.KernelIdeal.Hand
-- ==== Proof.Stage.lean ====
module

public import proofs.«01_k».proof.Proof.Contents

/-! The stages of a step: what each does to its lane. -/

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ U ℕ

/-- How many tiles hop `h` has sent before step `n`, how many of those sends were awaited, and how many tiles it has
received. -/
abbrev snt (h n : ℕ) : ℕ := min (n - h) 16
abbrev swt (h n : ℕ) : ℕ := min (n - h - 2) 14
abbrev rcd (h n : ℕ) : ℕ := min (n - h - 1) 16
/-- How many tiles of hop `h` a device is done with before step `n`. -/
abbrev dne (h n : ℕ) : ℕ := if h < 2 then swt (h + 1) n else min (n - 3) 16

variable (A : Cont F) (κ : GSem nD τ sig → ℕ) (κs : Key → ℕ)

/-- What a send awaited at step `n` gives back. -/
def back (c : Dev nD) (d : Fin 2) (h n : ℕ) : sProp 𝕄 :=
  if h + 2 ≤ n then slotAny c d (n - h - 2) (srcH h) else iprop(emp)

theorem Src_back (c : Dev nD) (d : Fin 2) {n : ℕ} (hn : n < 16) :
    iprop(Src (F := F) c d (snt 0 n) (swt 0 n) ∗ back c d 0 n) ⊢ Src c d (snt 0 n) (swt 0 (n + 1)) := by
  unfold back
  by_cases h : 2 ≤ n
  · rw [if_pos (by omega)]
    have e1 : n - 0 - 2 = swt 0 n := by show _ = min _ _; omega
    have e2 : swt 0 (n + 1) = swt 0 n + 1 := by show min _ _ = min _ _ + 1; omega
    rw [e1, e2]
    exact Src_put c d (by show min _ _ - min _ _ ≤ _; omega) (by show min _ _ < min _ _; omega)
  · rw [if_neg (by omega)]
    have e2 : swt 0 (n + 1) = swt 0 n := by show min _ _ = min _ _; omega
    rw [e2]
    iintro ⟨H, -⟩; iexact H

theorem Slt_back (c : Dev nD) (d : Fin 2) {h n : ℕ} (hh : h < 2) (hn : h + 1 ≤ n) (hn' : n < 17 + h) :
    iprop(Inv A κ κs ∗ Slt (F := F) c d h (dne h n) ∗ back c d (h + 1) n) ⊢ |={Set.univ}=> Slt c d h (dne h (n + 1)) := by
  unfold back dne
  rw [if_pos hh, if_pos hh]
  by_cases h2 : h + 1 + 2 ≤ n
  · rw [if_pos h2]
    have e1 : n - (h + 1) - 2 = swt (h + 1) n := by show _ = min _ _; omega
    have e2 : swt (h + 1) (n + 1) = swt (h + 1) n + 1 := by show min _ _ = min _ _ + 1; omega
    have e3 : srcH (h + 1) = h := by rcases (by omega : h = 0 ∨ h = 1) with rfl | rfl <;> rfl
    rw [e1, e2, e3]
    exact Slt_done A κ κs c d (by omega) (by show min _ _ < _; omega)
  · rw [if_neg h2]
    have e2 : swt (h + 1) (n + 1) = swt (h + 1) n := by show min _ _ = min _ _; omega
    rw [e2]
    iintro ⟨-, H, -⟩; imodintro; iexact H

theorem slot_credit (d : Fin 2) (o : Fin 4 → ℕ) (inb : ∀ a, o a + S1x1x1024x256.size a ≤ S4x4x1024x256.size a) :
    (((bufM d).slice (Rect.unit (s := S4x4x1024x256) o S1x1x1024x256.size inb) (fun _ => rfl)).squeeze S1024x256
      squeezes_S1x1x1024x256_S1024x256).view.dmaCredit = unitsN := by
  fin_cases d <;> rfl

/-- The awaiting of a send, where the step has one to await. -/
theorem wp_condwait (c : Dev nD) (d : Fin 2) {h n : ℕ} (hh : h < 3) (hn : h ≤ n) (hn' : n < 16 + h)
    {P : Prop} [Decidable P] (hP : P ↔ h + 2 ≤ n) {o : P → Fin 2 → ℕ} {inb : ∀ (p : P) x, o p x + S1x1.size x ≤ S2x3.size x}
    (ho : ∀ p, o p = semOff (n - h) h)
    {src dst : P → Memref sig .tc .vmem S1024x256 .bf16} {h1 : ∀ p, (src p).view.WordExact} {h2 : ∀ p, (dst p).view.WordExact}
    (hd : ∀ p, (dst p).view.dmaCredit = unitsN) {O : CellTallies nD τ sig ℕ} (hO : Above 0 O)
    {α : Type} {k : Prog (TpuEff nD τ sig (Elt F) Λ₀ .tc) α} {Q : α → sProp 𝕄} :
    iprop(Inv A κ κs ∗ levAts L lv ∗ Snd c d h (snt h n) (swt h n) ∗ Owes c O)
      ⊢ iprop((iprop(Snd c d h (snt h n) (swt h (n + 1)) ∗ Owes c O ∗ back c d h n)
          -∗ wp frame (wpE (defs₀ (F := F)) 𝒱₀ (c : Thread nD τ) none) Set.univ k Q)
        -∗ wp frame (wpE (defs₀ (F := F)) 𝒱₀ (c : Thread nD τ) none) Set.univ
          (if p : P then Prog.op (.waitDma2 (((sndArr d).slice (Rect.unit (s := S2x3) (o p) S1x1.size (inb p))).squeeze S_ squeezes_S1x1_S_).sem
            (src p) (dst p) (h1 p) (h2 p)) (fun _ => k) else k) Q) := by
  by_cases p : P
  · have h3 : h + 2 ≤ n := hP.mp p
    have e2 : swt h (n + 1) = swt h n + 1 := by show min _ _ = min _ _ + 1; omega
    have e3 : n - h - 2 = swt h n := by show _ = min _ _; omega
    rw [dif_pos p, e2]
    unfold back
    rw [if_pos h3, e3]
    exact wp_sndwait A κ κs c d (a := snt h n) (w := swt h n) (k := fun _ => k) hh (by show min _ _ < min _ _; omega) (by show min _ _ ≤ _; omega)
      ((ho p).trans (by
        show (![_, _] : Fin 2 → ℕ) = ![_, _]
        have : (n - h) % 2 = (swt h n) % 2 := by show _ = min _ _ % 2; omega
        rw [this])) (hd p) hO
  · have h3 : ¬ h + 2 ≤ n := fun q => p (hP.mpr q)
    have e2 : swt h (n + 1) = swt h n := by show min _ _ = min _ _; omega
    rw [dif_neg p, e2]
    unfold back
    rw [if_neg h3]
    iintro ⟨-, -, HS, HO⟩ Hk
    iapply Hk
    isplitl [HS]; · iexact HS
    isplitl [HO]; · iexact HO
    iempintro

theorem payH_at (d : Fin 2) {h n : ℕ} (c : Dev nD) (h1 : h ≤ n) (h2 : n < 16 + h) :
    payH d h n c = tallyAt (rcvCell (down d c) d (n - h) h) (n - h + h) unitsN := by
  unfold payH
  rw [if_pos ⟨h1, h2⟩, (by omega : n - h + h = n)]

/-- The send of step `n`. -/
theorem wp_sendat (c : Dev nD) (d : Fin 2) {h n : ℕ} (hh : h < 3) (hn : h ≤ n) (hn' : n < 16 + h)
    {o o' : Fin 2 → ℕ} {inb : ∀ x, o x + S1x1.size x ≤ S2x3.size x} {inb' : ∀ x, o' x + S1x1.size x ≤ S2x3.size x}
    (ho : o = semOff (n - h) h) (ho' : o' = semOff (n - h) h)
    {os od : Fin 4 → ℕ} {is : ∀ x, os x + S1x1x1024x256.size x ≤ S4x4x1024x256.size x}
    {id : ∀ x, od x + S1x1x1024x256.size x ≤ S4x4x1024x256.size x} (hos : os = slotOff (n - h) (srcH h)) (hod : od = slotOff (n - h) h)
    {e : Dev nD} (he : e = down d c) {O : CellTallies nD τ sig ℕ} {v : FVec F S1x1x1024x256 .bf16} (hv : v = A d h c (n - h))
    {hsc : (((bufM d).slice (Rect.unit (s := S4x4x1024x256) od S1x1x1024x256.size id) (fun _ => rfl)).squeeze S1024x256 squeezes_S1x1x1024x256_S1024x256).view.ref.isScScratch = false}
    {h1 h2 h3}
    {α : Type} {k : PUnit → Prog (TpuEff nD τ sig (Elt F) Λ₀ .tc) α} {Q : α → sProp 𝕄} :
    iprop(Inv A κ κs ∗ ReadyAt (down d c) d n ∗ Snd c d h (snt h n) (swt h (n + 1)) ∗ Owes c (O + payH d h n c) ∗ slotHas c d (n - h) (srcH h) v)
      ⊢ iprop((iprop(Snd c d h (snt h (n + 1)) (swt h (n + 1)) ∗ Owes c O) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (((bufM d).slice (Rect.unit (s := S4x4x1024x256) os S1x1x1024x256.size is) (fun _ => rfl)).squeeze S1024x256 squeezes_S1x1x1024x256_S1024x256)
            (.remote (Dev.tc e) (((bufM d).slice (Rect.unit (s := S4x4x1024x256) od S1x1x1024x256.size id) (fun _ => rfl)).squeeze S1024x256 squeezes_S1x1x1024x256_S1024x256)
              (.dma (((sndArr d).slice (Rect.unit (s := S2x3) o S1x1.size inb)).squeeze S_ squeezes_S1x1_S_).sem) hsc)
            (.dma (((rcvArr d).slice (Rect.unit (s := S2x3) o' S1x1.size inb')).squeeze S_ squeezes_S1x1_S_).sem) h1 h2 h3) k) Q) := by
  have a1 : snt h n = n - h := by show min _ _ = _; omega
  have a2 : snt h (n + 1) = n - h + 1 := by show min _ _ = _; omega
  rw [a1, a2, payH_at d c hn hn']
  unfold slotHas
  iintro ⟨#HI, #HR, HS, HO, ⟨%f, %hf, Hslot⟩⟩ Hk
  iapply (wp_sendhop A κ κs c d (h := h) (a := n - h) (w := swt h (n + 1)) (f := f) (O := O)
    (O₀ := O + tallyAt (rcvCell (down d c) d (n - h) h) (n - h + h) unitsN) hh (by omega) (by show min _ _ ≤ _; omega)
    (by show _ ≤ min _ _ + 1; omega) ho ho' hos hod he (hf.trans hv) rfl) $$ [HS HO Hslot]
  · isplitr; · iexact HI
    isplitr; · iapply (ReadyAt_hop (F := F) (down d c) d hh hn (by omega)); iexact HR
    isplitl [HS]; · iexact HS
    isplitl [HO]; · iexact HO
    iexact Hslot
  iexact Hk

/-- The receive of step `n`. -/
theorem wp_rcvat (c : Dev nD) (d : Fin 2) {g n : ℕ} (hg : g < 3) (hn : g + 1 ≤ n) (hn' : n < 17 + g)
    {o : Fin 2 → ℕ} {inb : ∀ x, o x + S1x1.size x ≤ S2x3.size x} (ho : o = semOff (n - (g + 1)) g)
    {src dst : Memref sig .tc .vmem S1024x256 .bf16} {h1 : src.view.WordExact} {h2 : dst.view.WordExact}
    (hd : dst.view.dmaCredit = unitsN) {O : CellTallies nD τ sig ℕ} (hO : Above (n + 1) O)
    {α : Type} {k : PUnit → Prog (TpuEff nD τ sig (Elt F) Λ₀ .tc) α} {Q : α → sProp 𝕄} :
    iprop(Inv A κ κs ∗ levAts L lv ∗ Rcv c d g (rcd g n) ∗ Owes c O)
      ⊢ iprop((iprop(Rcv c d g (rcd g (n + 1)) ∗ Owes c O ∗ slotHas c d (n - (g + 1)) g (A d g (up d c) (n - (g + 1))))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 (((rcvArr d).slice (Rect.unit (s := S2x3) o S1x1.size inb)).squeeze S_ squeezes_S1x1_S_).sem src dst h1 h2) k) Q) := by
  have a1 : rcd g n = n - (g + 1) := by show min _ _ = _; omega
  have a2 : rcd g (n + 1) = n - (g + 1) + 1 := by show min _ _ = _; omega
  rw [a1, a2]
  exact wp_rcvwait A κ κs c d hg (by omega) ho hd (hO.mono (by omega))

end Cert.KernelIdeal.Hand
-- ==== Proof.Parts.lean ====
module
public import proofs.«01_k».proof.Proof.Stage
public import proofs.«01_k».proof.Proof.Contents
/-! # The four stages of a step

What each stage of a step does to what its device has. -/
@[expose] public section
noncomputable section
namespace Cert.KernelIdeal.Hand
open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
variable {F : FTy → Type} [FloatOps F]
local notation "𝕄" => MT nD τ sig ℕ (Elt F) ℕ U ℕ

variable (κ : GSem nD τ sig → ℕ) (κs : Key → ℕ) (X : Dev nD → Vec F S4096x1024 .f32) (W : Dev nD → ℕ → Vec F S1024x512 .f32)

/-- What a device has for hop 0 of direction `d`. -/
def Ln0 (c : Dev nD) (d : Fin 2) (n : ℕ) : sProp 𝕄 :=
  iprop(Snd c d 0 (snt 0 n) (swt 0 n) ∗ Src c d (snt 0 n) (swt 0 n))

/-- What a device has for the arrival of hop `g` of direction `d` and the next hop's departure. -/
def LnM (c : Dev nD) (d : Fin 2) (g n : ℕ) : sProp 𝕄 :=
  iprop(Rcv c d g (rcd g n) ∗ Snd c d (g + 1) (snt (g + 1) n) (swt (g + 1) n) ∗ Slt c d g (dne g n))

/-- The same between the arrival and the departure. -/
def LnH (c : Dev nD) (d : Fin 2) (g n : ℕ) : sProp 𝕄 :=
  iprop(Rcv c d g (rcd g (n + 1)) ∗ Snd c d (g + 1) (snt (g + 1) n) (swt (g + 1) (n + 1)) ∗ Slt c d g (dne g (n + 1)))

/-- What a device has for the last arrival of direction `d`. -/
def Ln3 (c : Dev nD) (d : Fin 2) (n : ℕ) : sProp 𝕄 :=
  iprop(Rcv c d 2 (rcd 2 n) ∗ Slt c d 2 (dne 2 n))

/-- What the left direction's part of stage 0 does, after the part shared with the right one. -/
def tail0 (i : grid0.Coords) (arg1 : Memref sig .tc .vmem S4096x1024 .f32) (arg2 arg6 : Memref sig .tc .vmem S1024x512 .f32) (harg8 : (Memref.whole cc0_scratch1 : Memref sig .tc _ _ _).IsWhole) (d0 : Dev nD) (k0_h3 : k0_cond3 i = 1#1) :
    Prog (TpuEff nD τ sig (Elt F) Λ₀ .tc) PUnit := do
  if k0_h5 : k0_cond5 i = 1#1 then do
    let v267 : DmaSems sig S1x1 := cc0_scratch4.slice (Rect.unit (s := S2x3) (k0_off9 i) S1x1.size (k0_off9_inb i k0_h3 k0_h5))
    let v268 : DmaSems sig S_ := v267.squeeze S_ squeezes_S1x1_S_
    let v269 : Memref sig .tc .vmem S1x1x1024x256 .bf16 := (Memref.whole cc0_scratch1).slice (Rect.unit (s := S4x4x1024x256) (k0_off10 i) S1x1x1024x256.size (k0_off10_inb i k0_h3 k0_h5)) (fun _ => rfl)
    let v270 : Memref sig .tc .vmem S1024x256 .bf16 := v269.squeeze S1024x256 squeezes_S1x1x1024x256_S1024x256
    let v271 : Memref sig .tc .vmem S1x1x1024x256 .bf16 := (Memref.whole cc0_scratch1).slice (Rect.unit (s := S4x4x1024x256) (k0_off11 i) S1x1x1024x256.size (k0_off11_inb i k0_h3 k0_h5)) (fun _ => rfl)
    let v272 : Memref sig .tc .vmem S1024x256 .bf16 := v271.squeeze S1024x256 squeezes_S1x1x1024x256_S1024x256
    Prog.lift (.waitDma2 v268.sem v272 v270 ((harg8.wordExact_slice rfl _ (k0_off11_wordsbf16 i k0_h3 k0_h5)).reshape _ _) ((harg8.wordExact_slice rfl _ (k0_off10_wordsbf16 i k0_h3 k0_h5)).reshape _ _))
    pure ⟨⟩
  else do
    pure ⟨⟩
  let v247 : Vec F S1024x1024 .f32 ← Prog.lift (.load arg1 (Rect.unit (s := S4096x1024) (k0_off4 d0 1#32) S1024x1024.size (k0_off4_inb i d0 k0_h3 0)).toLoadRect (View.loadsAt_vmem h_S1024x1024))
  let v249 : Vec F S1024x256 .f32 ← Prog.lift (.load arg2 (Rect.unit (s := S1024x512) ![0, 256] S1024x256.size inb_S1024x512_S1024x256_0_256).toLoadRect (View.loadsAt_vmem h_S1024x256))
  let v254 : Vec F S1x1x1024x256 .bf16 ← Prog.lift (.load (Memref.whole cc0_scratch1) (Rect.unit (s := S4x4x1024x256) (k0_off5 i) S1x1x1024x256.size (k0_off5_inb i k0_h3)).toLoadRect (View.loadsAt_vmem h_S1x1x1024x256))
  Prog.lift (.store (Memref.whole cc0_scratch1) (Rect.unit (s := S4x4x1024x256) (k0_off5 i) S1x1x1024x256.size (k0_off5_inb i k0_h3)) (k0_pay8 v247 v249) Finset.univ (View.stores_vmem h_S1x1x1024x256 (harg8.storeExact_slice rfl _ (k0_off5_packedbf16 i k0_h3)) (fun _ => rfl)) (.inl rfl))
  let v259 : DmaSems sig S1x1 := cc0_scratch4.slice (Rect.unit (s := S2x3) (k0_off6 i) S1x1.size (k0_off6_inb i k0_h3))
  let v260 : DmaSems sig S_ := v259.squeeze S_ squeezes_S1x1_S_
  let v261 : DmaSems sig S1x1 := cc0_scratch5.slice (Rect.unit (s := S2x3) (k0_off6 i) S1x1.size (k0_off6_inb i k0_h3))
  let v262 : DmaSems sig S_ := v261.squeeze S_ squeezes_S1x1_S_
  let v263 : Memref sig .tc .vmem S1x1x1024x256 .bf16 := (Memref.whole cc0_scratch1).slice (Rect.unit (s := S4x4x1024x256) (k0_off7 i) S1x1x1024x256.size (k0_off7_inb i k0_h3)) (fun _ => rfl)
  let v264 : Memref sig .tc .vmem S1024x256 .bf16 := v263.squeeze S1024x256 squeezes_S1x1x1024x256_S1024x256
  let v265 : Memref sig .tc .vmem S1x1x1024x256 .bf16 := (Memref.whole cc0_scratch1).slice (Rect.unit (s := S4x4x1024x256) (k0_off8 i) S1x1x1024x256.size (k0_off8_inb i k0_h3)) (fun _ => rfl)
  let v266 : Memref sig .tc .vmem S1024x256 .bf16 := v265.squeeze S1024x256 squeezes_S1x1x1024x256_S1024x256
  Prog.lift (.enqueueDma v266 (.remote (Dev.tc (⟨k0_dev4 d0, k0_dev4_lt i d0 k0_h3⟩ : Dev nD)) v264 (.dma v260.sem)) (.dma v262.sem) ((harg8.wordExact_slice rfl _ (k0_off8_wordsbf16 i k0_h3)).reshape _ _) ((harg8.wordExact_slice rfl _ (k0_off7_wordsbf16 i k0_h3)).reshape _ _) ⟨⟨rfl, Or.inl rfl⟩, trivial⟩)
  pure ⟨⟩

/-- What the left direction's part of stage 1 does, after the part shared with the right one. -/
def tail1 (i : grid0.Coords) (arg1 : Memref sig .tc .vmem S4096x1024 .f32) (arg2 arg6 : Memref sig .tc .vmem S1024x512 .f32) (harg8 : (Memref.whole cc0_scratch1 : Memref sig .tc _ _ _).IsWhole) (d0 : Dev nD) (v261 : FVec F S1024x256 .f32) (k0_h6 : k0_cond6 i = 1#1) :
    Prog (TpuEff nD τ sig (Elt F) Λ₀ .tc) PUnit := do
  let v274 : Vec F S1x1x1024x256 .bf16 ← Prog.lift (.load (Memref.whole cc0_scratch1) (Rect.unit (s := S4x4x1024x256) (k0_off18 i) S1x1x1024x256.size (k0_off18_inb i k0_h6)).toLoadRect (View.loadsAt_vmem h_S1x1x1024x256))
  let v280 : Vec F S1x1x1024x256 .bf16 ← Prog.lift (.load (Memref.whole cc0_scratch1) (Rect.unit (s := S4x4x1024x256) (k0_off18 i) S1x1x1024x256.size (k0_off18_inb i k0_h6)).toLoadRect (View.loadsAt_vmem h_S1x1x1024x256))
  Prog.lift (.store (Memref.whole cc0_scratch1) (Rect.unit (s := S4x4x1024x256) (k0_off18 i) S1x1x1024x256.size (k0_off18_inb i k0_h6)) (k0_pay9 v261 v274) Finset.univ (View.stores_vmem h_S1x1x1024x256 (harg8.storeExact_slice rfl _ (k0_off18_packedbf16 i k0_h6)) (fun _ => rfl)) (.inl rfl))
  let v285 : DmaSems sig S1x1 := cc0_scratch4.slice (Rect.unit (s := S2x3) (k0_off19 i) S1x1.size (k0_off19_inb i k0_h6))
  let v286 : DmaSems sig S_ := v285.squeeze S_ squeezes_S1x1_S_
  let v287 : DmaSems sig S1x1 := cc0_scratch5.slice (Rect.unit (s := S2x3) (k0_off19 i) S1x1.size (k0_off19_inb i k0_h6))
  let v288 : DmaSems sig S_ := v287.squeeze S_ squeezes_S1x1_S_
  let v289 : Memref sig .tc .vmem S1x1x1024x256 .bf16 := (Memref.whole cc0_scratch1).slice (Rect.unit (s := S4x4x1024x256) (k0_off20 i) S1x1x1024x256.size (k0_off20_inb i k0_h6)) (fun _ => rfl)
  let v290 : Memref sig .tc .vmem S1024x256 .bf16 := v289.squeeze S1024x256 squeezes_S1x1x1024x256_S1024x256
  let v291 : Memref sig .tc .vmem S1x1x1024x256 .bf16 := (Memref.whole cc0_scratch1).slice (Rect.unit (s := S4x4x1024x256) (k0_off14 i) S1x1x1024x256.size (k0_off14_inb i k0_h6)) (fun _ => rfl)
  let v292 : Memref sig .tc .vmem S1024x256 .bf16 := v291.squeeze S1024x256 squeezes_S1x1x1024x256_S1024x256
  Prog.lift (.enqueueDma v292 (.remote (Dev.tc (⟨k0_dev6 d0, k0_dev6_lt i d0 k0_h6⟩ : Dev nD)) v290 (.dma v286.sem)) (.dma v288.sem) ((harg8.wordExact_slice rfl _ (k0_off14_wordsbf16 i k0_h6)).reshape _ _) ((harg8.wordExact_slice rfl _ (k0_off20_wordsbf16 i k0_h6)).reshape _ _) ⟨⟨rfl, Or.inl rfl⟩, trivial⟩)
  pure ⟨⟩

/-- What the left direction's part of stage 2 does, after the part shared with the right one. -/
def tail2 (i : grid0.Coords) (arg1 : Memref sig .tc .vmem S4096x1024 .f32) (arg2 arg6 : Memref sig .tc .vmem S1024x512 .f32) (harg8 : (Memref.whole cc0_scratch1 : Memref sig .tc _ _ _).IsWhole) (d0 : Dev nD) (v261 : FVec F S1024x256 .f32) (k0_h9 : k0_cond9 i = 1#1) :
    Prog (TpuEff nD τ sig (Elt F) Λ₀ .tc) PUnit := do
  let v274 : Vec F S1x1x1024x256 .bf16 ← Prog.lift (.load (Memref.whole cc0_scratch1) (Rect.unit (s := S4x4x1024x256) (k0_off30 i) S1x1x1024x256.size (k0_off30_inb i k0_h9)).toLoadRect (View.loadsAt_vmem h_S1x1x1024x256))
  let v280 : Vec F S1x1x1024x256 .bf16 ← Prog.lift (.load (Memref.whole cc0_scratch1) (Rect.unit (s := S4x4x1024x256) (k0_off30 i) S1x1x1024x256.size (k0_off30_inb i k0_h9)).toLoadRect (View.loadsAt_vmem h_S1x1x1024x256))
  Prog.lift (.store (Memref.whole cc0_scratch1) (Rect.unit (s := S4x4x1024x256) (k0_off30 i) S1x1x1024x256.size (k0_off30_inb i k0_h9)) (k0_pay10 v261 v274) Finset.univ (View.stores_vmem h_S1x1x1024x256 (harg8.storeExact_slice rfl _ (k0_off30_packedbf16 i k0_h9)) (fun _ => rfl)) (.inl rfl))
  let v285 : DmaSems sig S1x1 := cc0_scratch4.slice (Rect.unit (s := S2x3) (k0_off31 i) S1x1.size (k0_off31_inb i k0_h9))
  let v286 : DmaSems sig S_ := v285.squeeze S_ squeezes_S1x1_S_
  let v287 : DmaSems sig S1x1 := cc0_scratch5.slice (Rect.unit (s := S2x3) (k0_off31 i) S1x1.size (k0_off31_inb i k0_h9))
  let v288 : DmaSems sig S_ := v287.squeeze S_ squeezes_S1x1_S_
  let v289 : Memref sig .tc .vmem S1x1x1024x256 .bf16 := (Memref.whole cc0_scratch1).slice (Rect.unit (s := S4x4x1024x256) (k0_off32 i) S1x1x1024x256.size (k0_off32_inb i k0_h9)) (fun _ => rfl)
  let v290 : Memref sig .tc .vmem S1024x256 .bf16 := v289.squeeze S1024x256 squeezes_S1x1x1024x256_S1024x256
  let v291 : Memref sig .tc .vmem S1x1x1024x256 .bf16 := (Memref.whole cc0_scratch1).slice (Rect.unit (s := S4x4x1024x256) (k0_off26 i) S1x1x1024x256.size (k0_off26_inb i k0_h9)) (fun _ => rfl)
  let v292 : Memref sig .tc .vmem S1024x256 .bf16 := v291.squeeze S1024x256 squeezes_S1x1x1024x256_S1024x256
  Prog.lift (.enqueueDma v292 (.remote (Dev.tc (⟨k0_dev8 d0, k0_dev8_lt i d0 k0_h9⟩ : Dev nD)) v290 (.dma v286.sem)) (.dma v288.sem) ((harg8.wordExact_slice rfl _ (k0_off26_wordsbf16 i k0_h9)).reshape _ _) ((harg8.wordExact_slice rfl _ (k0_off32_wordsbf16 i k0_h9)).reshape _ _) ⟨⟨rfl, Or.inl rfl⟩, trivial⟩)
  pure ⟨⟩

/-- What the left direction's part of stage 3 does, after the part shared with the right one. -/
def tail3 (i : grid0.Coords) (arg1 : Memref sig .tc .vmem S4096x1024 .f32) (arg2 arg6 : Memref sig .tc .vmem S1024x512 .f32) (harg8 : (Memref.whole cc0_scratch1 : Memref sig .tc _ _ _).IsWhole) (d0 : Dev nD) (v244 : FVec F S1024x256 .f32) (k0_h12 : k0_cond12 i = 1#1) :
    Prog (TpuEff nD τ sig (Elt F) Λ₀ .tc) PUnit := do
  let v247 : DmaSems sig S1x1 := cc0_scratch5.slice (Rect.unit (s := S2x3) (k0_off37 i) S1x1.size (k0_off37_inb i k0_h12))
  let v248 : DmaSems sig S_ := v247.squeeze S_ squeezes_S1x1_S_
  let v249 : Memref sig .tc .vmem S1x1x1024x256 .bf16 := (Memref.whole cc0_scratch1).slice (Rect.unit (s := S4x4x1024x256) (k0_off38 i) S1x1x1024x256.size (k0_off38_inb i k0_h12)) (fun _ => rfl)
  let v250 : Memref sig .tc .vmem S1024x256 .bf16 := v249.squeeze S1024x256 squeezes_S1x1x1024x256_S1024x256
  let v251 : Memref sig .tc .vmem S1x1x1024x256 .bf16 := (Memref.whole cc0_scratch1).slice (Rect.unit (s := S4x4x1024x256) (k0_off38 i) S1x1x1024x256.size (k0_off38_inb i k0_h12)) (fun _ => rfl)
  let v252 : Memref sig .tc .vmem S1024x256 .bf16 := v251.squeeze S1024x256 squeezes_S1x1x1024x256_S1024x256
  Prog.lift (.waitDma2 v248.sem v252 v250 ((harg8.wordExact_slice rfl _ (k0_off38_wordsbf16 i k0_h12)).reshape _ _) ((harg8.wordExact_slice rfl _ (k0_off38_wordsbf16 i k0_h12)).reshape _ _))
  let v254 : Vec F S1x1x1024x256 .bf16 ← Prog.lift (.load (Memref.whole cc0_scratch1) (Rect.unit (s := S4x4x1024x256) (k0_off39 i) S1x1x1024x256.size (k0_off39_inb i k0_h12)).toLoadRect (View.loadsAt_vmem h_S1x1x1024x256))
  let v258 : Vec F S1024x256 .f32 ← Prog.lift (.load arg6 (Rect.unit (s := S1024x512) ![0, 256] S1024x256.size inb_S1024x512_S1024x256_0_256).toLoadRect (View.loadsAt_vmem h_S1024x256))
  Prog.lift (.store arg6 (Rect.unit (s := S1024x512) ![0, 256] S1024x256.size inb_S1024x512_S1024x256_0_256) (k0_pay11 v244 v254) Finset.univ (View.stores_vmem_bits_univ h_S1024x256 rfl) (.inl rfl))
  pure ⟨⟩

theorem Above_left {b : ℕ} {O O' : CellTallies nD τ sig ℕ} (h : Above b (O + O')) : Above b O :=
  fun g n hn => h g n (lt_of_lt_of_le hn (Nat.le_add_right _ _))

theorem wp_done {α : Type} (c : Dev nD) (a : α) (Q : α → sProp 𝕄) :
    wp frame (wpE (defs₀ (F := F)) 𝒱₀ (c : Thread nD τ) none) Set.univ (Pure.pure a : Prog (TpuEff nD τ sig (Elt F) Λ₀ .tc) α) Q = iprop(|={Set.univ}=> Q a) :=
  wp_ret _ _ _ a Q

theorem Src_next (c : Dev nD) (d : Fin 2) {n : ℕ} (hn : n < 16) :
    (Src c d (snt 0 n) (swt 0 (n + 1)) : sProp 𝕄) ⊢ iprop(slotAny c d n 3 ∗ Src c d (snt 0 (n + 1)) (swt 0 (n + 1))) := by
  have a1 : snt 0 n = n := by show min _ _ = _; omega
  have a2 : snt 0 (n + 1) = n + 1 := by show min _ _ = _; omega
  rw [a1, a2]
  exact Src_take c d (by show _ - min _ _ < 4; omega) (by show min _ _ ≤ _; omega)

theorem Slt_read (A : Cont F) (c : Dev nD) (d : Fin 2) {n : ℕ} (hn : 3 ≤ n) (hn' : n < 19) :
    iprop(Inv A κ κs ∗ Slt c d 2 (dne 2 n) ∗ slotAny c d (n - 3) 2) ⊢ (|={Set.univ}=> Slt c d 2 (dne 2 (n + 1)) : sProp 𝕄) := by
  have a1 : dne 2 n = n - 3 := by show min _ _ = _; omega
  have a2 : dne 2 (n + 1) = n - 3 + 1 := by show min _ _ = _; omega
  rw [a1, a2]
  exact Slt_done A κ κs c d (by omega) (by omega)

/-- The right direction of stage 0: the sum of the first hop made and sent. -/
theorem part1_ok (c : Dev nD) (t : Fin grid0.N) {O : CellTallies nD τ sig ℕ} (hO : Above (t.val + 1) (O + payH 0 0 t.val c))
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole) (a0 v1 v2 v3 : BitVec 32)
    (hc : k0_cond3 (grid0.coords t) = 1#1)
    {K : (Σ' (_ : BitVec 32), BitVec 32) → sProp 𝕄} :
    iprop(Inv (sums X W) κ κs ∗ levAts L lv ∗ ReadyAt (down 0 c) 0 t.val ∗ Ln0 c 0 t.val
        ∗ Owes c (O + payH 0 0 t.val c) ∗ owns (c : Thread nD τ) M1 fullShare (X c) ∗ owns (c : Thread nD τ) M2 fullShare (W c t.val))
      ⊢ iprop((iprop(Ln0 c 0 (t.val + 1) ∗ Owes c O ∗ owns (c : Thread nD τ) M1 fullShare (X c) ∗ owns (c : Thread nD τ) M2 fullShare (W c t.val)) -∗ ∀ r, K r)
        -∗ wp frame (wpE (defs₀ (F := F)) 𝒱₀ (c : Thread nD τ) none) Set.univ
          (k0_part1 (F := F) (grid0.coords t) M1 h1 M2 h2 M3 h3 M4 h4 M5 h5 M6 h6 (Memref.whole cc0_scratch0) h7 (Memref.whole cc0_scratch1) h8
            cc0_scratch2 cc0_scratch3 cc0_scratch4 cc0_scratch5 cc0_scratch6 cc0_scratch7 a0 c v1 v2 v3 hc) K) := by
  have ht : t.val < 16 := (cond3_eq t).mp hc
  rw [k0_part1_eq_skeleton]
  unfold k0_part1_skel
  unfold Ln0
  simp only [Prog.bind_lift]
  iintro ⟨#HI, #Hlev, #HR, ⟨HS, HSrc⟩, HO, HX, HW⟩ Hk
  iapply (wp_condwait (sums X W) κ κs c 0 (h := 0) (n := t.val) (by omega) (by omega) (by omega) (cond4_eq t)
    (fun _ => off1_eq t) (fun _ => slot_credit 0 _ _) (hO.mono (by omega))) $$ [HS HO]
  · isplitr; · iexact HI
    isplitr; · iexact Hlev
    isplitl [HS]; · iexact HS
    iexact HO
  iintro ⟨HS, HO, HB⟩
  ihave HSrc := (Src_back (F := F) c 0 ht) $$ [HSrc HB]
  · isplitl [HSrc]; · iexact HSrc
    iexact HB
  iapply (wp_loadRows c M1 (X c) (c + 3 : Fin 4) (off4_3_eq c)) $$ HX
  iintro HX
  iapply (wp_loadCols c M2 (W c t.val) 0 rfl) $$ HW
  iintro HW
  ihave HSrc := (Src_next (F := F) c 0 ht) $$ HSrc
  icases HSrc with ⟨Hslot, HSrc⟩
  iapply (wp_slotpeek c 0 t.val 3 (off5_eq t)) $$ Hslot
  iintro %_ Hslot
  iapply (wp_slotstore c 0 t.val 3 _ (off5_eq t)) $$ Hslot
  iintro Hslot
  iapply (wp_sendat (sums X W) κ κs c 0 (h := 0) (n := t.val) (O := O) (by omega) (by omega) (by omega) (off6_eq t) (off6_eq t) (off8_eq t) (off7_eq t) (Fin.ext (dev3_eq c)) (sums_00 X W c t.val)) $$ [HS HO Hslot]
  · isplitr; · iexact HI
    isplitr; · iexact HR
    isplitl [HS]; · iexact HS
    isplitl [HO]; · iexact HO
    iexact Hslot
  iintro ⟨HS, HO⟩
  rw [wp_done]
  imodintro
  ihave Hk := Hk $$ [HS HSrc HO HX HW]
  · isplitl [HS HSrc]
    · isplitl [HS]; · iexact HS
      iexact HSrc
    isplitl [HO]; · iexact HO
    isplitl [HX]; · iexact HX
    iexact HW
  iapply Hk

/-- The left direction of stage 0. -/
theorem tail0_ok (c : Dev nD) (t : Fin grid0.N) {O : CellTallies nD τ sig ℕ} (hO : Above (t.val + 1) (O + payH 1 0 t.val c))
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)
    (hc : k0_cond3 (grid0.coords t) = 1#1)
    {K : PUnit → sProp 𝕄} :
    iprop(Inv (sums X W) κ κs ∗ levAts L lv ∗ ReadyAt (down 1 c) 1 t.val ∗ Ln0 c 1 t.val
        ∗ Owes c (O + payH 1 0 t.val c) ∗ owns (c : Thread nD τ) M1 fullShare (X c) ∗ owns (c : Thread nD τ) M2 fullShare (W c t.val))
      ⊢ iprop((iprop(Ln0 c 1 (t.val + 1) ∗ Owes c O ∗ owns (c : Thread nD τ) M1 fullShare (X c) ∗ owns (c : Thread nD τ) M2 fullShare (W c t.val)) -∗ K ⟨⟩)
        -∗ wp frame (wpE (defs₀ (F := F)) 𝒱₀ (c : Thread nD τ) none) Set.univ
          (tail0 (F := F) (grid0.coords t) M1 M2 M6 h8 c hc) K) := by
  have ht : t.val < 16 := (cond3_eq t).mp hc
  unfold tail0
  unfold Ln0
  simp only [Prog.bind_lift]
  iintro ⟨#HI, #Hlev, #HR, ⟨HS, HSrc⟩, HO, HX, HW⟩ Hk
  iapply (wp_condwait (sums X W) κ κs c 1 (h := 0) (n := t.val) (by omega) (by omega) (by omega) (cond5_eq t)
    (fun _ => off9_eq t) (fun _ => slot_credit 1 _ _) (hO.mono (by omega))) $$ [HS HO]
  · isplitr; · iexact HI
    isplitr; · iexact Hlev
    isplitl [HS]; · iexact HS
    iexact HO
  iintro ⟨HS, HO, HB⟩
  ihave HSrc := (Src_back (F := F) c 1 ht) $$ [HSrc HB]
  · isplitl [HSrc]; · iexact HSrc
    iexact HB
  iapply (wp_loadRows c M1 (X c) (c + 1 : Fin 4) (off4_1_eq c)) $$ HX
  iintro HX
  iapply (wp_loadCols c M2 (W c t.val) 1 rfl) $$ HW
  iintro HW
  ihave HSrc := (Src_next (F := F) c 1 ht) $$ HSrc
  icases HSrc with ⟨Hslot, HSrc⟩
  iapply (wp_slotpeek c 1 t.val 3 (off5_eq t)) $$ Hslot
  iintro %_ Hslot
  iapply (wp_slotstore c 1 t.val 3 _ (off5_eq t)) $$ Hslot
  iintro Hslot
  iapply (wp_sendat (sums X W) κ κs c 1 (h := 0) (n := t.val) (O := O) (by omega) (by omega) (by omega) (off6_eq t) (off6_eq t) (off8_eq t) (off7_eq t) (Fin.ext (dev4_eq c)) (sums_10 X W c t.val)) $$ [HS HO Hslot]
  · isplitr; · iexact HI
    isplitr; · iexact HR
    isplitl [HS]; · iexact HS
    isplitl [HO]; · iexact HO
    iexact Hslot
  iintro ⟨HS, HO⟩
  rw [wp_done]
  imodintro
  iapply Hk
  isplitl [HS HSrc]
  · isplitl [HS]; · iexact HS
    iexact HSrc
  isplitl [HO]; · iexact HO
  isplitl [HX]; · iexact HX
  iexact HW

/-- The right direction of stage 1 up to its store. -/
theorem part2_ok (c : Dev nD) (t : Fin grid0.N) {O : CellTallies nD τ sig ℕ} (hO : Above (t.val + 1) O)
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole) (a0 v1 v2 v3 : BitVec 32)
    (hc : k0_cond6 (grid0.coords t) = 1#1)
    {K : PUnit → sProp 𝕄} :
    iprop(Inv (sums X W) κ κs ∗ levAts L lv ∗ LnM c 0 0 t.val ∗ Owes c O ∗ owns (c : Thread nD τ) M1 fullShare (X c) ∗ owns (c : Thread nD τ) M3 fullShare (W c (t.val - 1)))
      ⊢ iprop((iprop(LnH c 0 0 t.val ∗ Owes c O ∗ slotHas c 0 (t.val - 1) 0 (sums X W 0 1 c (t.val - 1)) ∗ owns (c : Thread nD τ) M1 fullShare (X c) ∗ owns (c : Thread nD τ) M3 fullShare (W c (t.val - 1))) -∗ K ⟨⟩)
        -∗ wp frame (wpE (defs₀ (F := F)) 𝒱₀ (c : Thread nD τ) none) Set.univ
          (k0_part2 (F := F) (grid0.coords t) M1 h1 M2 h2 M3 h3 M4 h4 M5 h5 M6 h6 (Memref.whole cc0_scratch0) h7 (Memref.whole cc0_scratch1) h8
            cc0_scratch2 cc0_scratch3 cc0_scratch4 cc0_scratch5 cc0_scratch6 cc0_scratch7 a0 c v1 v2 v3 hc) K) := by
  have hb : 1 ≤ t.val ∧ t.val < 17 := (cond6_eq t).mp hc
  obtain ⟨hn, hn'⟩ := hb
  rw [k0_part2_eq_skeleton]
  unfold k0_part2_skel LnM LnH
  simp only [Prog.bind_lift]
  iintro ⟨#HI, #Hlev, ⟨HV, HS, HT⟩, HO, HX, HW⟩ Hk
  iapply (wp_loadRows c M1 (X c) (c + 2 : Fin 4) (off12_eq c)) $$ HX
  iintro HX
  iapply (wp_loadCols c M3 (W c (t.val - 1)) 0 rfl) $$ HW
  iintro HW
  iapply (wp_rcvat (sums X W) κ κs c 0 (g := 0) (n := t.val) (by omega) (by omega) (by omega) (off13_eq t hn) (slot_credit 0 _ _) hO) $$ [HV HO]
  · isplitr; · iexact HI
    isplitr; · iexact Hlev
    isplitl [HV]; · iexact HV
    iexact HO
  iintro ⟨HV, HO, Hslot⟩
  iapply (wp_condwait (sums X W) κ κs c 0 (h := 1) (n := t.val) (by omega) (by omega) (by omega) (cond7_eq t)
    (fun _ => off15_eq t hn) (fun _ => slot_credit 0 _ _) (hO.mono (by omega))) $$ [HS HO]
  · isplitr; · iexact HI
    isplitr; · iexact Hlev
    isplitl [HS]; · iexact HS
    iexact HO
  iintro ⟨HS, HO, HB⟩
  iapply fupd_wp
  imod (Slt_back (sums X W) κ κs c 0 (h := 0) (n := t.val) (by omega) (by omega) (by omega)) $$ [HT HB] with HT
  · isplitr; · iexact HI
    isplitl [HT]; · iexact HT
    iexact HB
  imodintro
  iapply (wp_slotload c 0 (t.val - 1) 0 (sums X W 0 0 (up 0 c) (t.val - 1)) (off18_eq t hn)) $$ Hslot
  iintro Hslot
  iapply (wp_slotload c 0 (t.val - 1) 0 (sums X W 0 0 (up 0 c) (t.val - 1)) (off18_eq t hn)) $$ Hslot
  iintro Hslot
  ihave Hslot := (slotHas_any (F := F)) $$ Hslot
  iapply (wp_slotstore c 0 (t.val - 1) 0 _ (off18_eq t hn)) $$ Hslot
  iintro Hslot
  rw [wp_done]
  imodintro
  iapply Hk
  isplitl [HV HS HT]
  · isplitl [HV]; · iexact HV
    isplitl [HS]; · iexact HS
    iexact HT
  isplitl [HO]; · iexact HO
  isplitl [Hslot]
  · rw [← sums_01]; iexact Hslot
  isplitl [HX]; · iexact HX
  iexact HW

/-- The right direction of stage 1 sends; the left one up to its store. -/
theorem part3_ok (c : Dev nD) (t : Fin grid0.N) {O : CellTallies nD τ sig ℕ} (hO : Above (t.val + 1) (O + payH 0 1 t.val c))
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole) (a0 v1 v2 v3 : BitVec 32)
    (hc : k0_cond6 (grid0.coords t) = 1#1)
    {K : FVec F S1024x256 .f32 → sProp 𝕄} :
    iprop(Inv (sums X W) κ κs ∗ levAts L lv ∗ ReadyAt (down 0 c) 0 t.val ∗ LnH c 0 0 t.val ∗ slotHas c 0 (t.val - 1) 0 (sums X W 0 1 c (t.val - 1)) ∗ LnM c 1 0 t.val ∗ Owes c (O + payH 0 1 t.val c) ∗ owns (c : Thread nD τ) M1 fullShare (X c) ∗ owns (c : Thread nD τ) M3 fullShare (W c (t.val - 1)))
      ⊢ iprop((iprop(LnM c 0 0 (t.val + 1) ∗ LnH c 1 0 t.val ∗ Owes c O ∗ slotHas c 1 (t.val - 1) 0 (sums X W 1 0 (up 1 c) (t.val - 1)) ∗ owns (c : Thread nD τ) M1 fullShare (X c) ∗ owns (c : Thread nD τ) M3 fullShare (W c (t.val - 1))) -∗ K (k0_pay3 (rows (c + 2 : Fin 4) (X c)) (cols 1 (W c (t.val - 1)))))
        -∗ wp frame (wpE (defs₀ (F := F)) 𝒱₀ (c : Thread nD τ) none) Set.univ
          (k0_part3 (F := F) (grid0.coords t) M1 h1 M2 h2 M3 h3 M4 h4 M5 h5 M6 h6 (Memref.whole cc0_scratch0) h7 (Memref.whole cc0_scratch1) h8
            cc0_scratch2 cc0_scratch3 cc0_scratch4 cc0_scratch5 cc0_scratch6 cc0_scratch7 a0 c v1 v2 v3 hc) K) := by
  have hb : 1 ≤ t.val ∧ t.val < 17 := (cond6_eq t).mp hc
  obtain ⟨hn, hn'⟩ := hb
  rw [k0_part3_eq_skeleton]
  unfold k0_part3_skel LnM LnH
  simp only [Prog.bind_lift]
  iintro ⟨#HI, #Hlev, #HR, ⟨HV0, HS0, HT0⟩, Hslot, ⟨HV, HS, HT⟩, HO, HX, HW⟩ Hk
  iapply (wp_sendat (sums X W) κ κs c 0 (h := 1) (n := t.val) (O := O) (by omega) (by omega) (by omega) (off19_eq t hn) (off19_eq t hn) (off14_eq t hn) (off20_eq t hn) (Fin.ext (dev5_eq c)) rfl) $$ [HS0 HO Hslot]
  · isplitr; · iexact HI
    isplitr; · iexact HR
    isplitl [HS0]; · iexact HS0
    isplitl [HO]; · iexact HO
    iexact Hslot
  iintro ⟨HS0, HO⟩
  iapply (wp_loadRows c M1 (X c) (c + 2 : Fin 4) (off12_eq c)) $$ HX
  iintro HX
  iapply (wp_loadCols c M3 (W c (t.val - 1)) 1 rfl) $$ HW
  iintro HW
  iapply (wp_rcvat (sums X W) κ κs c 1 (g := 0) (n := t.val) (by omega) (by omega) (by omega) (off13_eq t hn) (slot_credit 1 _ _) (Above_left hO)) $$ [HV HO]
  · isplitr; · iexact HI
    isplitr; · iexact Hlev
    isplitl [HV]; · iexact HV
    iexact HO
  iintro ⟨HV, HO, Hslot⟩
  iapply (wp_condwait (sums X W) κ κs c 1 (h := 1) (n := t.val) (by omega) (by omega) (by omega) (cond8_eq t)
    (fun _ => off21_eq t hn) (fun _ => slot_credit 1 _ _) ((Above_left hO).mono (by omega))) $$ [HS HO]
  · isplitr; · iexact HI
    isplitr; · iexact Hlev
    isplitl [HS]; · iexact HS
    iexact HO
  iintro ⟨HS, HO, HB⟩
  iapply fupd_wp
  imod (Slt_back (sums X W) κ κs c 1 (h := 0) (n := t.val) (by omega) (by omega) (by omega)) $$ [HT HB] with HT
  · isplitr; · iexact HI
    isplitl [HT]; · iexact HT
    iexact HB
  imodintro
  rw [wp_done]
  imodintro
  iapply Hk
  isplitl [HV0 HS0 HT0]
  · isplitl [HV0]; · iexact HV0
    isplitl [HS0]; · iexact HS0
    iexact HT0
  isplitl [HV HS HT]
  · isplitl [HV]; · iexact HV
    isplitl [HS]; · iexact HS
    iexact HT
  isplitl [HO]; · iexact HO
  isplitl [Hslot]; · iexact Hslot
  isplitl [HX]; · iexact HX
  iexact HW

/-- The left direction of stage 1 adds and sends. -/
theorem tail1_ok (c : Dev nD) (t : Fin grid0.N) {O : CellTallies nD τ sig ℕ}
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)
    (hc : k0_cond6 (grid0.coords t) = 1#1)
    {K : PUnit → sProp 𝕄} :
    iprop(Inv (sums X W) κ κs ∗ levAts L lv ∗ ReadyAt (down 1 c) 1 t.val ∗ LnH c 1 0 t.val ∗ slotHas c 1 (t.val - 1) 0 (sums X W 1 0 (up 1 c) (t.val - 1)) ∗ Owes c (O + payH 1 1 t.val c))
      ⊢ iprop((iprop(LnM c 1 0 (t.val + 1) ∗ Owes c O) -∗ K ⟨⟩)
        -∗ wp frame (wpE (defs₀ (F := F)) 𝒱₀ (c : Thread nD τ) none) Set.univ
          (tail1 (F := F) (grid0.coords t) M1 M2 M6 h8 c (k0_pay3 (rows (c + 2 : Fin 4) (X c)) (cols 1 (W c (t.val - 1)))) hc) K) := by
  have hb : 1 ≤ t.val ∧ t.val < 17 := (cond6_eq t).mp hc
  obtain ⟨hn, hn'⟩ := hb
  unfold tail1 LnH LnM
  simp only [Prog.bind_lift]
  iintro ⟨#HI, #Hlev, #HR, ⟨HV, HS, HT⟩, Hslot, HO⟩ Hk
  iapply (wp_slotload c 1 (t.val - 1) 0 (sums X W 1 0 (up 1 c) (t.val - 1)) (off18_eq t hn)) $$ Hslot
  iintro Hslot
  iapply (wp_slotload c 1 (t.val - 1) 0 (sums X W 1 0 (up 1 c) (t.val - 1)) (off18_eq t hn)) $$ Hslot
  iintro Hslot
  ihave Hslot := (slotHas_any (F := F)) $$ Hslot
  iapply (wp_slotstore c 1 (t.val - 1) 0 _ (off18_eq t hn)) $$ Hslot
  iintro Hslot
  rw [sums_11]
  iapply (wp_sendat (sums X W) κ κs c 1 (h := 1) (n := t.val) (O := O) (by omega) (by omega) (by omega) (off19_eq t hn) (off19_eq t hn) (off14_eq t hn) (off20_eq t hn) (Fin.ext (dev6_eq c)) rfl) $$ [HS HO Hslot]
  · isplitr; · iexact HI
    isplitr; · iexact HR
    isplitl [HS]; · iexact HS
    isplitl [HO]; · iexact HO
    iexact Hslot
  iintro ⟨HS, HO⟩
  rw [wp_done]
  imodintro
  iapply Hk
  isplitl [HV HS HT]
  · isplitl [HV]; · iexact HV
    isplitl [HS]; · iexact HS
    iexact HT
  iexact HO

/-- The right direction of stage 2 up to its store. -/
theorem part4_ok (c : Dev nD) (t : Fin grid0.N) {O : CellTallies nD τ sig ℕ} (hO : Above (t.val + 1) O)
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole) (a0 v1 v2 v3 : BitVec 32)
    (hc : k0_cond9 (grid0.coords t) = 1#1)
    {K : PUnit → sProp 𝕄} :
    iprop(Inv (sums X W) κ κs ∗ levAts L lv ∗ LnM c 0 1 t.val ∗ Owes c O ∗ owns (c : Thread nD τ) M1 fullShare (X c) ∗ owns (c : Thread nD τ) M4 fullShare (W c (t.val - 2)))
      ⊢ iprop((iprop(LnH c 0 1 t.val ∗ Owes c O ∗ slotHas c 0 (t.val - 2) 1 (sums X W 0 2 c (t.val - 2)) ∗ owns (c : Thread nD τ) M1 fullShare (X c) ∗ owns (c : Thread nD τ) M4 fullShare (W c (t.val - 2))) -∗ K ⟨⟩)
        -∗ wp frame (wpE (defs₀ (F := F)) 𝒱₀ (c : Thread nD τ) none) Set.univ
          (k0_part4 (F := F) (grid0.coords t) M1 h1 M2 h2 M3 h3 M4 h4 M5 h5 M6 h6 (Memref.whole cc0_scratch0) h7 (Memref.whole cc0_scratch1) h8
            cc0_scratch2 cc0_scratch3 cc0_scratch4 cc0_scratch5 cc0_scratch6 cc0_scratch7 a0 c v1 v2 v3 hc) K) := by
  have hb : 2 ≤ t.val ∧ t.val < 18 := (cond9_eq t).mp hc
  obtain ⟨hn, hn'⟩ := hb
  rw [k0_part4_eq_skeleton]
  unfold k0_part4_skel LnM LnH
  simp only [Prog.bind_lift]
  iintro ⟨#HI, #Hlev, ⟨HV, HS, HT⟩, HO, HX, HW⟩ Hk
  iapply (wp_loadRows c M1 (X c) (c + 1 : Fin 4) (off24_1_eq c)) $$ HX
  iintro HX
  iapply (wp_loadCols c M4 (W c (t.val - 2)) 0 rfl) $$ HW
  iintro HW
  iapply (wp_rcvat (sums X W) κ κs c 0 (g := 1) (n := t.val) (by omega) (by omega) (by omega) (off25_eq t hn) (slot_credit 0 _ _) hO) $$ [HV HO]
  · isplitr; · iexact HI
    isplitr; · iexact Hlev
    isplitl [HV]; · iexact HV
    iexact HO
  iintro ⟨HV, HO, Hslot⟩
  iapply (wp_condwait (sums X W) κ κs c 0 (h := 2) (n := t.val) (by omega) (by omega) (by omega) (cond10_eq t)
    (fun _ => off27_eq t hn) (fun _ => slot_credit 0 _ _) (hO.mono (by omega))) $$ [HS HO]
  · isplitr; · iexact HI
    isplitr; · iexact Hlev
    isplitl [HS]; · iexact HS
    iexact HO
  iintro ⟨HS, HO, HB⟩
  iapply fupd_wp
  imod (Slt_back (sums X W) κ κs c 0 (h := 1) (n := t.val) (by omega) (by omega) (by omega)) $$ [HT HB] with HT
  · isplitr; · iexact HI
    isplitl [HT]; · iexact HT
    iexact HB
  imodintro
  iapply (wp_slotload c 0 (t.val - 2) 1 (sums X W 0 1 (up 0 c) (t.val - 2)) (off30_eq t hn)) $$ Hslot
  iintro Hslot
  iapply (wp_slotload c 0 (t.val - 2) 1 (sums X W 0 1 (up 0 c) (t.val - 2)) (off30_eq t hn)) $$ Hslot
  iintro Hslot
  ihave Hslot := (slotHas_any (F := F)) $$ Hslot
  iapply (wp_slotstore c 0 (t.val - 2) 1 _ (off30_eq t hn)) $$ Hslot
  iintro Hslot
  rw [wp_done]
  imodintro
  iapply Hk
  isplitl [HV HS HT]
  · isplitl [HV]; · iexact HV
    isplitl [HS]; · iexact HS
    iexact HT
  isplitl [HO]; · iexact HO
  isplitl [Hslot]
  · rw [← sums_02]; iexact Hslot
  isplitl [HX]; · iexact HX
  iexact HW

/-- The right direction of stage 2 sends; the left one up to its store. -/
theorem part5_ok (c : Dev nD) (t : Fin grid0.N) {O : CellTallies nD τ sig ℕ} (hO : Above (t.val + 1) (O + payH 0 2 t.val c))
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole) (a0 v1 v2 v3 : BitVec 32)
    (hc : k0_cond9 (grid0.coords t) = 1#1)
    {K : FVec F S1024x256 .f32 → sProp 𝕄} :
    iprop(Inv (sums X W) κ κs ∗ levAts L lv ∗ ReadyAt (down 0 c) 0 t.val ∗ LnH c 0 1 t.val ∗ slotHas c 0 (t.val - 2) 1 (sums X W 0 2 c (t.val - 2)) ∗ LnM c 1 1 t.val ∗ Owes c (O + payH 0 2 t.val c) ∗ owns (c : Thread nD τ) M1 fullShare (X c) ∗ owns (c : Thread nD τ) M4 fullShare (W c (t.val - 2)))
      ⊢ iprop((iprop(LnM c 0 1 (t.val + 1) ∗ LnH c 1 1 t.val ∗ Owes c O ∗ slotHas c 1 (t.val - 2) 1 (sums X W 1 1 (up 1 c) (t.val - 2)) ∗ owns (c : Thread nD τ) M1 fullShare (X c) ∗ owns (c : Thread nD τ) M4 fullShare (W c (t.val - 2))) -∗ K (k0_pay5 (rows (c + 3 : Fin 4) (X c)) (cols 1 (W c (t.val - 2)))))
        -∗ wp frame (wpE (defs₀ (F := F)) 𝒱₀ (c : Thread nD τ) none) Set.univ
          (k0_part5 (F := F) (grid0.coords t) M1 h1 M2 h2 M3 h3 M4 h4 M5 h5 M6 h6 (Memref.whole cc0_scratch0) h7 (Memref.whole cc0_scratch1) h8
            cc0_scratch2 cc0_scratch3 cc0_scratch4 cc0_scratch5 cc0_scratch6 cc0_scratch7 a0 c v1 v2 v3 hc) K) := by
  have hb : 2 ≤ t.val ∧ t.val < 18 := (cond9_eq t).mp hc
  obtain ⟨hn, hn'⟩ := hb
  rw [k0_part5_eq_skeleton]
  unfold k0_part5_skel LnM LnH
  simp only [Prog.bind_lift]
  iintro ⟨#HI, #Hlev, #HR, ⟨HV0, HS0, HT0⟩, Hslot, ⟨HV, HS, HT⟩, HO, HX, HW⟩ Hk
  iapply (wp_sendat (sums X W) κ κs c 0 (h := 2) (n := t.val) (O := O) (by omega) (by omega) (by omega) (off31_eq t hn) (off31_eq t hn) (off26_eq t hn) (off32_eq t hn) (Fin.ext (dev7_eq c)) rfl) $$ [HS0 HO Hslot]
  · isplitr; · iexact HI
    isplitr; · iexact HR
    isplitl [HS0]; · iexact HS0
    isplitl [HO]; · iexact HO
    iexact Hslot
  iintro ⟨HS0, HO⟩
  iapply (wp_loadRows c M1 (X c) (c + 3 : Fin 4) (off24_3_eq c)) $$ HX
  iintro HX
  iapply (wp_loadCols c M4 (W c (t.val - 2)) 1 rfl) $$ HW
  iintro HW
  iapply (wp_rcvat (sums X W) κ κs c 1 (g := 1) (n := t.val) (by omega) (by omega) (by omega) (off25_eq t hn) (slot_credit 1 _ _) (Above_left hO)) $$ [HV HO]
  · isplitr; · iexact HI
    isplitr; · iexact Hlev
    isplitl [HV]; · iexact HV
    iexact HO
  iintro ⟨HV, HO, Hslot⟩
  iapply (wp_condwait (sums X W) κ κs c 1 (h := 2) (n := t.val) (by omega) (by omega) (by omega) (cond11_eq t)
    (fun _ => off33_eq t hn) (fun _ => slot_credit 1 _ _) ((Above_left hO).mono (by omega))) $$ [HS HO]
  · isplitr; · iexact HI
    isplitr; · iexact Hlev
    isplitl [HS]; · iexact HS
    iexact HO
  iintro ⟨HS, HO, HB⟩
  iapply fupd_wp
  imod (Slt_back (sums X W) κ κs c 1 (h := 1) (n := t.val) (by omega) (by omega) (by omega)) $$ [HT HB] with HT
  · isplitr; · iexact HI
    isplitl [HT]; · iexact HT
    iexact HB
  imodintro
  rw [wp_done]
  imodintro
  iapply Hk
  isplitl [HV0 HS0 HT0]
  · isplitl [HV0]; · iexact HV0
    isplitl [HS0]; · iexact HS0
    iexact HT0
  isplitl [HV HS HT]
  · isplitl [HV]; · iexact HV
    isplitl [HS]; · iexact HS
    iexact HT
  isplitl [HO]; · iexact HO
  isplitl [Hslot]; · iexact Hslot
  isplitl [HX]; · iexact HX
  iexact HW

/-- The left direction of stage 2 adds and sends. -/
theorem tail2_ok (c : Dev nD) (t : Fin grid0.N) {O : CellTallies nD τ sig ℕ}
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)
    (hc : k0_cond9 (grid0.coords t) = 1#1)
    {K : PUnit → sProp 𝕄} :
    iprop(Inv (sums X W) κ κs ∗ levAts L lv ∗ ReadyAt (down 1 c) 1 t.val ∗ LnH c 1 1 t.val ∗ slotHas c 1 (t.val - 2) 1 (sums X W 1 1 (up 1 c) (t.val - 2)) ∗ Owes c (O + payH 1 2 t.val c))
      ⊢ iprop((iprop(LnM c 1 1 (t.val + 1) ∗ Owes c O) -∗ K ⟨⟩)
        -∗ wp frame (wpE (defs₀ (F := F)) 𝒱₀ (c : Thread nD τ) none) Set.univ
          (tail2 (F := F) (grid0.coords t) M1 M2 M6 h8 c (k0_pay5 (rows (c + 3 : Fin 4) (X c)) (cols 1 (W c (t.val - 2)))) hc) K) := by
  have hb : 2 ≤ t.val ∧ t.val < 18 := (cond9_eq t).mp hc
  obtain ⟨hn, hn'⟩ := hb
  unfold tail2 LnH LnM
  simp only [Prog.bind_lift]
  iintro ⟨#HI, #Hlev, #HR, ⟨HV, HS, HT⟩, Hslot, HO⟩ Hk
  iapply (wp_slotload c 1 (t.val - 2) 1 (sums X W 1 1 (up 1 c) (t.val - 2)) (off30_eq t hn)) $$ Hslot
  iintro Hslot
  iapply (wp_slotload c 1 (t.val - 2) 1 (sums X W 1 1 (up 1 c) (t.val - 2)) (off30_eq t hn)) $$ Hslot
  iintro Hslot
  ihave Hslot := (slotHas_any (F := F)) $$ Hslot
  iapply (wp_slotstore c 1 (t.val - 2) 1 _ (off30_eq t hn)) $$ Hslot
  iintro Hslot
  rw [sums_12]
  iapply (wp_sendat (sums X W) κ κs c 1 (h := 2) (n := t.val) (O := O) (by omega) (by omega) (by omega) (off31_eq t hn) (off31_eq t hn) (off26_eq t hn) (off32_eq t hn) (Fin.ext (dev8_eq c)) rfl) $$ [HS HO Hslot]
  · isplitr; · iexact HI
    isplitr; · iexact HR
    isplitl [HS]; · iexact HS
    isplitl [HO]; · iexact HO
    iexact Hslot
  iintro ⟨HS, HO⟩
  rw [wp_done]
  imodintro
  iapply Hk
  isplitl [HV HS HT]
  · isplitl [HV]; · iexact HV
    isplitl [HS]; · iexact HS
    iexact HT
  iexact HO

/-- The right direction of stage 3. -/
theorem part6_ok (c : Dev nD) (t : Fin grid0.N) {O : CellTallies nD τ sig ℕ} (hO : Above (t.val + 1) O)
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole) (Y : Vec F S1024x512 .f32) (v1 v2 v3 : BitVec 32)
    (hc : k0_cond12 (grid0.coords t) = 1#1)
    {K : (Σ' (_ : FVec F S1024x256 .f32), BitVec 32) → sProp 𝕄} :
    iprop(Inv (sums X W) κ κs ∗ levAts L lv ∗ Ln3 c 0 t.val ∗ Owes c O ∗ owns (c : Thread nD τ) M1 fullShare (X c) ∗ owns (c : Thread nD τ) M5 fullShare (W c (t.val - 3)) ∗ owns (c : Thread nD τ) M6 fullShare Y)
      ⊢ iprop((∀ Y' : Vec F S1024x512 .f32, ⌜cols 0 Y' = outs X W 0 c (t.val - 3) ∧ ∀ i, i ≠ 0 → cols i Y' = cols i Y⌝ -∗ iprop(Ln3 c 0 (t.val + 1) ∗ Owes c O ∗ owns (c : Thread nD τ) M1 fullShare (X c) ∗ owns (c : Thread nD τ) M5 fullShare (W c (t.val - 3)) ∗ owns (c : Thread nD τ) M6 fullShare Y') -∗ K ⟨k0_pay7 (rows (c + 0 : Fin 4) (X c)) (cols 1 (W c (t.val - 3))), 1#32⟩)
        -∗ wp frame (wpE (defs₀ (F := F)) 𝒱₀ (c : Thread nD τ) none) Set.univ
          (k0_part6 (F := F) (grid0.coords t) M1 h1 M2 h2 M3 h3 M4 h4 M5 h5 M6 h6 (Memref.whole cc0_scratch0) h7 (Memref.whole cc0_scratch1) h8
            cc0_scratch2 cc0_scratch3 cc0_scratch4 cc0_scratch5 cc0_scratch6 cc0_scratch7 c v1 v2 v3 hc) K) := by
  have hb : 3 ≤ t.val := (cond12_eq t).mp hc
  have hn : 3 ≤ t.val := hb
  have htN : t.val < 19 := t.isLt
  rw [k0_part6_eq_skeleton]
  unfold k0_part6_skel Ln3
  simp only [Prog.bind_lift]
  iintro ⟨#HI, #Hlev, ⟨HV, HT⟩, HO, HX, HW, HY⟩ Hk
  iapply (wp_loadRows c M1 (X c) (c + 0 : Fin 4) (off36_eq c)) $$ HX
  iintro HX
  iapply (wp_loadCols c M5 (W c (t.val - 3)) 0 rfl) $$ HW
  iintro HW
  iapply (wp_rcvat (sums X W) κ κs c 0 (g := 2) (n := t.val) (by omega) (by omega) (by omega) (off37_eq t hn) (slot_credit 0 _ _) hO) $$ [HV HO]
  · isplitr; · iexact HI
    isplitr; · iexact Hlev
    isplitl [HV]; · iexact HV
    iexact HO
  iintro ⟨HV, HO, Hslot⟩
  iapply (wp_slotload c 0 (t.val - 3) 2 (sums X W 0 2 (up 0 c) (t.val - 3)) (off39_eq t hn)) $$ Hslot
  iintro Hslot
  ihave Hslot := (slotHas_any (F := F)) $$ Hslot
  iapply fupd_wp
  imod (Slt_read κ κs (sums X W) c 0 hn (by omega)) $$ [HT Hslot] with HT
  · isplitr; · iexact HI
    isplitl [HT]; · iexact HT
    iexact Hslot
  imodintro
  iapply (wp_loadCols c M6 Y 0 rfl) $$ HY
  iintro HY
  iapply (wp_storeCols c M6 Y 0 rfl) $$ HY
  iintro %Y' %hY HY
  iapply (wp_loadRows c M1 (X c) (c + 0 : Fin 4) (off36_eq c)) $$ HX
  iintro HX
  iapply (wp_loadCols c M5 (W c (t.val - 3)) 1 rfl) $$ HW
  iintro HW
  rw [wp_done]
  imodintro
  iapply Hk $$ %Y' %_ [HV HT HO HX HW HY]
  · exact ⟨hY.1, hY.2⟩
  isplitl [HV HT]
  · isplitl [HV]; · iexact HV
    iexact HT
  isplitl [HO]; · iexact HO
  isplitl [HX]; · iexact HX
  isplitl [HW]; · iexact HW
  iexact HY

/-- The left direction of stage 3. -/
theorem tail3_ok (c : Dev nD) (t : Fin grid0.N) {O : CellTallies nD τ sig ℕ} (hO : Above (t.val + 1) O)
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole) (Y : Vec F S1024x512 .f32)
    (hc : k0_cond12 (grid0.coords t) = 1#1)
    {K : PUnit → sProp 𝕄} :
    iprop(Inv (sums X W) κ κs ∗ levAts L lv ∗ Ln3 c 1 t.val ∗ Owes c O ∗ owns (c : Thread nD τ) M6 fullShare Y)
      ⊢ iprop((∀ Y' : Vec F S1024x512 .f32, ⌜cols 1 Y' = outs X W 1 c (t.val - 3) ∧ ∀ i, i ≠ 1 → cols i Y' = cols i Y⌝ -∗ iprop(Ln3 c 1 (t.val + 1) ∗ Owes c O ∗ owns (c : Thread nD τ) M6 fullShare Y') -∗ K ⟨⟩)
        -∗ wp frame (wpE (defs₀ (F := F)) 𝒱₀ (c : Thread nD τ) none) Set.univ
          (tail3 (F := F) (grid0.coords t) M1 M2 M6 h8 c (k0_pay7 (rows (c + 0 : Fin 4) (X c)) (cols 1 (W c (t.val - 3)))) hc) K) := by
  have hb : 3 ≤ t.val := (cond12_eq t).mp hc
  have hn : 3 ≤ t.val := hb
  have htN : t.val < 19 := t.isLt
  unfold tail3 Ln3
  simp only [Prog.bind_lift]
  iintro ⟨#HI, #Hlev, ⟨HV, HT⟩, HO, HY⟩ Hk
  iapply (wp_rcvat (sums X W) κ κs c 1 (g := 2) (n := t.val) (by omega) (by omega) (by omega) (off37_eq t hn) (slot_credit 1 _ _) hO) $$ [HV HO]
  · isplitr; · iexact HI
    isplitr; · iexact Hlev
    isplitl [HV]; · iexact HV
    iexact HO
  iintro ⟨HV, HO, Hslot⟩
  iapply (wp_slotload c 1 (t.val - 3) 2 (sums X W 1 2 (up 1 c) (t.val - 3)) (off39_eq t hn)) $$ Hslot
  iintro Hslot
  ihave Hslot := (slotHas_any (F := F)) $$ Hslot
  iapply fupd_wp
  imod (Slt_read κ κs (sums X W) c 1 hn (by omega)) $$ [HT Hslot] with HT
  · isplitr; · iexact HI
    isplitl [HT]; · iexact HT
    iexact Hslot
  imodintro
  iapply (wp_loadCols c M6 Y 1 rfl) $$ HY
  iintro HY
  iapply (wp_storeCols c M6 Y 1 rfl) $$ HY
  iintro %Y' %hY HY
  rw [wp_done]
  imodintro
  iapply Hk $$ %Y' %_ [HV HT HO HY]
  · exact ⟨hY.1, hY.2⟩
  isplitl [HV HT]
  · isplitl [HV]; · iexact HV
    iexact HT
  isplitl [HO]; · iexact HO
  iexact HY

end Cert.KernelIdeal.Hand
-- ==== Proof.Stages.lean ====
module
public import proofs.«01_k».proof.Proof.Parts
/-! # A step's stages in a row

Each stage runs on the steps that have a tile for it. -/
@[expose] public section
noncomputable section
namespace Cert.KernelIdeal.Hand
open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
variable {F : FTy → Type} [FloatOps F]
local notation "𝕄" => MT nD τ sig ℕ (Elt F) ℕ U ℕ

section
variable (i : grid0.Coords) (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)

/-- Stage 0. -/
def stg0 (a0 : BitVec 32) (d0 : Dev nD) (v25 v43 v138 : BitVec 32) : Prog (TpuEff nD τ sig (Elt F) Λ₀ .tc) PUnit :=
  if h : k0_cond3 i = 1#1 then do
    let _ ← k0_part1 i M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7 a0 d0 v25 v43 v138 h
    tail0 i M1 M2 M6 h8 d0 h
  else pure ⟨⟩

/-- Stage 1. -/
def stg1 (a0 : BitVec 32) (d0 : Dev nD) (v14 v25 v55 v149 v182 : BitVec 32) : Prog (TpuEff nD τ sig (Elt F) Λ₀ .tc) PUnit :=
  if h : k0_cond6 i = 1#1 then do
    k0_part2 i M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7 a0 d0 v25 v55 v149 h
    let v ← k0_part3 i M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7 a0 d0 v14 v25 v182 h
    tail1 i M1 M2 M6 h8 d0 v h
  else pure ⟨⟩

/-- Stage 2. -/
def stg2 (a0 : BitVec 32) (d0 : Dev nD) (v14 v25 v67 v160 v193 : BitVec 32) : Prog (TpuEff nD τ sig (Elt F) Λ₀ .tc) PUnit :=
  if h : k0_cond9 i = 1#1 then do
    k0_part4 i M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7 a0 d0 v25 v67 v160 h
    let v ← k0_part5 i M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7 a0 d0 v14 v25 v193 h
    tail2 i M1 M2 M6 h8 d0 v h
  else pure ⟨⟩

/-- Stage 3. -/
def stg3 (d0 : Dev nD) (v2 v25 v79 : BitVec 32) : Prog (TpuEff nD τ sig (Elt F) Λ₀ .tc) PUnit :=
  if h : k0_cond12 i = 1#1 then do
    let v ← k0_part6 i M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7 d0 v2 v25 v79 h
    tail3 i M1 M2 M6 h8 d0 v.1 h
  else pure ⟨⟩

theorem dite_then {α : Type} {P : Prop} [Decidable P] (A : P → Prog (TpuEff nD τ sig (Elt F) Λ₀ .tc) PUnit) (B : ¬P → Prog (TpuEff nD τ sig (Elt F) Λ₀ .tc) PUnit) (k : PUnit → Prog (TpuEff nD τ sig (Elt F) Λ₀ .tc) α) :
    ((if h : P then A h else B h) >>= k) = if h : P then A h >>= k else B h >>= k := by
  split <;> rfl

set_option maxRecDepth 65536 in
/-- The stages are run one after the other. -/
theorem part16_stages (a0 : BitVec 32) (d0 : Dev nD) (v2 v14 v25 v43 v55 v67 v79 v138 v149 v160 v171 v174 v175 : BitVec 32) (v176 : BitVec 1) (c0 : BitVec 32) :
    ∃ w w' : BitVec 32, k0_part16 (F := F) i M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7 a0 d0 v2 v14 v25 v43 v55 v67 v79 v138 v149 v160 v171 v174 v175 v176 c0
      = (stg0 i M1 h1 M2 h2 M3 h3 M4 h4 M5 h5 M6 h6 h7 h8 a0 d0 v25 v43 v138 >>= fun _ => stg1 i M1 h1 M2 h2 M3 h3 M4 h4 M5 h5 M6 h6 h7 h8 a0 d0 v14 v25 v55 v149 w >>= fun _ =>
          stg2 i M1 h1 M2 h2 M3 h3 M4 h4 M5 h5 M6 h6 h7 h8 a0 d0 v14 v25 v67 v160 w' >>= fun _ => stg3 i M1 h1 M2 h2 M3 h3 M4 h4 M5 h5 M6 h6 h7 h8 d0 v2 v25 v79) := by
  refine ⟨Scalar.select (Scalar.andi (Scalar.xori (Scalar.cmpi .slt v175 c0) (Scalar.cmpi .slt v174 0#32)) v176) (Scalar.addi v175 v174) v175,
    let v185 := Scalar.select (Scalar.cmpi .eq 4#32 0#32) 1#32 4#32
    let v186 := Scalar.remsi (Scalar.addi v2 3#32) v185
    Scalar.select (Scalar.andi (Scalar.xori (Scalar.cmpi .slt v186 0#32) (Scalar.cmpi .slt v185 0#32)) (Scalar.cmpi .ne v186 0#32)) (Scalar.addi v186 v185) v186, ?_⟩
  rw [k0_part16_eq_skeleton]
  unfold k0_part16_skel stg0 stg1 stg2 stg3 tail0 tail1 tail2 tail3
  simp only [dite_then, Prog.bind_assoc, Prog.pure_eq_ret, Prog.bind_ret, Prog.bind_lift, Prog.bind_op]

end

variable (κ : GSem nD τ sig → ℕ) (κs : Key → ℕ) (X : Dev nD → Vec F S4096x1024 .f32) (W : Dev nD → ℕ → Vec F S1024x512 .f32)

/-- The tile stage `h` works on at step `n`. -/
abbrev tile (h n : ℕ) : ℕ := min (n - h) 15

theorem payH_off (d : Fin 2) {h n : ℕ} (c : Dev nD) (hn : ¬(h ≤ n ∧ n < 16 + h)) : payH d h n c = 0 := if_neg hn

theorem Ln0_off (c : Dev nD) (d : Fin 2) {n : ℕ} (hn : ¬n < 16) : (Ln0 c d (n + 1) : sProp 𝕄) = Ln0 c d n := by
  unfold Ln0
  rw [(by show min _ _ = min _ _; omega : snt 0 (n + 1) = snt 0 n), (by show min _ _ = min _ _; omega : swt 0 (n + 1) = swt 0 n)]

theorem LnM_off (c : Dev nD) (d : Fin 2) {g n : ℕ} (hg : g < 2) (hn : ¬(g + 1 ≤ n ∧ n < 17 + g)) : (LnM c d g (n + 1) : sProp 𝕄) = LnM c d g n := by
  unfold LnM
  rw [(by show min _ _ = min _ _; omega : rcd g (n + 1) = rcd g n), (by show min _ _ = min _ _; omega : snt (g + 1) (n + 1) = snt (g + 1) n),
    (by show min _ _ = min _ _; omega : swt (g + 1) (n + 1) = swt (g + 1) n),
    (by show ite _ _ _ = ite _ _ _; rw [if_pos hg, if_pos hg]; show min _ _ = min _ _; omega : dne g (n + 1) = dne g n)]

theorem Ln3_off (c : Dev nD) (d : Fin 2) {n : ℕ} (hn : ¬3 ≤ n) : (Ln3 c d (n + 1) : sProp 𝕄) = Ln3 c d n := by
  unfold Ln3
  rw [(by show min _ _ = min _ _; omega : rcd 2 (n + 1) = rcd 2 n), (by show min _ _ = min _ _; omega : dne 2 (n + 1) = dne 2 n)]

/-- Stage 0 of step `t`. -/
theorem stg0_ok (c : Dev nD) (t : Fin grid0.N) {O : CellTallies nD τ sig ℕ} (hO : Above (t.val + 1) (O + payH 1 0 t.val c + payH 0 0 t.val c))
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)
    (a0 v1 v2 v3 : BitVec 32) {K : PUnit → sProp 𝕄} :
    iprop(Inv (sums X W) κ κs ∗ levAts L lv ∗ ReadyAt (down 0 c) 0 t.val ∗ ReadyAt (down 1 c) 1 t.val ∗ Ln0 c 0 t.val ∗ Ln0 c 1 t.val
        ∗ Owes c (O + payH 1 0 t.val c + payH 0 0 t.val c) ∗ owns (c : Thread nD τ) M1 fullShare (X c) ∗ owns (c : Thread nD τ) M2 fullShare (W c (tile 0 t.val)))
      ⊢ iprop((iprop(Ln0 c 0 (t.val + 1) ∗ Ln0 c 1 (t.val + 1) ∗ Owes c O ∗ owns (c : Thread nD τ) M1 fullShare (X c) ∗ owns (c : Thread nD τ) M2 fullShare (W c (tile 0 t.val))) -∗ K ⟨⟩)
        -∗ wp frame (wpE (defs₀ (F := F)) 𝒱₀ (c : Thread nD τ) none) Set.univ (stg0 (F := F) (grid0.coords t) M1 h1 M2 h2 M3 h3 M4 h4 M5 h5 M6 h6 h7 h8 a0 c v1 v2 v3) K) := by
  unfold stg0
  by_cases hc : k0_cond3 (grid0.coords t) = 1#1
  · have ht : t.val < 16 := (cond3_eq t).mp hc
    rw [dif_pos hc, wp_bind, (by show min _ _ = _; omega : tile 0 t.val = t.val)]
    iintro ⟨#HI, #Hlev, #HR0, #HR1, HL0, HL1, HO, HX, HW⟩ Hk
    iapply (part1_ok κ κs X W c t (O := O + payH 1 0 t.val c) hO) $$ [HL0 HO HX HW]
    · isplitr; · iexact HI
      isplitr; · iexact Hlev
      isplitr; · iexact HR0
      isplitl [HL0]; · iexact HL0
      isplitl [HO]; · iexact HO
      isplitl [HX]; · iexact HX
      iexact HW
    iintro ⟨HL0, HO, HX, HW⟩ %r
    iapply (tail0_ok κ κs X W c t (O := O) (Above_left hO) M1 h1 M2 h2 M3 h3 M4 h4 M5 h5 M6 h6 h7 h8) $$ [HL1 HO HX HW]
    · isplitr; · iexact HI
      isplitr; · iexact Hlev
      isplitr; · iexact HR1
      isplitl [HL1]; · iexact HL1
      isplitl [HO]; · iexact HO
      isplitl [HX]; · iexact HX
      iexact HW
    iintro ⟨HL1, HO, HX, HW⟩
    iapply Hk
    isplitl [HL0]; · iexact HL0
    isplitl [HL1]; · iexact HL1
    isplitl [HO]; · iexact HO
    isplitl [HX]; · iexact HX
    iexact HW
  · have ht : ¬t.val < 16 := fun h => hc ((cond3_eq t).mpr h)
    rw [dif_neg hc, wp_done, payH_off 0 c (by omega), payH_off 1 c (by omega), add_zero, add_zero, Ln0_off c 0 ht, Ln0_off c 1 ht]
    iintro ⟨#HI, #Hlev, #HR0, #HR1, HL0, HL1, HO, HX, HW⟩ Hk
    imodintro
    iapply Hk
    isplitl [HL0]; · iexact HL0
    isplitl [HL1]; · iexact HL1
    isplitl [HO]; · iexact HO
    isplitl [HX]; · iexact HX
    iexact HW

/-- Stage 1 of step `t`. -/
theorem stg1_ok (c : Dev nD) (t : Fin grid0.N) {O : CellTallies nD τ sig ℕ} (hO : Above (t.val + 1) (O + payH 1 1 t.val c + payH 0 1 t.val c))
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)
    (a0 v14 v25 v55 v149 w : BitVec 32) {K : PUnit → sProp 𝕄} :
    iprop(Inv (sums X W) κ κs ∗ levAts L lv ∗ ReadyAt (down 0 c) 0 t.val ∗ ReadyAt (down 1 c) 1 t.val ∗ LnM c 0 0 t.val ∗ LnM c 1 0 t.val
        ∗ Owes c (O + payH 1 1 t.val c + payH 0 1 t.val c) ∗ owns (c : Thread nD τ) M1 fullShare (X c) ∗ owns (c : Thread nD τ) M3 fullShare (W c (tile 1 t.val)))
      ⊢ iprop((iprop(LnM c 0 0 (t.val + 1) ∗ LnM c 1 0 (t.val + 1) ∗ Owes c O ∗ owns (c : Thread nD τ) M1 fullShare (X c) ∗ owns (c : Thread nD τ) M3 fullShare (W c (tile 1 t.val))) -∗ K ⟨⟩)
        -∗ wp frame (wpE (defs₀ (F := F)) 𝒱₀ (c : Thread nD τ) none) Set.univ (stg1 (F := F) (grid0.coords t) M1 h1 M2 h2 M3 h3 M4 h4 M5 h5 M6 h6 h7 h8 a0 c v14 v25 v55 v149 w) K) := by
  unfold stg1
  by_cases hc : k0_cond6 (grid0.coords t) = 1#1
  · have ht : 1 ≤ t.val ∧ t.val < 17 := (cond6_eq t).mp hc
    rw [dif_pos hc, wp_bind, (by show min _ _ = _; omega : tile 1 t.val = t.val - 1)]
    iintro ⟨#HI, #Hlev, #HR0, #HR1, HL0, HL1, HO, HX, HW⟩ Hk
    iapply (part2_ok κ κs X W c t (O := O + payH 1 1 t.val c + payH 0 1 t.val c) hO) $$ [HL0 HO HX HW]
    · isplitr; · iexact HI
      isplitr; · iexact Hlev
      isplitl [HL0]; · iexact HL0
      isplitl [HO]; · iexact HO
      isplitl [HX]; · iexact HX
      iexact HW
    iintro ⟨HL0, HO, HS, HX, HW⟩
    rw [wp_bind]
    iapply (part3_ok κ κs X W c t (O := O + payH 1 1 t.val c) hO) $$ [HL0 HL1 HO HS HX HW]
    · isplitr; · iexact HI
      isplitr; · iexact Hlev
      isplitr; · iexact HR0
      isplitl [HL0]; · iexact HL0
      isplitl [HS]; · iexact HS
      isplitl [HL1]; · iexact HL1
      isplitl [HO]; · iexact HO
      isplitl [HX]; · iexact HX
      iexact HW
    iintro ⟨HL0, HL1, HO, HS, HX, HW⟩
    iapply (tail1_ok κ κs X W c t (O := O) M1 h1 M2 h2 M3 h3 M4 h4 M5 h5 M6 h6 h7 h8) $$ [HL1 HO HS]
    · isplitr; · iexact HI
      isplitr; · iexact Hlev
      isplitr; · iexact HR1
      isplitl [HL1]; · iexact HL1
      isplitl [HS]; · iexact HS
      iexact HO
    iintro ⟨HL1, HO⟩
    iapply Hk
    isplitl [HL0]; · iexact HL0
    isplitl [HL1]; · iexact HL1
    isplitl [HO]; · iexact HO
    isplitl [HX]; · iexact HX
    iexact HW
  · have ht : ¬(1 ≤ t.val ∧ t.val < 16 + 1) := fun h => hc ((cond6_eq t).mpr (by omega))
    rw [dif_neg hc, wp_done, payH_off 0 c ht, payH_off 1 c ht, add_zero, add_zero, LnM_off c 0 (by omega) (by omega), LnM_off c 1 (by omega) (by omega)]
    iintro ⟨#HI, #Hlev, #HR0, #HR1, HL0, HL1, HO, HX, HW⟩ Hk
    imodintro
    iapply Hk
    isplitl [HL0]; · iexact HL0
    isplitl [HL1]; · iexact HL1
    isplitl [HO]; · iexact HO
    isplitl [HX]; · iexact HX
    iexact HW

/-- Stage 2 of step `t`. -/
theorem stg2_ok (c : Dev nD) (t : Fin grid0.N) {O : CellTallies nD τ sig ℕ} (hO : Above (t.val + 1) (O + payH 1 2 t.val c + payH 0 2 t.val c))
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)
    (a0 v14 v25 v67 v160 w : BitVec 32) {K : PUnit → sProp 𝕄} :
    iprop(Inv (sums X W) κ κs ∗ levAts L lv ∗ ReadyAt (down 0 c) 0 t.val ∗ ReadyAt (down 1 c) 1 t.val ∗ LnM c 0 1 t.val ∗ LnM c 1 1 t.val
        ∗ Owes c (O + payH 1 2 t.val c + payH 0 2 t.val c) ∗ owns (c : Thread nD τ) M1 fullShare (X c) ∗ owns (c : Thread nD τ) M4 fullShare (W c (tile 2 t.val)))
      ⊢ iprop((iprop(LnM c 0 1 (t.val + 1) ∗ LnM c 1 1 (t.val + 1) ∗ Owes c O ∗ owns (c : Thread nD τ) M1 fullShare (X c) ∗ owns (c : Thread nD τ) M4 fullShare (W c (tile 2 t.val))) -∗ K ⟨⟩)
        -∗ wp frame (wpE (defs₀ (F := F)) 𝒱₀ (c : Thread nD τ) none) Set.univ (stg2 (F := F) (grid0.coords t) M1 h1 M2 h2 M3 h3 M4 h4 M5 h5 M6 h6 h7 h8 a0 c v14 v25 v67 v160 w) K) := by
  unfold stg2
  by_cases hc : k0_cond9 (grid0.coords t) = 1#1
  · have ht : 2 ≤ t.val ∧ t.val < 18 := (cond9_eq t).mp hc
    rw [dif_pos hc, wp_bind, (by show min _ _ = _; omega : tile 2 t.val = t.val - 2)]
    iintro ⟨#HI, #Hlev, #HR0, #HR1, HL0, HL1, HO, HX, HW⟩ Hk
    iapply (part4_ok κ κs X W c t (O := O + payH 1 2 t.val c + payH 0 2 t.val c) hO) $$ [HL0 HO HX HW]
    · isplitr; · iexact HI
      isplitr; · iexact Hlev
      isplitl [HL0]; · iexact HL0
      isplitl [HO]; · iexact HO
      isplitl [HX]; · iexact HX
      iexact HW
    iintro ⟨HL0, HO, HS, HX, HW⟩
    rw [wp_bind]
    iapply (part5_ok κ κs X W c t (O := O + payH 1 2 t.val c) hO) $$ [HL0 HL1 HO HS HX HW]
    · isplitr; · iexact HI
      isplitr; · iexact Hlev
      isplitr; · iexact HR0
      isplitl [HL0]; · iexact HL0
      isplitl [HS]; · iexact HS
      isplitl [HL1]; · iexact HL1
      isplitl [HO]; · iexact HO
      isplitl [HX]; · iexact HX
      iexact HW
    iintro ⟨HL0, HL1, HO, HS, HX, HW⟩
    iapply (tail2_ok κ κs X W c t (O := O) M1 h1 M2 h2 M3 h3 M4 h4 M5 h5 M6 h6 h7 h8) $$ [HL1 HO HS]
    · isplitr; · iexact HI
      isplitr; · iexact Hlev
      isplitr; · iexact HR1
      isplitl [HL1]; · iexact HL1
      isplitl [HS]; · iexact HS
      iexact HO
    iintro ⟨HL1, HO⟩
    iapply Hk
    isplitl [HL0]; · iexact HL0
    isplitl [HL1]; · iexact HL1
    isplitl [HO]; · iexact HO
    isplitl [HX]; · iexact HX
    iexact HW
  · have ht : ¬(2 ≤ t.val ∧ t.val < 16 + 2) := fun h => hc ((cond9_eq t).mpr (by omega))
    rw [dif_neg hc, wp_done, payH_off 0 c ht, payH_off 1 c ht, add_zero, add_zero, LnM_off c 0 (by omega) (by omega), LnM_off c 1 (by omega) (by omega)]
    iintro ⟨#HI, #Hlev, #HR0, #HR1, HL0, HL1, HO, HX, HW⟩ Hk
    imodintro
    iapply Hk
    isplitl [HL0]; · iexact HL0
    isplitl [HL1]; · iexact HL1
    isplitl [HO]; · iexact HO
    isplitl [HX]; · iexact HX
    iexact HW

/-- What the result's tile is known to hold at step `n`. -/
abbrev OutTile (c : Dev nD) (n : ℕ) (Y : Vec F S1024x512 .f32) : Prop :=
  3 ≤ n → ∀ d, cols d Y = outs X W d c (n - 3)

/-- Stage 3 of step `t`. -/
theorem stg3_ok (c : Dev nD) (t : Fin grid0.N) {O : CellTallies nD τ sig ℕ} (hO : Above (t.val + 1) O)
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)
    (Y : Vec F S1024x512 .f32) (v1 v2 v3 : BitVec 32) {K : PUnit → sProp 𝕄} :
    iprop(Inv (sums X W) κ κs ∗ levAts L lv ∗ Ln3 c 0 t.val ∗ Ln3 c 1 t.val
        ∗ Owes c O ∗ owns (c : Thread nD τ) M1 fullShare (X c) ∗ owns (c : Thread nD τ) M5 fullShare (W c (tile 3 t.val)) ∗ owns (c : Thread nD τ) M6 fullShare Y)
      ⊢ iprop((∀ Y' : Vec F S1024x512 .f32, ⌜OutTile X W c t.val Y'⌝ -∗ iprop(Ln3 c 0 (t.val + 1) ∗ Ln3 c 1 (t.val + 1) ∗ Owes c O ∗ owns (c : Thread nD τ) M1 fullShare (X c) ∗ owns (c : Thread nD τ) M5 fullShare (W c (tile 3 t.val)) ∗ owns (c : Thread nD τ) M6 fullShare Y') -∗ K ⟨⟩)
        -∗ wp frame (wpE (defs₀ (F := F)) 𝒱₀ (c : Thread nD τ) none) Set.univ (stg3 (F := F) (grid0.coords t) M1 h1 M2 h2 M3 h3 M4 h4 M5 h5 M6 h6 h7 h8 c v1 v2 v3) K) := by
  unfold stg3
  by_cases hc : k0_cond12 (grid0.coords t) = 1#1
  · have ht : 3 ≤ t.val := (cond12_eq t).mp hc
    have htN : t.val < 19 := t.isLt
    rw [dif_pos hc, wp_bind, (by show min _ _ = _; omega : tile 3 t.val = t.val - 3)]
    iintro ⟨#HI, #Hlev, HL0, HL1, HO, HX, HW, HY⟩ Hk
    iapply (part6_ok κ κs X W c t (O := O) hO M1 h1 M2 h2 M3 h3 M4 h4 M5 h5 M6 h6 h7 h8 Y) $$ [HL0 HO HX HW HY]
    · isplitr; · iexact HI
      isplitr; · iexact Hlev
      isplitl [HL0]; · iexact HL0
      isplitl [HO]; · iexact HO
      isplitl [HX]; · iexact HX
      isplitl [HW]; · iexact HW
      iexact HY
    iintro %Y1 %hY1 ⟨HL0, HO, HX, HW, HY⟩
    iapply (tail3_ok κ κs X W c t (O := O) hO M1 h1 M2 h2 M3 h3 M4 h4 M5 h5 M6 h6 h7 h8 Y1) $$ [HL1 HO HY]
    · isplitr; · iexact HI
      isplitr; · iexact Hlev
      isplitl [HL1]; · iexact HL1
      isplitl [HO]; · iexact HO
      iexact HY
    iintro %Y2 %hY2 ⟨HL1, HO, HY⟩
    iapply Hk $$ %Y2 %_ [HL0 HL1 HO HX HW HY]
    · intro _ d
      match d with
      | 0 => exact (hY2.2 0 (by decide)).trans hY1.1
      | 1 => exact hY2.1
    isplitl [HL0]; · iexact HL0
    isplitl [HL1]; · iexact HL1
    isplitl [HO]; · iexact HO
    isplitl [HX]; · iexact HX
    isplitl [HW]; · iexact HW
    iexact HY
  · have ht : ¬3 ≤ t.val := fun h => hc ((cond12_eq t).mpr h)
    rw [dif_neg hc, wp_done, Ln3_off c 0 ht, Ln3_off c 1 ht]
    iintro ⟨#HI, #Hlev, HL0, HL1, HO, HX, HW, HY⟩ Hk
    imodintro
    iapply Hk $$ %Y %_ [HL0 HL1 HO HX HW HY]
    · exact fun h => absurd h ht
    isplitl [HL0]; · iexact HL0
    isplitl [HL1]; · iexact HL1
    isplitl [HO]; · iexact HO
    isplitl [HX]; · iexact HX
    isplitl [HW]; · iexact HW
    iexact HY

end Cert.KernelIdeal.Hand
-- ==== Proof.Step.lean ====
module
public import proofs.«01_k».proof.Proof.Stages
/-! # A whole step

The waits at its start, its stages, its credits, and the waits that close the last one. -/
@[expose] public section
noncomputable section
namespace Cert.KernelIdeal.Hand
open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
variable {F : FTy → Type} [FloatOps F]
local notation "𝕄" => MT nD τ sig ℕ (Elt F) ℕ U ℕ

variable (κ : GSem nD τ sig → ℕ) (κs : Key → ℕ) (X : Dev nD → Vec F S4096x1024 .f32) (W : Dev nD → ℕ → Vec F S1024x512 .f32)

/-- What is left to await in direction `d` once every tile is received: sends from tile `w` on. -/
def Drn (c : Dev nD) (d : Fin 2) (w : ℕ) : sProp 𝕄 :=
  iprop(Snd c d 0 16 w ∗ Src c d 16 w ∗ Snd c d 1 16 w ∗ Slt c d 0 w ∗ Snd c d 2 16 w ∗ Slt c d 1 w)

/-- What a device has of direction `d` at the start of step `n`. -/
def Dir (c : Dev nD) (d : Fin 2) (n : ℕ) : sProp 𝕄 :=
  iprop(Ln0 c d n ∗ LnM c d 0 n ∗ LnM c d 1 n ∗ Ln3 c d n)

theorem Dir_drain (c : Dev nD) (d : Fin 2) :
    (Dir c d 19 : sProp 𝕄) ⊢ iprop(Drn c d 14 ∗ Rcv c d 0 16 ∗ Rcv c d 1 16 ∗ Rcv c d 2 16 ∗ Slt c d 2 16) := by
  unfold Dir Drn Ln0 LnM Ln3
  iintro ⟨⟨HS0, HSr⟩, ⟨HV0, HS1, HT0⟩, ⟨HV1, HS2, HT1⟩, HV2, HT2⟩
  isplitl [HS0 HSr HS1 HT0 HS2 HT1]
  · isplitl [HS0]; · iexact HS0
    isplitl [HSr]; · iexact HSr
    isplitl [HS1]; · iexact HS1
    isplitl [HT0]; · iexact HT0
    isplitl [HS2]; · iexact HS2
    iexact HT1
  isplitl [HV0]; · iexact HV0
  isplitl [HV1]; · iexact HV1
  isplitl [HV2]; · iexact HV2
  iexact HT2

/-- Direction 0's sends of tile 14 are awaited. -/
theorem part7_ok (c : Dev nD) (i : grid0.Coords)
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)
    {K : PUnit → sProp 𝕄} :
    iprop(Inv (sums X W) κ κs ∗ levAts L lv ∗ Drn c 0 14 ∗ Owes c 0)
      ⊢ iprop((iprop(Drn c 0 15 ∗ Owes c 0) -∗ K ⟨⟩)
        -∗ wp frame (wpE (defs₀ (F := F)) 𝒱₀ (c : Thread nD τ) none) Set.univ (k0_part7 (F := F) i M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7) K) := by
  rw [k0_part7_eq_skeleton]
  unfold k0_part7_skel Drn
  simp only [Prog.bind_lift]
  iintro ⟨#HI, #Hlev, ⟨HS0, HSr, HS1, HT0, HS2, HT1⟩, HO⟩ Hk
  iapply (wp_sndwait (sums X W) κ κs c 0 (h := 0) (w := 14) (a := 16) (by omega) (by omega) (by omega) rfl (slot_credit 0 _ _) (Above.zero 0)) $$ [HS0 HO]
  · isplitr; · iexact HI
    isplitr; · iexact Hlev
    isplitl [HS0]; · iexact HS0
    iexact HO
  iintro ⟨HS0, HO, Hb0⟩
  iapply (wp_sndwait (sums X W) κ κs c 0 (h := 1) (w := 14) (a := 16) (by omega) (by omega) (by omega) rfl (slot_credit 0 _ _) (Above.zero 0)) $$ [HS1 HO]
  · isplitr; · iexact HI
    isplitr; · iexact Hlev
    isplitl [HS1]; · iexact HS1
    iexact HO
  iintro ⟨HS1, HO, Hb1⟩
  iapply (wp_sndwait (sums X W) κ κs c 0 (h := 2) (w := 14) (a := 16) (by omega) (by omega) (by omega) rfl (slot_credit 0 _ _) (Above.zero 0)) $$ [HS2 HO]
  · isplitr; · iexact HI
    isplitr; · iexact Hlev
    isplitl [HS2]; · iexact HS2
    iexact HO
  iintro ⟨HS2, HO, Hb2⟩
  ihave HSr := (Src_put (F := F) c 0 (a := 16) (w := 14) (by omega) (by omega)) $$ [HSr Hb0]
  · isplitl [HSr]; · iexact HSr
    iexact Hb0
  iapply fupd_wp
  imod (Slt_done (sums X W) κ κs c 0 (h := 0) (x := 14) (by omega) (by omega)) $$ [HT0 Hb1] with HT0
  · isplitr; · iexact HI
    isplitl [HT0]; · iexact HT0
    iexact Hb1
  imodintro
  iapply fupd_wp
  imod (Slt_done (sums X W) κ κs c 0 (h := 1) (x := 14) (by omega) (by omega)) $$ [HT1 Hb2] with HT1
  · isplitr; · iexact HI
    isplitl [HT1]; · iexact HT1
    iexact Hb2
  imodintro
  rw [wp_done]
  imodintro
  iapply Hk
  isplitl [HS0 HSr HS1 HT0 HS2 HT1]
  · isplitl [HS0]; · iexact HS0
    isplitl [HSr]; · iexact HSr
    isplitl [HS1]; · iexact HS1
    isplitl [HT0]; · iexact HT0
    isplitl [HS2]; · iexact HS2
    iexact HT1
  iexact HO

/-- Direction 0's sends of tile 15 are awaited. -/
theorem part8_ok (c : Dev nD) (i : grid0.Coords)
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)
    {K : PUnit → sProp 𝕄} :
    iprop(Inv (sums X W) κ κs ∗ levAts L lv ∗ Drn c 0 15 ∗ Owes c 0)
      ⊢ iprop((iprop(Drn c 0 16 ∗ Owes c 0) -∗ K ⟨⟩)
        -∗ wp frame (wpE (defs₀ (F := F)) 𝒱₀ (c : Thread nD τ) none) Set.univ (k0_part8 (F := F) i M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7) K) := by
  rw [k0_part8_eq_skeleton]
  unfold k0_part8_skel Drn
  simp only [Prog.bind_lift]
  iintro ⟨#HI, #Hlev, ⟨HS0, HSr, HS1, HT0, HS2, HT1⟩, HO⟩ Hk
  iapply (wp_sndwait (sums X W) κ κs c 0 (h := 0) (w := 15) (a := 16) (by omega) (by omega) (by omega) rfl (slot_credit 0 _ _) (Above.zero 0)) $$ [HS0 HO]
  · isplitr; · iexact HI
    isplitr; · iexact Hlev
    isplitl [HS0]; · iexact HS0
    iexact HO
  iintro ⟨HS0, HO, Hb0⟩
  iapply (wp_sndwait (sums X W) κ κs c 0 (h := 1) (w := 15) (a := 16) (by omega) (by omega) (by omega) rfl (slot_credit 0 _ _) (Above.zero 0)) $$ [HS1 HO]
  · isplitr; · iexact HI
    isplitr; · iexact Hlev
    isplitl [HS1]; · iexact HS1
    iexact HO
  iintro ⟨HS1, HO, Hb1⟩
  iapply (wp_sndwait (sums X W) κ κs c 0 (h := 2) (w := 15) (a := 16) (by omega) (by omega) (by omega) rfl (slot_credit 0 _ _) (Above.zero 0)) $$ [HS2 HO]
  · isplitr; · iexact HI
    isplitr; · iexact Hlev
    isplitl [HS2]; · iexact HS2
    iexact HO
  iintro ⟨HS2, HO, Hb2⟩
  ihave HSr := (Src_put (F := F) c 0 (a := 16) (w := 15) (by omega) (by omega)) $$ [HSr Hb0]
  · isplitl [HSr]; · iexact HSr
    iexact Hb0
  iapply fupd_wp
  imod (Slt_done (sums X W) κ κs c 0 (h := 0) (x := 15) (by omega) (by omega)) $$ [HT0 Hb1] with HT0
  · isplitr; · iexact HI
    isplitl [HT0]; · iexact HT0
    iexact Hb1
  imodintro
  iapply fupd_wp
  imod (Slt_done (sums X W) κ κs c 0 (h := 1) (x := 15) (by omega) (by omega)) $$ [HT1 Hb2] with HT1
  · isplitr; · iexact HI
    isplitl [HT1]; · iexact HT1
    iexact Hb2
  imodintro
  rw [wp_done]
  imodintro
  iapply Hk
  isplitl [HS0 HSr HS1 HT0 HS2 HT1]
  · isplitl [HS0]; · iexact HS0
    isplitl [HSr]; · iexact HSr
    isplitl [HS1]; · iexact HS1
    isplitl [HT0]; · iexact HT0
    isplitl [HS2]; · iexact HS2
    iexact HT1
  iexact HO

/-- Direction 1's sends of tile 14 are awaited. -/
theorem part9_ok (c : Dev nD) (i : grid0.Coords)
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)
    {K : PUnit → sProp 𝕄} :
    iprop(Inv (sums X W) κ κs ∗ levAts L lv ∗ Drn c 1 14 ∗ Owes c 0)
      ⊢ iprop((iprop(Drn c 1 15 ∗ Owes c 0) -∗ K ⟨⟩)
        -∗ wp frame (wpE (defs₀ (F := F)) 𝒱₀ (c : Thread nD τ) none) Set.univ (k0_part9 (F := F) i M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7) K) := by
  rw [k0_part9_eq_skeleton]
  unfold k0_part9_skel Drn
  simp only [Prog.bind_lift]
  iintro ⟨#HI, #Hlev, ⟨HS0, HSr, HS1, HT0, HS2, HT1⟩, HO⟩ Hk
  iapply (wp_sndwait (sums X W) κ κs c 1 (h := 0) (w := 14) (a := 16) (by omega) (by omega) (by omega) rfl (slot_credit 1 _ _) (Above.zero 0)) $$ [HS0 HO]
  · isplitr; · iexact HI
    isplitr; · iexact Hlev
    isplitl [HS0]; · iexact HS0
    iexact HO
  iintro ⟨HS0, HO, Hb0⟩
  iapply (wp_sndwait (sums X W) κ κs c 1 (h := 1) (w := 14) (a := 16) (by omega) (by omega) (by omega) rfl (slot_credit 1 _ _) (Above.zero 0)) $$ [HS1 HO]
  · isplitr; · iexact HI
    isplitr; · iexact Hlev
    isplitl [HS1]; · iexact HS1
    iexact HO
  iintro ⟨HS1, HO, Hb1⟩
  iapply (wp_sndwait (sums X W) κ κs c 1 (h := 2) (w := 14) (a := 16) (by omega) (by omega) (by omega) rfl (slot_credit 1 _ _) (Above.zero 0)) $$ [HS2 HO]
  · isplitr; · iexact HI
    isplitr; · iexact Hlev
    isplitl [HS2]; · iexact HS2
    iexact HO
  iintro ⟨HS2, HO, Hb2⟩
  ihave HSr := (Src_put (F := F) c 1 (a := 16) (w := 14) (by omega) (by omega)) $$ [HSr Hb0]
  · isplitl [HSr]; · iexact HSr
    iexact Hb0
  iapply fupd_wp
  imod (Slt_done (sums X W) κ κs c 1 (h := 0) (x := 14) (by omega) (by omega)) $$ [HT0 Hb1] with HT0
  · isplitr; · iexact HI
    isplitl [HT0]; · iexact HT0
    iexact Hb1
  imodintro
  iapply fupd_wp
  imod (Slt_done (sums X W) κ κs c 1 (h := 1) (x := 14) (by omega) (by omega)) $$ [HT1 Hb2] with HT1
  · isplitr; · iexact HI
    isplitl [HT1]; · iexact HT1
    iexact Hb2
  imodintro
  rw [wp_done]
  imodintro
  iapply Hk
  isplitl [HS0 HSr HS1 HT0 HS2 HT1]
  · isplitl [HS0]; · iexact HS0
    isplitl [HSr]; · iexact HSr
    isplitl [HS1]; · iexact HS1
    isplitl [HT0]; · iexact HT0
    isplitl [HS2]; · iexact HS2
    iexact HT1
  iexact HO

/-- Direction 1's sends of tile 15 are awaited. -/
theorem part10_ok (c : Dev nD) (i : grid0.Coords)
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)
    {K : PUnit → sProp 𝕄} :
    iprop(Inv (sums X W) κ κs ∗ levAts L lv ∗ Drn c 1 15 ∗ Owes c 0)
      ⊢ iprop((iprop(Drn c 1 16 ∗ Owes c 0) -∗ K ⟨⟩)
        -∗ wp frame (wpE (defs₀ (F := F)) 𝒱₀ (c : Thread nD τ) none) Set.univ (k0_part10 (F := F) i M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7) K) := by
  rw [k0_part10_eq_skeleton]
  unfold k0_part10_skel Drn
  simp only [Prog.bind_lift]
  iintro ⟨#HI, #Hlev, ⟨HS0, HSr, HS1, HT0, HS2, HT1⟩, HO⟩ Hk
  iapply (wp_sndwait (sums X W) κ κs c 1 (h := 0) (w := 15) (a := 16) (by omega) (by omega) (by omega) rfl (slot_credit 1 _ _) (Above.zero 0)) $$ [HS0 HO]
  · isplitr; · iexact HI
    isplitr; · iexact Hlev
    isplitl [HS0]; · iexact HS0
    iexact HO
  iintro ⟨HS0, HO, Hb0⟩
  iapply (wp_sndwait (sums X W) κ κs c 1 (h := 1) (w := 15) (a := 16) (by omega) (by omega) (by omega) rfl (slot_credit 1 _ _) (Above.zero 0)) $$ [HS1 HO]
  · isplitr; · iexact HI
    isplitr; · iexact Hlev
    isplitl [HS1]; · iexact HS1
    iexact HO
  iintro ⟨HS1, HO, Hb1⟩
  iapply (wp_sndwait (sums X W) κ κs c 1 (h := 2) (w := 15) (a := 16) (by omega) (by omega) (by omega) rfl (slot_credit 1 _ _) (Above.zero 0)) $$ [HS2 HO]
  · isplitr; · iexact HI
    isplitr; · iexact Hlev
    isplitl [HS2]; · iexact HS2
    iexact HO
  iintro ⟨HS2, HO, Hb2⟩
  ihave HSr := (Src_put (F := F) c 1 (a := 16) (w := 15) (by omega) (by omega)) $$ [HSr Hb0]
  · isplitl [HSr]; · iexact HSr
    iexact Hb0
  iapply fupd_wp
  imod (Slt_done (sums X W) κ κs c 1 (h := 0) (x := 15) (by omega) (by omega)) $$ [HT0 Hb1] with HT0
  · isplitr; · iexact HI
    isplitl [HT0]; · iexact HT0
    iexact Hb1
  imodintro
  iapply fupd_wp
  imod (Slt_done (sums X W) κ κs c 1 (h := 1) (x := 15) (by omega) (by omega)) $$ [HT1 Hb2] with HT1
  · isplitr; · iexact HI
    isplitl [HT1]; · iexact HT1
    iexact Hb2
  imodintro
  rw [wp_done]
  imodintro
  iapply Hk
  isplitl [HS0 HSr HS1 HT0 HS2 HT1]
  · isplitl [HS0]; · iexact HS0
    isplitl [HSr]; · iexact HSr
    isplitl [HS1]; · iexact HS1
    isplitl [HT0]; · iexact HT0
    isplitl [HS2]; · iexact HS2
    iexact HT1
  iexact HO

/-- What a step reads: the left array's columns and, per stage, a tile of the right array's rows. -/
def Reads (c : Dev nD) (n : ℕ) (M1 : Memref sig .tc .vmem S4096x1024 .f32) (M2 M3 M4 M5 : Memref sig .tc .vmem S1024x512 .f32) : sProp 𝕄 :=
  iprop(owns (c : Thread nD τ) M1 fullShare (X c) ∗ owns (c : Thread nD τ) M2 fullShare (W c (tile 0 n)) ∗ owns (c : Thread nD τ) M3 fullShare (W c (tile 1 n))
        ∗ owns (c : Thread nD τ) M4 fullShare (W c (tile 2 n)) ∗ owns (c : Thread nD τ) M5 fullShare (W c (tile 3 n)))

/-- What a device owes at step `n` for all but the sends. -/
abbrev restO (c : Dev nD) (n : ℕ) : CellTallies nD τ sig ℕ := rem c (n + 1) + payC 1 n c + payC 0 n c

theorem hops_above (c : Dev nD) {n : ℕ} (hn : n < 19) : Above (n + 1) (restO c n
    + payH 1 2 n c + payH 0 2 n c + payH 1 1 n c + payH 0 1 n c + payH 1 0 n c + payH 0 0 n c) := by
  unfold restO; rw [← rem_step c hn]; exact rem_above c n

/-- The four stages of a step. -/
theorem part16_ok (c : Dev nD) (t : Fin grid0.N)
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)
    (Y : Vec F S1024x512 .f32) (a0 v2 v14 v25 v43 v55 v67 v79 v138 v149 v160 v171 v174 v175 : BitVec 32) (v176 : BitVec 1) (c0 : BitVec 32)
    {K : PUnit → sProp 𝕄} :
    iprop(Inv (sums X W) κ κs ∗ levAts L lv ∗ ReadyAt (down 0 c) 0 t.val ∗ ReadyAt (down 1 c) 1 t.val ∗ Dir c 0 t.val ∗ Dir c 1 t.val
        ∗ Owes c (rem c t.val) ∗ Reads X W c t.val M1 M2 M3 M4 M5 ∗ owns (c : Thread nD τ) M6 fullShare Y)
      ⊢ iprop((∀ Y' : Vec F S1024x512 .f32, ⌜OutTile X W c t.val Y'⌝ -∗ iprop(Dir c 0 (t.val + 1) ∗ Dir c 1 (t.val + 1)
            ∗ Owes c (restO c t.val) ∗ Reads X W c t.val M1 M2 M3 M4 M5 ∗ owns (c : Thread nD τ) M6 fullShare Y') -∗ K ⟨⟩)
        -∗ wp frame (wpE (defs₀ (F := F)) 𝒱₀ (c : Thread nD τ) none) Set.univ (k0_part16 (F := F) (grid0.coords t) M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7 a0 c v2 v14 v25 v43 v55 v67 v79 v138 v149 v160 v171 v174 v175 v176 c0) K) := by
  obtain ⟨w, w', e⟩ := part16_stages (F := F) (grid0.coords t) M1 h1 M2 h2 M3 h3 M4 h4 M5 h5 M6 h6 h7 h8 a0 c v2 v14 v25 v43 v55 v67 v79 v138 v149 v160 v171 v174 v175 v176 c0
  have htN : t.val < 19 := t.isLt
  rw [e, wp_bind, rem_step c htN]
  have hO := hops_above c htN
  unfold Reads Dir
  iintro ⟨#HI, #Hlev, #HR0, #HR1, ⟨HA0, HA1, HA2, HA3⟩, ⟨HB0, HB1, HB2, HB3⟩, HO, ⟨HX, HW0, HW1, HW2, HW3⟩, HY⟩ Hk
  iapply (stg0_ok κ κs X W c t (O := restO c t.val + payH 1 2 t.val c + payH 0 2 t.val c + payH 1 1 t.val c + payH 0 1 t.val c) hO M1 h1 M2 h2 M3 h3 M4 h4 M5 h5 M6 h6) $$ [HA0 HB0 HO HX HW0]
  · isplitr; · iexact HI
    isplitr; · iexact Hlev
    isplitr; · iexact HR0
    isplitr; · iexact HR1
    isplitl [HA0]; · iexact HA0
    isplitl [HB0]; · iexact HB0
    isplitl [HO]; · iexact HO
    isplitl [HX]; · iexact HX
    iexact HW0
  iintro ⟨HA0, HB0, HO, HX, HW0⟩
  rw [wp_bind]
  iapply (stg1_ok κ κs X W c t (O := restO c t.val + payH 1 2 t.val c + payH 0 2 t.val c) (Above_left (Above_left hO)) M1 h1 M2 h2 M3 h3 M4 h4 M5 h5 M6 h6) $$ [HA1 HB1 HO HX HW1]
  · isplitr; · iexact HI
    isplitr; · iexact Hlev
    isplitr; · iexact HR0
    isplitr; · iexact HR1
    isplitl [HA1]; · iexact HA1
    isplitl [HB1]; · iexact HB1
    isplitl [HO]; · iexact HO
    isplitl [HX]; · iexact HX
    iexact HW1
  iintro ⟨HA1, HB1, HO, HX, HW1⟩
  rw [wp_bind]
  iapply (stg2_ok κ κs X W c t (O := restO c t.val) (Above_left (Above_left (Above_left (Above_left hO)))) M1 h1 M2 h2 M3 h3 M4 h4 M5 h5 M6 h6) $$ [HA2 HB2 HO HX HW2]
  · isplitr; · iexact HI
    isplitr; · iexact Hlev
    isplitr; · iexact HR0
    isplitr; · iexact HR1
    isplitl [HA2]; · iexact HA2
    isplitl [HB2]; · iexact HB2
    isplitl [HO]; · iexact HO
    isplitl [HX]; · iexact HX
    iexact HW2
  iintro ⟨HA2, HB2, HO, HX, HW2⟩
  iapply (stg3_ok κ κs X W c t (O := restO c t.val) (Above_left (Above_left (Above_left (Above_left (Above_left (Above_left hO)))))) M1 h1 M2 h2 M3 h3 M4 h4 M5 h5 M6 h6 h7 h8 Y) $$ [HA3 HB3 HO HX HW3 HY]
  · isplitr; · iexact HI
    isplitr; · iexact Hlev
    isplitl [HA3]; · iexact HA3
    isplitl [HB3]; · iexact HB3
    isplitl [HO]; · iexact HO
    isplitl [HX]; · iexact HX
    isplitl [HW3]; · iexact HW3
    iexact HY
  iintro %Y' %hY ⟨HA3, HB3, HO, HX, HW3, HY⟩
  iapply Hk $$ %Y' %_ [HA0 HA1 HA2 HA3 HB0 HB1 HB2 HB3 HO HX HW0 HW1 HW2 HW3 HY]
  · exact hY
  isplitl [HA0 HA1 HA2 HA3]
  · isplitl [HA0]; · iexact HA0
    isplitl [HA1]; · iexact HA1
    isplitl [HA2]; · iexact HA2
    iexact HA3
  isplitl [HB0 HB1 HB2 HB3]
  · isplitl [HB0]; · iexact HB0
    isplitl [HB1]; · iexact HB1
    isplitl [HB2]; · iexact HB2
    iexact HB3
  isplitl [HO]; · iexact HO
  isplitl [HX HW0 HW1 HW2 HW3]
  · isplitl [HX]; · iexact HX
    isplitl [HW0]; · iexact HW0
    isplitl [HW1]; · iexact HW1
    isplitl [HW2]; · iexact HW2
    iexact HW3
  iexact HY

/-- All of these hold together when each of them does, being known for good. -/
theorem known_all {I : Type} [DecidableEq I] {P : sProp 𝕄} {Φ : I → sProp 𝕄} [∀ i, BI.Persistent (Φ i)] (s : Finset I)
    (h : ∀ i ∈ s, P ⊢ Φ i) : P ⊢ bigSep s Φ := by
  induction s using Finset.induction_on with
  | empty => rw [bigSep_empty]; exact BI.Affine.affine
  | insert i s hi ih =>
    rw [bigSep_insert hi]
    exact (persistent_entails_right (h i (Finset.mem_insert_self i s))).trans (sep_mono_right (ih fun j hj => h j (Finset.mem_insert_of_mem hj)))

/-- A device is ready for everything it is sent at the step it starts. -/
theorem Dir_ready (c : Dev nD) (d : Fin 2) (n : ℕ) : (Dir c d n : sProp 𝕄) ⊢ iprop(ReadyAt c d n ∗ Dir c d n) := by
  apply persistent_entails_right
  unfold ReadyAt
  refine known_all _ fun h hh => ?_
  obtain ⟨h3, h1, h2⟩ : h < 3 ∧ h ≤ n ∧ n - h < 16 := by
    have := Finset.mem_filter.mp hh; exact ⟨Finset.mem_range.mp this.1, this.2⟩
  have H : iprop(Rcv c d h (rcd h n) ∗ Slt c d h (dne h n)) ⊢ (Ready c d h (n - h) : sProp 𝕄) := by
    refine Ready_intro c d ?_ ?_ h2
    · show _ ≤ min _ _ + 1; omega
    · show _ ≤ ite _ _ _ + 3
      split
      · show _ ≤ min _ _ + 3; omega
      · show _ ≤ min _ _ + 3; omega
  refine BIBase.Entails.trans ?_ H
  unfold Dir LnM Ln3
  iintro ⟨-, ⟨HV0, -, HT0⟩, ⟨HV1, -, HT1⟩, HV2, HT2⟩
  match h, h3 with
  | 0, _ =>
    isplitl [HV0]; · iexact HV0
    iexact HT0
  | 1, _ =>
    isplitl [HV1]; · iexact HV1
    iexact HT1
  | 2, _ =>
    isplitl [HV2]; · iexact HV2
    iexact HT2

theorem ReadyTo_next (c : Dev nD) (d : Fin 2) (n : ℕ) : iprop(ReadyTo c d n ∗ ReadyAt c d (n + 1)) ⊢ (ReadyTo c d (n + 1) : sProp 𝕄) := by
  unfold ReadyTo
  have e : (bigSep (Finset.range (n + 1 + 1)) fun j => ReadyAt c d j : sProp 𝕄) = iprop(ReadyAt c d (n + 1) ∗ bigSep (Finset.range (n + 1)) fun j => ReadyAt c d j) := by
    rw [Finset.range_add_one (n := n + 1)]; exact bigSep_insert Finset.notMem_range_self
  rw [e]
  iintro ⟨H1, H2⟩
  isplitl [H2]; · iexact H2
  iexact H1

/-- The tokens of the credits direction `d` has still to give from step `n` on. -/
def Toks (c : Dev nD) (d : Fin 2) (n : ℕ) : sProp 𝕄 :=
  bigSep (Finset.Ico n 19) fun j => dutyTok ER (crCell (up d c) d) 0 j

theorem Toks_take (c : Dev nD) (d : Fin 2) {n : ℕ} (hn : n < 19) :
    (Toks c d n : sProp 𝕄) ⊢ iprop(dutyTok ER (crCell (up d c) d) 0 n ∗ Toks c d (n + 1)) := by
  unfold Toks
  have e : Finset.Ico n 19 = insert n (Finset.Ico (n + 1) 19) := by
    ext j; simp only [Finset.mem_Ico, Finset.mem_insert]; omega
  rw [e, bigSep_insert (by simp only [Finset.mem_Ico]; omega)]
  exact Entails.of_eq rfl

/-- The two credits of a step. -/
theorem credits_ok (c : Dev nD) {n : ℕ} (hn : n < 19) {e e' : Dev nD} (he : e = up 0 c) (he' : e' = up 1 c)
    {α : Type} {k : PUnit → Prog (TpuEff nD τ sig (Elt F) Λ₀ .tc) α} {Q : α → sProp 𝕄} :
    iprop(Inv (sums X W) κ κs ∗ reached ER (crCell (up 0 c) 0) 0 ∗ reached ER (crCell (up 1 c) 1) 0
        ∗ ReadyTo c 0 n ∗ ReadyTo c 1 n ∗ Dir c 0 (n + 1) ∗ Dir c 1 (n + 1) ∗ Toks c 0 n ∗ Toks c 1 n ∗ Owes c (restO c n))
      ⊢ iprop((iprop(ReadyTo c 0 (n + 1) ∗ ReadyTo c 1 (n + 1) ∗ Dir c 0 (n + 1) ∗ Dir c 1 (n + 1) ∗ Toks c 0 (n + 1) ∗ Toks c 1 (n + 1) ∗ Owes c (rem c (n + 1)))
            -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (e : Thread nD τ) (crS 0) 1) fun _ => .op (.semSignal (e' : Thread nD τ) (crS 1) 1) k) Q) := by
  iintro ⟨#HI, #Hr0, #Hr1, #HT0, #HT1, HD0, HD1, Ht0, Ht1, HO⟩ Hk
  ihave HD0 := (Dir_ready (F := F) c 0 (n + 1)) $$ HD0
  icases HD0 with ⟨#HA0, HD0⟩
  ihave HD1 := (Dir_ready (F := F) c 1 (n + 1)) $$ HD1
  icases HD1 with ⟨#HA1, HD1⟩
  ihave #HN0 := (ReadyTo_next (F := F) c 0 n) $$ [HT0 HA0]
  · isplitr; · iexact HT0
    iexact HA0
  ihave #HN1 := (ReadyTo_next (F := F) c 1 n) $$ [HT1 HA1]
  · isplitr; · iexact HT1
    iexact HA1
  ihave Ht0 := (Toks_take (F := F) c 0 hn) $$ Ht0
  icases Ht0 with ⟨Hd0, Ht0⟩
  ihave Ht1 := (Toks_take (F := F) c 1 hn) $$ Ht1
  icases Ht1 with ⟨Hd1, Ht1⟩
  iapply (wp_crsignal (sums X W) κ κs c 0 hn he (O₀ := restO c n) (O := rem c (n + 1) + payC 1 n c) rfl) $$ [Hd0 HO]
  · isplitr; · iexact HI
    isplitr; · iexact HN0
    isplitr; · iexact Hr0
    isplitl [Hd0]; · iexact Hd0
    iexact HO
  iintro HO
  iapply (wp_crsignal (sums X W) κ κs c 1 hn he' (O₀ := rem c (n + 1) + payC 1 n c) (O := rem c (n + 1)) rfl) $$ [Hd1 HO]
  · isplitr; · iexact HI
    isplitr; · iexact HN1
    isplitr; · iexact Hr1
    isplitl [Hd1]; · iexact Hd1
    iexact HO
  iintro HO
  iapply Hk
  isplitr; · iexact HN0
  isplitr; · iexact HN1
  isplitl [HD0]; · iexact HD0
  isplitl [HD1]; · iexact HD1
  isplitl [Ht0]; · iexact Ht0
  isplitl [Ht1]; · iexact Ht1
  iexact HO

/-- A device at the start of step `n`, which is not the first. -/
def St (c : Dev nD) (n : ℕ) : sProp 𝕄 :=
  iprop(Inv (sums X W) κ κs ∗ levAts L lv ∗ reached ER (crCell (up 0 c) 0) 0 ∗ reached ER (crCell (up 1 c) 1) 0
    ∗ ReadyTo c 0 n ∗ ReadyTo c 1 n ∗ Dir c 0 n ∗ Dir c 1 n ∗ Toks c 0 n ∗ Toks c 1 n ∗ Crd c 0 (n - 1) ∗ Crd c 1 (n - 1)
    ∗ atPos ER (barCell c) 1 ∅ 0)

/-- A device in step `n` once its neighbours are known to be ready. -/
def Mid (c : Dev nD) (n : ℕ) : sProp 𝕄 :=
  iprop(Inv (sums X W) κ κs ∗ levAts L lv ∗ reached ER (crCell (up 0 c) 0) 0 ∗ reached ER (crCell (up 1 c) 1) 0
    ∗ ReadyTo c 0 n ∗ ReadyTo c 1 n ∗ ReadyAt (down 0 c) 0 n ∗ ReadyAt (down 1 c) 1 n
    ∗ Dir c 0 n ∗ Dir c 1 n ∗ Toks c 0 n ∗ Toks c 1 n ∗ Crd c 0 n ∗ Crd c 1 n ∗ atPos ER (barCell c) 1 ∅ 0)

/-- A device before the first step's barrier. -/
def Fst (c : Dev nD) : sProp 𝕄 :=
  iprop(Inv (sums X W) κ κs ∗ levAts L lv ∗ BarPay c 0 ∗ BarPay c 1 ∗ reached ER (barCell (up 0 c)) 0 ∗ reached ER (barCell (up 1 c)) 0
    ∗ Dir c 0 0 ∗ Dir c 1 0 ∗ Toks c 0 0 ∗ Toks c 1 0 ∗ Crd c 0 0 ∗ Crd c 1 0 ∗ atPos ER (barCell c) 0 ∅ 0
    ∗ dutyTok ER (barCell (up 0 c)) 0 0 ∗ dutyTok ER (barCell (up 1 c)) 0 1 ∗ cred (tallyAt (barCell c) 0 2))

theorem bind_unit {α : Type} (k : PUnit → Prog (TpuEff nD τ sig (Elt F) Λ₀ .tc) α) : (Prog.ret PUnit.unit).bind k = k ⟨⟩ := rfl

theorem later_eq : ∀ t : Fin grid0.N, (Scalar.cmpi .ne (Scalar.extui (Scalar.cmpi .sge (BitVec.ofNat 32 ((grid0.coords t) 0).val) 1#32)) 0#32 = 1#1 ↔ 1 ≤ t.val) := by
  decide +kernel
theorem last_eq : ∀ t : Fin grid0.N, (Scalar.cmpi .ne (Scalar.extui (Scalar.cmpi .eq (BitVec.ofNat 32 ((grid0.coords t) 0).val) 18#32)) 0#32 = 1#1 ↔ t.val = 18) := by
  decide +kernel

/-- The barrier of the first step. -/
theorem first_ok (c : Dev nD) (t : Fin grid0.N) (ht : t.val = 0)
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)
    {K : (Σ' (_ : BitVec 32) (_ : Dev nD) (_ : BitVec 32) (_ : BitVec 32) (_ : BitVec 32) (_ : BitVec 32), BitVec 32) → sProp 𝕄} :
    iprop(Fst κ κs X W c ∗ Owes c (rem c 0 + tallyAt (barCell (up 1 c)) 0 1 + tallyAt (barCell (up 0 c)) 0 1))
      ⊢ iprop((iprop(Mid κ κs X W c t.val ∗ Owes c (rem c t.val)) -∗ ∀ w1 w2 w3 w4 w5, K ⟨BitVec.ofNat 32 ((grid0.coords t) 0).val, c, w1, w2, w3, w4, w5⟩)
        -∗ wp frame (wpE (defs₀ (F := F)) 𝒱₀ (c : Thread nD τ) none) Set.univ (k0_part11 (F := F) (grid0.coords t) M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7) K) := by
  have hc1 : k0_cond1 (grid0.coords t) = 1#1 := (cond1_eq t).mpr ht
  have hc2 := mt (later_eq t).mp (by omega)
  rw [k0_part11_eq_skeleton, ht]
  unfold k0_part11_skel Fst Mid
  simp only [Prog.bind_lift, wp_deviceId, dif_pos hc1, dif_neg hc2]
  iintro ⟨⟨#HI, #Hlev, #HB0, #HB1, #Hq0, #Hq1, HD0, HD1, Ht0, Ht1, HC0, HC1, Hb, Hd0, Hd1, Hc⟩, HO⟩ Hk
  iapply (wp_barsignal (sums X W) κ κs c 0 (Fin.ext (dev1_eq c)) (O := rem c 0 + tallyAt (barCell (up 1 c)) 0 1) rfl) $$ [Hd0 HO]
  · isplitr; · iexact HI
    isplitr; · iexact HB0
    isplitr; · iexact Hq0
    isplitl [Hd0]; · iexact Hd0
    iexact HO
  iintro HO
  iapply (wp_barsignal (sums X W) κ κs c 1 (Fin.ext (dev2_eq c)) (O := rem c 0) rfl) $$ [Hd1 HO]
  · isplitr; · iexact HI
    isplitr; · iexact HB1
    isplitr; · iexact Hq1
    isplitl [Hd1]; · iexact Hd1
    iexact HO
  iintro HO
  iapply (wp_barwait (sums X W) κ κs c (rem_above c 0)) $$ [Hb Hc HO]
  · isplitr; · iexact HI
    isplitr; · iexact Hlev
    isplitl [Hb]; · iexact Hb
    isplitl [Hc]; · iexact Hc
    iexact HO
  iintro ⟨Hb, HO, #HP0, #HP1⟩
  unfold BarPay
  icases HB0 with ⟨#HT0, -⟩
  icases HB1 with ⟨#HT1, -⟩
  icases HP0 with ⟨#HR0, #Hr1⟩
  icases HP1 with ⟨#HR1, #Hr0⟩
  ihave #HA0 := (ReadyTo_at (F := F) (down 0 c) 0 (le_refl 0)) $$ HR0
  ihave #HA1 := (ReadyTo_at (F := F) (down 1 c) 1 (le_refl 0)) $$ HR1
  rw [bind_unit, wp_done]
  imodintro
  ihave Hk := Hk $$ [HD0 HD1 Ht0 Ht1 HC0 HC1 Hb HO]
  · isplitr [HO]
    · isplitr; · iexact HI
      isplitr; · iexact Hlev
      isplitr; · iexact Hr0
      isplitr; · iexact Hr1
      isplitr; · iexact HT0
      isplitr; · iexact HT1
      isplitr; · iexact HA0
      isplitr; · iexact HA1
      isplitl [HD0]; · iexact HD0
      isplitl [HD1]; · iexact HD1
      isplitl [Ht0]; · iexact Ht0
      isplitl [Ht1]; · iexact Ht1
      isplitl [HC0]; · iexact HC0
      isplitl [HC1]; · iexact HC1
      iexact Hb
    iexact HO
  iapply Hk

/-- The two credits a later step starts by taking. -/
theorem later_ok (c : Dev nD) (t : Fin grid0.N) (ht : 1 ≤ t.val)
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)
    {K : (Σ' (_ : BitVec 32) (_ : Dev nD) (_ : BitVec 32) (_ : BitVec 32) (_ : BitVec 32) (_ : BitVec 32), BitVec 32) → sProp 𝕄} :
    iprop(St κ κs X W c t.val ∗ Owes c (rem c t.val))
      ⊢ iprop((iprop(Mid κ κs X W c t.val ∗ Owes c (rem c t.val)) -∗ ∀ w1 w2 w3 w4 w5, K ⟨BitVec.ofNat 32 ((grid0.coords t) 0).val, c, w1, w2, w3, w4, w5⟩)
        -∗ wp frame (wpE (defs₀ (F := F)) 𝒱₀ (c : Thread nD τ) none) Set.univ (k0_part11 (F := F) (grid0.coords t) M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7) K) := by
  have hc1 : ¬k0_cond1 (grid0.coords t) = 1#1 := mt (cond1_eq t).mp (by omega)
  have hc2 := (later_eq t).mpr ht
  have htN : t.val < 19 := t.isLt
  rw [k0_part11_eq_skeleton]
  unfold k0_part11_skel St Mid
  simp only [Prog.bind_lift, wp_deviceId, dif_neg hc1, dif_pos hc2]
  obtain ⟨n, hn⟩ : ∃ n, t.val = n + 1 := ⟨t.val - 1, by omega⟩
  rw [hn, Nat.add_sub_cancel]
  iintro ⟨⟨#HI, #Hlev, #Hr0, #Hr1, #HT0, #HT1, HD0, HD1, Ht0, Ht1, HC0, HC1, Hb⟩, HO⟩ Hk
  iapply (wp_crwait (sums X W) κ κs c 0 (k := n) (by omega) (rem_above c (n + 1))) $$ [HC0 HO]
  · isplitr; · iexact HI
    isplitr; · iexact Hlev
    isplitl [HC0]; · iexact HC0
    iexact HO
  iintro ⟨HC0, HO, #HA0⟩
  iapply (wp_crwait (sums X W) κ κs c 1 (k := n) (by omega) (rem_above c (n + 1))) $$ [HC1 HO]
  · isplitr; · iexact HI
    isplitr; · iexact Hlev
    isplitl [HC1]; · iexact HC1
    iexact HO
  iintro ⟨HC1, HO, #HA1⟩
  rw [bind_unit, wp_done]
  imodintro
  ihave Hk := Hk $$ [HD0 HD1 Ht0 Ht1 HC0 HC1 Hb HO]
  · isplitr [HO]
    · isplitr; · iexact HI
      isplitr; · iexact Hlev
      isplitr; · iexact Hr0
      isplitr; · iexact Hr1
      isplitr; · iexact HT0
      isplitr; · iexact HT1
      isplitr; · iexact HA0
      isplitr; · iexact HA1
      isplitl [HD0]; · iexact HD0
      isplitl [HD1]; · iexact HD1
      isplitl [Ht0]; · iexact Ht0
      isplitl [Ht1]; · iexact Ht1
      isplitl [HC0]; · iexact HC0
      isplitl [HC1]; · iexact HC1
      iexact Hb
    iexact HO
  iapply Hk

/-- A device once all of its semaphores are awaited. -/
def Ended (c : Dev nD) : sProp 𝕄 :=
  iprop(Inv (sums X W) κ κs ∗ (Drn c 0 16 ∗ Rcv c 0 0 16 ∗ Rcv c 0 1 16 ∗ Rcv c 0 2 16 ∗ Slt c 0 2 16)
    ∗ (Drn c 1 16 ∗ Rcv c 1 0 16 ∗ Rcv c 1 1 16 ∗ Rcv c 1 2 16 ∗ Slt c 1 2 16)
    ∗ atPos ER (crCell c 0) 1 ∅ 0 ∗ atPos ER (crCell c 1) 1 ∅ 0 ∗ atPos ER (barCell c) 1 ∅ 0)

/-- A step, given how it starts. -/
theorem step_ok (c : Dev nD) (t : Fin grid0.N) {P : sProp 𝕄}
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)
    (hP : ∀ K : (Σ' (_ : BitVec 32) (_ : Dev nD) (_ : BitVec 32) (_ : BitVec 32) (_ : BitVec 32) (_ : BitVec 32), BitVec 32) → sProp 𝕄,
      P ⊢ iprop((iprop(Mid κ κs X W c t.val ∗ Owes c (rem c t.val)) -∗ ∀ w1 w2 w3 w4 w5, K ⟨BitVec.ofNat 32 ((grid0.coords t) 0).val, c, w1, w2, w3, w4, w5⟩)
        -∗ wp frame (wpE (defs₀ (F := F)) 𝒱₀ (c : Thread nD τ) none) Set.univ (k0_part11 (F := F) (grid0.coords t) M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7) K))
    (Y : Vec F S1024x512 .f32) {K : PUnit → sProp 𝕄} :
    iprop(P ∗ Reads X W c t.val M1 M2 M3 M4 M5 ∗ owns (c : Thread nD τ) M6 fullShare Y)
      ⊢ iprop((∀ Y' : Vec F S1024x512 .f32, ⌜OutTile X W c t.val Y'⌝ -∗ iprop((if t.val = 18 then Ended κ κs X W c else St κ κs X W c (t.val + 1)) ∗ Owes c (rem c (t.val + 1))
            ∗ Reads X W c t.val M1 M2 M3 M4 M5 ∗ owns (c : Thread nD τ) M6 fullShare Y') -∗ K ⟨⟩)
        -∗ wp frame (wpE (defs₀ (F := F)) 𝒱₀ (c : Thread nD τ) none) Set.univ (cc0_body (F := F) (grid0.coords t) M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7) K) := by
  have htN : t.val < 19 := t.isLt
  rw [cc0_body_eq_skeleton]
  unfold cc0_body_skel
  rw [wp_bind]
  iintro ⟨HP, HR, HY⟩ Hk
  iapply (hP _) $$ HP
  iintro ⟨HM, HO⟩ %w1 %w2 %w3 %w4 %w5
  dsimp only
  obtain ⟨b12, e12⟩ : ∃ b, k0_part12 (F := F) (grid0.coords t) M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7 (BitVec.ofNat 32 ((grid0.coords t) 0).val) w4 w5 = Prog.ret b := ⟨_, rfl⟩
  rw [e12, Prog.bind_ret]
  obtain ⟨u1, u2, u3, u4, u5⟩ := b12
  dsimp only
  obtain ⟨b13, e13⟩ : ∃ b, k0_part13 (F := F) (grid0.coords t) M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7 (BitVec.ofNat 32 ((grid0.coords t) 0).val) u4 u5 = Prog.ret b := ⟨_, rfl⟩
  rw [e13, Prog.bind_ret]
  obtain ⟨x1, x2, x3⟩ := b13
  dsimp only
  obtain ⟨b14, e14⟩ : ∃ b, k0_part14 (F := F) (grid0.coords t) M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7 (BitVec.ofNat 32 ((grid0.coords t) 0).val) w1 x2 x3 = Prog.ret b := ⟨_, rfl⟩
  rw [e14, Prog.bind_ret]
  obtain ⟨y1, y2, y3, y4⟩ := b14
  dsimp only
  obtain ⟨b15, e15⟩ : ∃ b, k0_part15 (F := F) (grid0.coords t) M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7 w1 y2 y3 y4 = Prog.ret b := ⟨_, rfl⟩
  rw [e15, Prog.bind_ret]
  obtain ⟨z1, z2, z3, z4, z5, z6, z7⟩ := b15
  dsimp only
  rw [wp_bind]
  unfold Mid
  icases HM with ⟨#HI, #Hlev, #Hr0, #Hr1, #HT0, #HT1, #HA0, #HA1, HD0, HD1, Ht0, Ht1, HC0, HC1, Hb⟩
  iapply (part16_ok κ κs X W c t M1 h1 M2 h2 M3 h3 M4 h4 M5 h5 M6 h6 h7 h8 Y) $$ [HD0 HD1 HO HR HY]
  · isplitr; · iexact HI
    isplitr; · iexact Hlev
    isplitr; · iexact HA0
    isplitr; · iexact HA1
    isplitl [HD0]; · iexact HD0
    isplitl [HD1]; · iexact HD1
    isplitl [HO]; · iexact HO
    isplitl [HR]; · iexact HR
    iexact HY
  iintro %Y' %hY ⟨HD0, HD1, HO, HR, HY⟩
  iapply (credits_ok κ κs X W c htN (Fin.ext (dev9_eq c)) (Fin.ext (dev10_eq c))) $$ [HD0 HD1 Ht0 Ht1 HO]
  · isplitr; · iexact HI
    isplitr; · iexact Hr0
    isplitr; · iexact Hr1
    isplitr; · iexact HT0
    isplitr; · iexact HT1
    isplitl [HD0]; · iexact HD0
    isplitl [HD1]; · iexact HD1
    isplitl [Ht0]; · iexact Ht0
    isplitl [Ht1]; · iexact Ht1
    iexact HO
  iintro ⟨#HT0', #HT1', HD0, HD1, Ht0, Ht1, HO⟩
  by_cases h18 : t.val = 18
  · have hc := (last_eq t).mpr h18
    rw [if_pos h18]
    simp only [h18, wp_bind, Prog.bind_lift, Prog.bind_op]
    rw [dif_pos hc]
    ihave HD0 := (Dir_drain (F := F) c 0) $$ HD0
    icases HD0 with ⟨HD0, HX0⟩
    ihave HD1 := (Dir_drain (F := F) c 1) $$ HD1
    icases HD1 with ⟨HD1, HX1⟩
    rw [rem_end]
    rw [bind_unit, wp_bind]
    iapply (part7_ok κ κs X W c (grid0.coords t) M1 h1 M2 h2 M3 h3 M4 h4 M5 h5 M6 h6 h7 h8) $$ [HD0 HO]
    · isplitr; · iexact HI
      isplitr; · iexact Hlev
      isplitl [HD0]; · iexact HD0
      iexact HO
    iintro ⟨HD0, HO⟩
    rw [wp_bind]
    iapply (part8_ok κ κs X W c (grid0.coords t) M1 h1 M2 h2 M3 h3 M4 h4 M5 h5 M6 h6 h7 h8) $$ [HD0 HO]
    · isplitr; · iexact HI
      isplitr; · iexact Hlev
      isplitl [HD0]; · iexact HD0
      iexact HO
    iintro ⟨HD0, HO⟩
    rw [wp_bind]
    iapply (part9_ok κ κs X W c (grid0.coords t) M1 h1 M2 h2 M3 h3 M4 h4 M5 h5 M6 h6 h7 h8) $$ [HD1 HO]
    · isplitr; · iexact HI
      isplitr; · iexact Hlev
      isplitl [HD1]; · iexact HD1
      iexact HO
    iintro ⟨HD1, HO⟩
    rw [wp_bind]
    iapply (part10_ok κ κs X W c (grid0.coords t) M1 h1 M2 h2 M3 h3 M4 h4 M5 h5 M6 h6 h7 h8) $$ [HD1 HO]
    · isplitr; · iexact HI
      isplitr; · iexact Hlev
      isplitl [HD1]; · iexact HD1
      iexact HO
    iintro ⟨HD1, HO⟩
    simp only [semWaitWord, Prog.bind_op, Prog.bind_ret]
    iapply (wp_crlast (sums X W) κ κs c 0) $$ [HC0 HO]
    · isplitr; · iexact HI
      isplitr; · iexact Hlev
      isplitl [HC0]; · iexact HC0
      iexact HO
    iintro ⟨HC0, HO⟩
    iapply (wp_crlast (sums X W) κ κs c 1) $$ [HC1 HO]
    · isplitr; · iexact HI
      isplitr; · iexact Hlev
      isplitl [HC1]; · iexact HC1
      iexact HO
    iintro ⟨HC1, HO⟩
    rw [wp_done]
    imodintro
    iapply Hk $$ %Y' %(h18 ▸ hY)
    isplitr [HO HR HY]
    · unfold Ended
      icases HX0 with ⟨HX0, HX1', HX2, HX3⟩
      icases HX1 with ⟨HZ0, HZ1, HZ2, HZ3⟩
      isplitr; · iexact HI
      isplitl [HD0 HX0 HX1' HX2 HX3]
      · isplitl [HD0]; · iexact HD0
        isplitl [HX0]; · iexact HX0
        isplitl [HX1']; · iexact HX1'
        isplitl [HX2]; · iexact HX2
        iexact HX3
      isplitl [HD1 HZ0 HZ1 HZ2 HZ3]
      · isplitl [HD1]; · iexact HD1
        isplitl [HZ0]; · iexact HZ0
        isplitl [HZ1]; · iexact HZ1
        isplitl [HZ2]; · iexact HZ2
        iexact HZ3
      isplitl [HC0]; · iexact HC0
      isplitl [HC1]; · iexact HC1
      iexact Hb
    isplitl [HO]; · iexact HO
    isplitl [HR]; · iexact HR
    iexact HY
  · have hc := mt (last_eq t).mp h18
    rw [if_neg h18, dif_neg hc]
    unfold St
    rw [Nat.add_sub_cancel]
    rw [bind_unit, wp_done]
    imodintro
    iapply Hk $$ %Y' %hY
    isplitr [HO HR HY]
    · isplitr; · iexact HI
      isplitr; · iexact Hlev
      isplitr; · iexact Hr0
      isplitr; · iexact Hr1
      isplitr; · iexact HT0'
      isplitr; · iexact HT1'
      isplitl [HD0]; · iexact HD0
      isplitl [HD1]; · iexact HD1
      isplitl [Ht0]; · iexact Ht0
      isplitl [Ht1]; · iexact Ht1
      isplitl [HC0]; · iexact HC0
      isplitl [HC1]; · iexact HC1
      iexact Hb
    isplitl [HO]; · iexact HO
    isplitl [HR]; · iexact HR
    iexact HY

end Cert.KernelIdeal.Hand
-- ==== Proof.Own.lean ====
module
public import proofs.«01_k».proof.Proof.Step
/-! # The start and the end of a device's run

The ring buffers cut into slots and put together again; the semaphores opened at the first step and closed at the
last. -/
@[expose] public section
noncomputable section
namespace Cert.KernelIdeal.Hand
open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
variable {F : FTy → Type} [FloatOps F]
local notation "𝕄" => MT nD τ sig ℕ (Elt F) ℕ U ℕ

/-- The order of two separating conjunctions does not matter. -/
theorem bigSep_swap {I J : Type} [DecidableEq I] (s : Finset I) (t : Finset J) (Φ : I → J → sProp 𝕄) :
    (bigSep s fun i => bigSep t fun j => Φ i j) = bigSep t fun j => bigSep s fun i => Φ i j := by
  induction s using Finset.induction_on with
  | empty =>
    simp only [bigSep_empty]
    exact (bigSep_emp_const t).symm
  | insert i s hi ih =>
    rw [bigSep_insert hi, ih, ← bigSep_sep]
    exact bigSep_congr fun j _ => (bigSep_insert (Φ := fun i => Φ i j) hi).symm

/-- Over pairs, one after the other. -/
theorem bigSep_pairs {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product, bigSep_empty, bigSep_empty]
  | insert i s hi ih =>
    have hd : Disjoint (({i} : Finset I) ×ˢ t) (s ×ˢ t) :=
      Finset.disjoint_product.mpr (.inl (Finset.disjoint_singleton_left.mpr hi))
    rw [bigSep_insert hi, Finset.insert_eq, Finset.union_product, bigSep_union hd, ih, Finset.singleton_product, bigSep_map]
    rfl

/-! ## The ring buffers -/

theorem slotR_disjoint {a b : ℕ × ℕ} (ha : a ∈ Finset.range 4 ×ˢ Finset.range 4) (hb : b ∈ Finset.range 4 ×ˢ Finset.range 4)
    (h : a ≠ b) : Disjoint (slotR a.1 a.2).set (slotR b.1 b.2).set := by
  obtain ⟨a1, a2⟩ := a
  obtain ⟨b1, b2⟩ := b
  have ha' := Finset.mem_product.mp ha
  have hb' := Finset.mem_product.mp hb
  have h1 : a1 < 4 := Finset.mem_range.mp ha'.1
  have h2 : a2 < 4 := Finset.mem_range.mp ha'.2
  have h3 : b1 < 4 := Finset.mem_range.mp hb'.1
  have h4 : b2 < 4 := Finset.mem_range.mp hb'.2
  by_cases e : a1 = b1
  · refine Rect.unit_disjoint (1 : Fin 4) ?_
    show a2 % 4 + 1 ≤ b2 % 4 ∨ b2 % 4 + 1 ≤ a2 % 4
    have : a2 ≠ b2 := fun e' => h (by rw [e, e'])
    omega
  · refine Rect.unit_disjoint (0 : Fin 4) ?_
    show a1 % 4 + 1 ≤ b1 % 4 ∨ b1 % 4 + 1 ≤ a1 % 4
    omega

theorem slotR_cover : ((Finset.range 4 ×ˢ Finset.range 4).biUnion fun a : ℕ × ℕ => (slotR a.1 a.2).set) = Finset.univ := by
  ext i
  simp only [Finset.mem_biUnion, Finset.mem_univ, iff_true]
  have h0 : (i 0 : ℕ) < 4 := (i 0).isLt
  have h1 : (i 1 : ℕ) < 4 := (i 1).isLt
  have h2 : (i 2 : ℕ) < 1024 := (i 2).isLt
  have h3 : (i 3 : ℕ) < 256 := (i 3).isLt
  refine ⟨((i 0 : ℕ), (i 1 : ℕ)), Finset.mem_product.mpr ⟨Finset.mem_range.mpr h0, Finset.mem_range.mpr h1⟩, ?_⟩
  rw [Rect.mem_set_unit]
  intro a
  match a with
  | 0 => show (i 0 : ℕ) % 4 ≤ i 0 ∧ (i 0 : ℕ) < (i 0 : ℕ) % 4 + 1; omega
  | 1 => show (i 1 : ℕ) % 4 ≤ i 1 ∧ (i 1 : ℕ) < (i 1 : ℕ) % 4 + 1; omega
  | 2 => show 0 ≤ (i 2 : ℕ) ∧ (i 2 : ℕ) < 0 + 1024; omega
  | 3 => show 0 ≤ (i 3 : ℕ) ∧ (i 3 : ℕ) < 0 + 256; omega

/-- A slot's elements, as elements of its buffer. -/
abbrev slotIn (d : Fin 2) (a : ℕ × ℕ) : Finset (bufM d).view.ty.Idx := (slotR a.1 a.2).set.map (bufM d).view.emb

theorem slotIn_eq (d : Fin 2) (t h : ℕ) : slotSet d t h = slotIn d (t, h) := by rw [slotSet_eq, View.set_slice]

theorem slotIn_disjoint (d : Fin 2) : ∀ a ∈ Finset.range 4 ×ˢ Finset.range 4, ∀ b ∈ Finset.range 4 ×ˢ Finset.range 4, a ≠ b →
    Disjoint (slotIn d a) (slotIn d b) := fun _ ha _ hb h => (Finset.disjoint_map _).mpr (slotR_disjoint ha hb h)

theorem slotIn_cover (d : Fin 2) : ((Finset.range 4 ×ˢ Finset.range 4).biUnion fun a : ℕ × ℕ => slotIn d a) = Finset.univ := by
  have h : ((Finset.range 4 ×ˢ Finset.range 4).biUnion fun a : ℕ × ℕ => slotIn d a) = Finset.univ.map (bufM d).view.emb := by
    rw [← slotR_cover]
    ext y
    simp only [Finset.mem_biUnion, Finset.mem_map]
    constructor
    · rintro ⟨a, ha, x, hx, e⟩; exact ⟨x, ⟨a, ha, hx⟩, e⟩
    · rintro ⟨x, ⟨a, ha, hx⟩, e⟩; exact ⟨a, ha, x, hx, e⟩
  rw [h]
  fin_cases d
  · exact View.set_whole cc0_scratch0
  · exact View.set_whole cc0_scratch1

theorem slotAny_in (c : Dev nD) (d : Fin 2) (a : ℕ × ℕ) : (slotAny c d a.1 a.2 : sProp 𝕄)
    = iprop(∃ f : Buf (Elt F) ((bufM d).view.loc (c : Thread nD τ)), ((bufM d).view.loc (c : Thread nD τ)) ↦[slotIn d a]{fullShare} f) := by
  rw [← slotIn_eq]
  rfl

/-- All slots of one direction. -/
def Slots (c : Dev nD) (d : Fin 2) : sProp 𝕄 := bigSep (Finset.range 4) fun h => bigSep (Finset.range 4) fun q => slotAny c d q h

/-- A ring buffer, whatever it holds, is its slots; -/
theorem Slots_split (c : Dev nD) (d : Fin 2) :
    iprop(∃ f : Buf (Elt F) ((bufM d).view.loc (c : Thread nD τ)), ((bufM d).view.loc (c : Thread nD τ)) ↦{fullShare} f) ⊢ (Slots c d : sProp 𝕄) := by
  have H : ∀ f : Buf (Elt F) ((bufM d).view.loc (c : Thread nD τ)), (((bufM d).view.loc (c : Thread nD τ)) ↦{fullShare} f : sProp 𝕄)
      = bigSep (Finset.range 4 ×ˢ Finset.range 4) fun a : ℕ × ℕ => ((bufM d).view.loc (c : Thread nD τ)) ↦[slotIn d a]{fullShare} f := fun f => by
    rw [← pointsTo_biUnion (ℓ := (bufM d).view.loc (c : Thread nD τ)) (Finset.range 4 ×ˢ Finset.range 4) (fun a => slotIn d a) (slotIn_disjoint d)]
    rw [slotIn_cover d]
  have H2 : ∀ f : Buf (Elt F) ((bufM d).view.loc (c : Thread nD τ)), (((bufM d).view.loc (c : Thread nD τ)) ↦{fullShare} f : sProp 𝕄) ⊢ Slots c d := fun f => by
    rw [H f]
    unfold Slots
    rw [bigSep_swap, ← bigSep_pairs (Finset.range 4) (Finset.range 4) (fun a : ℕ × ℕ => slotAny (F := F) c d a.1 a.2)]
    refine bigSep_mono fun a _ => ?_
    rw [slotAny_in]
    have h : iprop(((bufM d).view.loc (c : Thread nD τ)) ↦[slotIn d a]{fullShare} f)
        ⊢ (iprop(∃ f : Buf (Elt F) ((bufM d).view.loc (c : Thread nD τ)), ((bufM d).view.loc (c : Thread nD τ)) ↦[slotIn d a]{fullShare} f) : sProp 𝕄) := by
      iintro H
      iexists f
      iexact H
    exact h
  iintro ⟨%f, H⟩
  iapply (H2 f)
  iexact H

/-- and the slots are the buffer again. -/
theorem Slots_join (c : Dev nD) (d : Fin 2) :
    (Slots c d : sProp 𝕄) ⊢ iprop(∃ f : Buf (Elt F) ((bufM d).view.loc (c : Thread nD τ)), ((bufM d).view.loc (c : Thread nD τ)) ↦{fullShare} f) := by
  have f₀ : Buf (Elt F) ((bufM d).view.loc (c : Thread nD τ)) := fun _ => Classical.choice inferInstance
  have : Nonempty (Buf (Elt F) ((bufM d).view.loc (c : Thread nD τ))) := ⟨f₀⟩
  unfold Slots
  rw [bigSep_swap, ← bigSep_pairs (Finset.range 4) (Finset.range 4) (fun a : ℕ × ℕ => slotAny (F := F) c d a.1 a.2)]
  simp only [slotAny_in]
  refine (Idealize.SL.BI.bigSep_exists_pi (Finset.range 4 ×ˢ Finset.range 4)
    (fun (a : ℕ × ℕ) (f : Buf (Elt F) ((bufM d).view.loc (c : Thread nD τ))) => (((bufM d).view.loc (c : Thread nD τ)) ↦[slotIn d a]{fullShare} f : sProp 𝕄))).trans ?_
  iintro ⟨%fs, H⟩
  ihave H := (pointsTo_biUnion_join (ℓ := (bufM d).view.loc (c : Thread nD τ)) (Finset.range 4 ×ˢ Finset.range 4) (fun a => slotIn d a) fs f₀ (slotIn_disjoint d)) $$ H
  icases H with ⟨%g, -, H⟩
  iexists g
  rw [slotIn_cover d]
  iexact H

/-! ## A device's own semaphores -/

/-- The semaphores a device's program has of its own. -/
abbrev ownLocs : Finset (SemLoc sig) := Finset.univ.filter fun s => kind s ≠ .off ∧ kind s ≠ .bar

abbrev sndLocs (d : Fin 2) : Finset (SemLoc sig) := (Finset.range 3 ×ˢ Finset.range 2).image fun x => .dma (sndS d x.2 x.1)
abbrev rcvLocs (d : Fin 2) : Finset (SemLoc sig) := (Finset.range 3 ×ˢ Finset.range 2).image fun x => .dma (rcvS d x.2 x.1)

/-- Something of each own semaphore of direction `d`. -/
def lane (d : Fin 2) (g : SemLoc sig → sProp 𝕄) : sProp 𝕄 :=
  iprop((bigSep (Finset.range 3) fun h => bigSep (Finset.range 2) fun p => g (.dma (sndS d p h)))
    ∗ (bigSep (Finset.range 3) fun h => bigSep (Finset.range 2) fun p => g (.dma (rcvS d p h)))
    ∗ g (.reg (crS d)))

theorem sndLocs_sep (d : Fin 2) (g : SemLoc sig → sProp 𝕄) :
    bigSep (sndLocs d) g = bigSep (Finset.range 3) fun h => bigSep (Finset.range 2) fun p => g (.dma (sndS d p h)) := by
  rw [bigSep_image_of_injOn, bigSep_pairs]
  intro x hx y hy e
  have hx' := Finset.mem_product.mp (Finset.mem_coe.mp hx)
  have hy' := Finset.mem_product.mp (Finset.mem_coe.mp hy)
  have h1 := Finset.mem_range.mp hx'.1
  have h2 := Finset.mem_range.mp hx'.2
  have h3 := Finset.mem_range.mp hy'.1
  have h4 := Finset.mem_range.mp hy'.2
  have e' := congrArg kind e
  dsimp only at e'
  rw [kind_snd, kind_snd] at e'
  injection e' with _ ea eb
  exact Prod.ext (by omega) (by omega)

theorem rcvLocs_sep (d : Fin 2) (g : SemLoc sig → sProp 𝕄) :
    bigSep (rcvLocs d) g = bigSep (Finset.range 3) fun h => bigSep (Finset.range 2) fun p => g (.dma (rcvS d p h)) := by
  rw [bigSep_image_of_injOn, bigSep_pairs]
  intro x hx y hy e
  have hx' := Finset.mem_product.mp (Finset.mem_coe.mp hx)
  have hy' := Finset.mem_product.mp (Finset.mem_coe.mp hy)
  have h1 := Finset.mem_range.mp hx'.1
  have h2 := Finset.mem_range.mp hx'.2
  have h3 := Finset.mem_range.mp hy'.1
  have h4 := Finset.mem_range.mp hy'.2
  have e' := congrArg kind e
  dsimp only at e'
  rw [kind_rcv, kind_rcv] at e'
  injection e' with _ ea eb
  exact Prod.ext (by omega) (by omega)

theorem ownLocs_eq : ownLocs = (sndLocs 0 ∪ (rcvLocs 0 ∪ {.reg (crS 0)})) ∪ (sndLocs 1 ∪ (rcvLocs 1 ∪ {.reg (crS 1)})) := by
  decide +kernel

/-- The own semaphores, direction by direction. -/
theorem own_lanes (g : SemLoc sig → sProp 𝕄) : bigSep ownLocs g = iprop(lane 0 g ∗ lane 1 g) := by
  rw [ownLocs_eq, bigSep_union (by decide +kernel), bigSep_union (by decide +kernel), bigSep_union (by decide +kernel),
    bigSep_union (by decide +kernel), bigSep_union (by decide +kernel), sndLocs_sep, sndLocs_sep, rcvLocs_sep, rcvLocs_sep,
    bigSep_singleton, bigSep_singleton]
  rfl

variable (A : Cont F) (κ : GSem nD τ sig → ℕ) (κs : Key → ℕ)

/-- The start of a cell's rounds. -/
def at0 (c : Dev nD) (s : SemLoc sig) : sProp 𝕄 := iprop(atPos ER ((c : Thread nD τ), s) 0 ∅ 0 ∗ reached ER ((c : Thread nD τ), s) 0)

/-- How many rounds a cell goes through. -/
def endK : Kind → ℕ
  | .snd _ _ _ => 8
  | .rcv _ _ _ => 8
  | _ => 1

/-- The end of a cell's rounds. -/
def atE (c : Dev nD) (s : SemLoc sig) : sProp 𝕄 := atPos ER ((c : Thread nD τ), s) (endK (kind s)) ∅ 0

/-- A device opens its own semaphores; -/
theorem own_open (c : Dev nD) :
    iprop(Inv A κ κs ∗ bigSep ownLocs fun s => iprop(openTok ER ((c : Thread nD τ), s) ∗ semVal ((c : Thread nD τ), s) 0))
      ⊢ (|={Set.univ}=> bigSep ownLocs (at0 c) : sProp 𝕄) := by
  refine bigSep_each fun s hs => ?_
  have hk := (Finset.mem_filter.mp hs).2.1
  iintro ⟨#HI, Ho, Hv⟩
  imod (cell_open ER (Rd A) (κ := κ ((c : Thread nD τ), s)) (Set.mem_univ _)) $$ [Ho Hv] with H
  · isplitr; · iapply (Inv_cell A κ κs c s hk); iexact HI
    isplitl [Ho]; · iexact Ho
    iexact Hv
  imodintro
  unfold at0
  iexact H

/-- and closes a semaphore after its last round. -/
theorem one_close (c : Dev nD) (s : SemLoc sig) (hk : kind s ≠ .off) :
    iprop(Inv A κ κs ∗ atE c s) ⊢ (|={Set.univ}=> semVal ((c : Thread nD τ), s) 0 : sProp 𝕄) := by
  have hd : ∀ r, endK (kind s) ≤ r → (Rd A).duties ((c : Thread nD τ), s) r = ∅ := fun r hr => by
    rw [duties_tc]
    revert hr
    cases kind s with
    | snd => exact fun hr => if_neg (Nat.not_lt.mpr hr)
    | rcv => exact fun hr => if_neg (Nat.not_lt.mpr hr)
    | cr => exact fun hr => if_neg (by have : 1 ≤ r := hr; omega)
    | bar => exact fun hr => if_neg (by have : 1 ≤ r := hr; omega)
    | off => exact fun _ => rfl
  iintro ⟨#HI, H⟩
  unfold atE
  iapply (cell_close ER (Rd A) (κ := κ ((c : Thread nD τ), s)) (R := endK (kind s)) (Set.mem_univ _) (fun h => h) hd)
  isplitr; · iapply (Inv_cell A κ κs c s hk); iexact HI
  iexact H

theorem own_close (c : Dev nD) :
    iprop(Inv A κ κs ∗ bigSep ownLocs (atE c)) ⊢ (|={Set.univ}=> bigSep ownLocs fun s => semVal ((c : Thread nD τ), s) 0 : sProp 𝕄) :=
  bigSep_each fun s hs => one_close A κ κs c s (Finset.mem_filter.mp hs).2.1

/-! ## The first step's setting up -/

theorem bigSep_range3 (Φ : ℕ → sProp 𝕄) : bigSep (Finset.range 3) Φ = iprop(Φ 0 ∗ Φ 1 ∗ Φ 2) := by
  rw [show Finset.range 3 = {0, 1, 2} from by decide, bigSep_insert (by decide), bigSep_insert (by decide), bigSep_singleton]
  rfl

theorem bigSep_range4 (Φ : ℕ → sProp 𝕄) : bigSep (Finset.range 4) Φ = iprop(Φ 0 ∗ Φ 1 ∗ Φ 2 ∗ Φ 3) := by
  rw [show Finset.range 4 = {0, 1, 2, 3} from by decide, bigSep_insert (by decide), bigSep_insert (by decide), bigSep_insert (by decide), bigSep_singleton]
  rfl

/-- What a device starts with for direction `d`: the rights its sends, its receives and its credits use. -/
def Begin (c : Dev nD) (d : Fin 2) : sProp 𝕄 :=
  iprop((bigSep (Finset.range 3) fun h => bigSep (Finset.range 16) fun t => sndTok c d h t)
    ∗ (bigSep (Finset.range 3) fun h => bigSep (Finset.range 16) fun t => cred (tallyAt (rcvCell c d t h) (t + h) unitsN))
    ∗ (bigSep (Finset.range 3) fun h => bigSep (Finset.range 4) fun q => readerAt ES (keyOf c d q h) 0)
    ∗ (bigSep (Finset.range 19) fun j => cred (tallyAt (crCell c d) j 1))
    ∗ Toks c d 0)

theorem Snd_first (c : Dev nD) (d : Fin 2) (h : ℕ) :
    iprop((bigSep (Finset.range 16) fun t => sndTok c d h t) ∗ bigSep (Finset.range 2) fun p => at0 c (.dma (sndS d p h)))
      ⊢ (Snd c d h 0 0 : sProp 𝕄) := by
  unfold Snd Pos
  refine BIClass.sep_mono (Entails.of_eq (bigSep_congr fun t _ => (if_pos (Nat.zero_le t)).symm)) (Entails.of_eq (bigSep_congr fun p hp => ?_))
  have := Finset.mem_range.mp hp
  have e : cnt 0 p = 0 := by unfold cnt; omega
  unfold at0
  rw [e]

theorem Rcv_first (c : Dev nD) (d : Fin 2) (h : ℕ) :
    iprop((bigSep (Finset.range 16) fun t => cred (tallyAt (rcvCell c d t h) (t + h) unitsN)) ∗ bigSep (Finset.range 2) fun p => at0 c (.dma (rcvS d p h)))
      ⊢ (Rcv c d h 0 : sProp 𝕄) := by
  unfold Rcv Pos
  refine BIClass.sep_mono (Entails.of_eq (bigSep_congr fun t _ => (if_pos (Nat.zero_le t)).symm)) (Entails.of_eq (bigSep_congr fun p hp => ?_))
  have := Finset.mem_range.mp hp
  have e : cnt 0 p = 0 := by unfold cnt; omega
  unfold at0
  rw [e]

theorem Src_first (c : Dev nD) (d : Fin 2) : (bigSep (Finset.range 4) fun q => slotAny c d q 3) ⊢ (Src c d 0 0 : sProp 𝕄) := by
  unfold Src
  exact Entails.of_eq (bigSep_congr fun q _ => (if_neg (by omega)).symm)

theorem Crd_first (c : Dev nD) (d : Fin 2) :
    iprop((bigSep (Finset.range 19) fun j => cred (tallyAt (crCell c d) j 1)) ∗ at0 c (.reg (crS d)))
      ⊢ iprop(Crd c d 0 ∗ (reached ER (crCell c d) 0 : sProp 𝕄)) := by
  have e : (bigSep (Finset.range 19) fun j => (cred (tallyAt (crCell c d) j 1) : sProp 𝕄))
      = bigSep (Finset.range 19) fun j => if 0 ≤ j then cred (tallyAt (crCell c d) j 1) else iprop(emp) :=
    bigSep_congr fun j _ => (if_pos (Nat.zero_le j)).symm
  unfold Crd at0
  rw [e]
  iintro ⟨H, Ha, #Hr⟩
  isplitl [H Ha]
  · isplitl [H]; · iexact H
    iexists ∅
    isplitr
    · ipureintro; exact ⟨Finset.empty_subset _, Nat.le_refl 0⟩
    isplitl [Ha]; · iexact Ha
    rw [bigSep_empty]
    iempintro
  iexact Hr

theorem Slt_start (c : Dev nD) (d : Fin 2) {h : ℕ} (hh : h < 3) :
    iprop(Inv A κ κs ∗ (bigSep (Finset.range 4) fun q => readerAt ES (keyOf c d q h) 0) ∗ (bigSep (Finset.range 4) fun q => slotAny c d q h))
      ⊢ (|={Set.univ}=> Slt c d h 0 : sProp 𝕄) := by
  refine BIBase.Entails.trans ?_ (Slt_first A κ κs c d hh)
  exact BIClass.sep_mono BIBase.Entails.rfl (Entails.of_eq (bigSep_sep _ _ _).symm)

theorem Slots_eq (c : Dev nD) (d : Fin 2) : (Slots c d : sProp 𝕄) = iprop((bigSep (Finset.range 4) fun q => slotAny c d q 0)
    ∗ (bigSep (Finset.range 4) fun q => slotAny c d q 1) ∗ (bigSep (Finset.range 4) fun q => slotAny c d q 2)
    ∗ bigSep (Finset.range 4) fun q => slotAny c d q 3) := bigSep_range4 _

/-- A device sets a direction up. -/
theorem Dir_first (c : Dev nD) (d : Fin 2) :
    iprop(Inv A κ κs ∗ Begin c d ∗ Slots c d ∗ lane d (at0 c))
      ⊢ (|={Set.univ}=> iprop(Dir c d 0 ∗ Toks c d 0 ∗ Crd c d 0 ∗ reached ER (crCell c d) 0) : sProp 𝕄) := by
  rw [Slots_eq]
  unfold Begin lane
  rw [bigSep_range3, bigSep_range3, bigSep_range3, bigSep_range3, bigSep_range3]
  iintro ⟨#HI, ⟨⟨Hs0, Hs1, Hs2⟩, ⟨Hv0, Hv1, Hv2⟩, ⟨Hr0, Hr1, Hr2⟩, Hc, Ht⟩, ⟨Hl0, Hl1, Hl2, Hl3⟩, ⟨Ha0, Ha1, Ha2⟩, ⟨Hb0, Hb1, Hb2⟩, Hx⟩
  imod (Slt_start A κ κs c d (h := 0) (by omega)) $$ [Hr0 Hl0] with HT0
  · isplitr; · iexact HI
    isplitl [Hr0]; · iexact Hr0
    iexact Hl0
  imod (Slt_start A κ κs c d (h := 1) (by omega)) $$ [Hr1 Hl1] with HT1
  · isplitr; · iexact HI
    isplitl [Hr1]; · iexact Hr1
    iexact Hl1
  imod (Slt_start A κ κs c d (h := 2) (by omega)) $$ [Hr2 Hl2] with HT2
  · isplitr; · iexact HI
    isplitl [Hr2]; · iexact Hr2
    iexact Hl2
  imodintro
  unfold Dir Ln0 LnM Ln3
  isplitr [Ht Hc Hx]
  · isplitl [Hs0 Ha0 Hl3]
    · isplitl [Hs0 Ha0]
      · iapply (Snd_first (F := F) c d 0)
        isplitl [Hs0]; · iexact Hs0
        iexact Ha0
      iapply (Src_first (F := F) c d); iexact Hl3
    isplitl [Hv0 Hb0 Hs1 Ha1 HT0]
    · isplitl [Hv0 Hb0]
      · iapply (Rcv_first (F := F) c d 0)
        isplitl [Hv0]; · iexact Hv0
        iexact Hb0
      isplitl [Hs1 Ha1]
      · iapply (Snd_first (F := F) c d 1)
        isplitl [Hs1]; · iexact Hs1
        iexact Ha1
      iexact HT0
    isplitl [Hv1 Hb1 Hs2 Ha2 HT1]
    · isplitl [Hv1 Hb1]
      · iapply (Rcv_first (F := F) c d 1)
        isplitl [Hv1]; · iexact Hv1
        iexact Hb1
      isplitl [Hs2 Ha2]
      · iapply (Snd_first (F := F) c d 2)
        isplitl [Hs2]; · iexact Hs2
        iexact Ha2
      iexact HT1
    isplitl [Hv2 Hb2]
    · iapply (Rcv_first (F := F) c d 2)
      isplitl [Hv2]; · iexact Hv2
      iexact Hb2
    iexact HT2
  isplitl [Ht]; · iexact Ht
  iapply (Crd_first (F := F) c d)
  isplitl [Hc]; · iexact Hc
  iexact Hx

/-! ## The last step's clearing up -/

/-- Of two resources held together, the second alone. -/
theorem drop_left (P Q : sProp 𝕄) : iprop(P ∗ Q) ⊢ Q := by
  iintro ⟨-, H⟩; iexact H

/-- Of two resources held together, the first alone. -/
theorem drop_right (P Q : sProp 𝕄) : iprop(P ∗ Q) ⊢ P := by
  iintro ⟨H, -⟩; iexact H

theorem Snd_last (c : Dev nD) (d : Fin 2) (h : ℕ) :
    (Snd c d h 16 16 : sProp 𝕄) ⊢ bigSep (Finset.range 2) fun p => atE c (.dma (sndS d p h)) := by
  unfold Snd Pos
  refine BIBase.Entails.trans (drop_left _ _) (bigSep_mono fun p hp => ?_)
  have := Finset.mem_range.mp hp
  have e : cnt 16 p = 8 := by unfold cnt; omega
  unfold atE
  rw [e, kind_snd]
  exact drop_right _ _

theorem Rcv_last (c : Dev nD) (d : Fin 2) (h : ℕ) :
    (Rcv c d h 16 : sProp 𝕄) ⊢ bigSep (Finset.range 2) fun p => atE c (.dma (rcvS d p h)) := by
  unfold Rcv Pos
  refine BIBase.Entails.trans (drop_left _ _) (bigSep_mono fun p hp => ?_)
  have := Finset.mem_range.mp hp
  have e : cnt 16 p = 8 := by unfold cnt; omega
  unfold atE
  rw [e, kind_rcv]
  exact drop_right _ _

theorem Src_last (c : Dev nD) (d : Fin 2) : (Src c d 16 16 : sProp 𝕄) ⊢ bigSep (Finset.range 4) fun q => slotAny c d q 3 := by
  unfold Src
  exact Entails.of_eq (bigSep_congr fun q _ => if_neg (by omega))

theorem Slt_last (c : Dev nD) (d : Fin 2) (h : ℕ) : (Slt c d h 16 : sProp 𝕄) ⊢ bigSep (Finset.range 4) fun q => slotAny c d q h := by
  unfold Slt
  refine BIBase.Entails.trans (drop_left _ _) ?_
  have hs : (Finset.range 4).image (fun q => 12 + q) ⊆ Finset.range 16 := by decide
  have h1 : (bigSep (Finset.range 16) fun t => if 12 ≤ t ∧ t < 16 then slotAny (F := F) c d t h else iprop(emp))
      ⊢ bigSep ((Finset.range 4).image fun q => 12 + q) fun t => if 12 ≤ t ∧ t < 16 then slotAny (F := F) c d t h else iprop(emp) := bigSep_subset hs
  refine h1.trans ?_
  rw [bigSep_image_of_injOn (fun a _ b _ e => Nat.add_left_cancel e)]
  refine Entails.of_eq (bigSep_congr fun q hq => ?_)
  have := Finset.mem_range.mp hq
  rw [if_pos ⟨by omega, by omega⟩]
  exact slotAny_congr c d h (by omega)

/-- A direction's end: every own semaphore is at its last round, and every slot is back. -/
theorem Dir_last (c : Dev nD) (d : Fin 2) :
    iprop((Drn c d 16 ∗ Rcv c d 0 16 ∗ Rcv c d 1 16 ∗ Rcv c d 2 16 ∗ Slt c d 2 16) ∗ atPos ER (crCell c d) 1 ∅ 0)
      ⊢ iprop(lane d (atE c) ∗ (Slots c d : sProp 𝕄)) := by
  have ec : (atE c (.reg (crS d)) : sProp 𝕄) = atPos ER (crCell c d) 1 ∅ 0 := by unfold atE; rw [kind_cr]; rfl
  rw [Slots_eq]
  unfold Drn lane
  rw [bigSep_range3, bigSep_range3, ec]
  iintro ⟨⟨⟨HS0, HSr, HS1, HT0, HS2, HT1⟩, HV0, HV1, HV2, HT2⟩, Hc⟩
  isplitr [HSr HT0 HT1 HT2]
  · isplitl [HS0 HS1 HS2]
    · isplitl [HS0]; · iapply (Snd_last (F := F) c d 0); iexact HS0
      isplitl [HS1]; · iapply (Snd_last (F := F) c d 1); iexact HS1
      iapply (Snd_last (F := F) c d 2); iexact HS2
    isplitl [HV0 HV1 HV2]
    · isplitl [HV0]; · iapply (Rcv_last (F := F) c d 0); iexact HV0
      isplitl [HV1]; · iapply (Rcv_last (F := F) c d 1); iexact HV1
      iapply (Rcv_last (F := F) c d 2); iexact HV2
    iexact Hc
  isplitl [HT0]; · iapply (Slt_last (F := F) c d 0); iexact HT0
  isplitl [HT1]; · iapply (Slt_last (F := F) c d 1); iexact HT1
  isplitl [HT2]; · iapply (Slt_last (F := F) c d 2); iexact HT2
  iapply (Src_last (F := F) c d); iexact HSr

/-! ## A device's run -/

variable (X : Dev nD → Vec F S4096x1024 .f32) (W : Dev nD → ℕ → Vec F S1024x512 .f32)

/-- The ring buffers, whatever they hold. -/
def Bufs (c : Dev nD) : sProp 𝕄 :=
  iprop((∃ f : Buf (Elt F) ((bufM 0).view.loc (c : Thread nD τ)), ((bufM 0).view.loc (c : Thread nD τ)) ↦{fullShare} f)
    ∗ ∃ f : Buf (Elt F) ((bufM 1).view.loc (c : Thread nD τ)), ((bufM 1).view.loc (c : Thread nD τ)) ↦{fullShare} f)

/-- What a device has of the launch. -/
def Gift (c : Dev nD) : sProp 𝕄 :=
  iprop((bigSep ownLocs fun s => openTok ER ((c : Thread nD τ), s)) ∗ Begin c 0 ∗ Begin c 1
    ∗ atPos ER (barCell c) 0 ∅ 0 ∗ dutyTok ER (barCell (up 0 c)) 0 0 ∗ dutyTok ER (barCell (up 1 c)) 0 1 ∗ cred (tallyAt (barCell c) 0 2))

/-- A device before its first step. -/
def Pre (c : Dev nD) : sProp 𝕄 :=
  iprop(Inv (sums X W) κ κs ∗ levAts L lv ∗ reached ER (barCell (up 0 c)) 0 ∗ reached ER (barCell (up 1 c)) 0
    ∗ Gift c ∗ (bigSep ownLocs fun s => semVal ((c : Thread nD τ), s) 0) ∗ Bufs c)

/-- A device after its last step. -/
def Post (c : Dev nD) : sProp 𝕄 :=
  iprop((bigSep ownLocs fun s => semVal ((c : Thread nD τ), s) 0) ∗ semVal (barCell c) 0 ∗ Bufs c)

theorem Pre_first (c : Dev nD) : Pre κ κs X W c ⊢ (|={Set.univ}=> Fst κ κs X W c : sProp 𝕄) := by
  have ho : iprop((bigSep ownLocs fun s => openTok ER ((c : Thread nD τ), s)) ∗ bigSep ownLocs fun s => semVal ((c : Thread nD τ), s) 0)
      ⊢ (bigSep ownLocs fun s => iprop(openTok ER ((c : Thread nD τ), s) ∗ semVal ((c : Thread nD τ), s) 0) : sProp 𝕄) :=
    Entails.of_eq (bigSep_sep _ _ _).symm
  have hl : (bigSep ownLocs (at0 c) : sProp 𝕄) ⊢ iprop(lane 0 (at0 c) ∗ lane 1 (at0 c)) := Entails.of_eq (own_lanes _)
  unfold Pre Gift Bufs
  iintro ⟨#HI, #Hlev, #Hq0, #Hq1, ⟨Hop, HB0, HB1, Hb, Hd0, Hd1, Hcb⟩, Hv, Hf0, Hf1⟩
  ihave Ho := ho $$ [Hop Hv]
  · isplitl [Hop]; · iexact Hop
    iexact Hv
  imod (own_open (sums X W) κ κs c) $$ [Ho] with Ho
  · isplitr; · iexact HI
    iexact Ho
  ihave Ho := hl $$ Ho
  icases Ho with ⟨Hl0, Hl1⟩
  ihave Hf0 := (Slots_split (F := F) c 0) $$ Hf0
  ihave Hf1 := (Slots_split (F := F) c 1) $$ Hf1
  imod (Dir_first (sums X W) κ κs c 0) $$ [HB0 Hf0 Hl0] with H0
  · isplitr; · iexact HI
    isplitl [HB0]; · iexact HB0
    isplitl [Hf0]; · iexact Hf0
    iexact Hl0
  imod (Dir_first (sums X W) κ κs c 1) $$ [HB1 Hf1 Hl1] with H1
  · isplitr; · iexact HI
    isplitl [HB1]; · iexact HB1
    isplitl [Hf1]; · iexact Hf1
    iexact Hl1
  icases H0 with ⟨HD0, Ht0, HC0, #Hr0⟩
  icases H1 with ⟨HD1, Ht1, HC1, #Hr1⟩
  ihave HD0 := (Dir_ready (F := F) c 0 0) $$ HD0
  icases HD0 with ⟨#HA0, HD0⟩
  ihave HD1 := (Dir_ready (F := F) c 1 0) $$ HD1
  icases HD1 with ⟨#HA1, HD1⟩
  have e0 : ∀ d : Fin 2, (ReadyAt c d 0 : sProp 𝕄) ⊢ ReadyTo c d 0 := fun d => by
    unfold ReadyTo
    rw [Nat.zero_add, Finset.range_one, bigSep_singleton]
  ihave #HT0 := (e0 0) $$ HA0
  ihave #HT1 := (e0 1) $$ HA1
  imodintro
  unfold Fst BarPay
  isplitr; · iexact HI
  isplitr; · iexact Hlev
  isplitr
  · isplitr; · iexact HT0
    iexact Hr1
  isplitr
  · isplitr; · iexact HT1
    iexact Hr0
  isplitr; · iexact Hq0
  isplitr; · iexact Hq1
  isplitl [HD0]; · iexact HD0
  isplitl [HD1]; · iexact HD1
  isplitl [Ht0]; · iexact Ht0
  isplitl [Ht1]; · iexact Ht1
  isplitl [HC0]; · iexact HC0
  isplitl [HC1]; · iexact HC1
  isplitl [Hb]; · iexact Hb
  isplitl [Hd0]; · iexact Hd0
  isplitl [Hd1]; · iexact Hd1
  iexact Hcb

theorem Ended_post (c : Dev nD) : Ended κ κs X W c ⊢ (|={Set.univ}=> Post c : sProp 𝕄) := by
  have hl : iprop(lane 0 (atE c) ∗ lane 1 (atE c)) ⊢ (bigSep ownLocs (atE c) : sProp 𝕄) := Entails.of_eq (own_lanes _).symm
  have hb : (atPos ER (barCell c) 1 ∅ 0 : sProp 𝕄) ⊢ atE c (.reg barrier0) := by unfold atE; rw [kind_bar]; exact BIBase.Entails.rfl
  unfold Ended Post Bufs
  iintro ⟨#HI, H0, H1, Hc0, Hc1, Hb⟩
  ihave H0 := (Dir_last (F := F) c 0) $$ [H0 Hc0]
  · isplitl [H0]; · iexact H0
    iexact Hc0
  ihave H1 := (Dir_last (F := F) c 1) $$ [H1 Hc1]
  · isplitl [H1]; · iexact H1
    iexact Hc1
  icases H0 with ⟨Hl0, Hs0⟩
  icases H1 with ⟨Hl1, Hs1⟩
  ihave Ho := hl $$ [Hl0 Hl1]
  · isplitl [Hl0]; · iexact Hl0
    iexact Hl1
  ihave Hb := hb $$ Hb
  imod (own_close (sums X W) κ κs c) $$ [Ho] with Ho
  · isplitr; · iexact HI
    iexact Ho
  imod (one_close (sums X W) κ κs c (.reg barrier0) (by rw [kind_bar]; exact nofun)) $$ [Hb] with Hb
  · isplitr; · iexact HI
    iexact Hb
  imodintro
  isplitl [Ho]; · iexact Ho
  isplitl [Hb]; · iexact Hb
  isplitl [Hs0]; · iapply (Slots_join (F := F) c 0); iexact Hs0
  iapply (Slots_join (F := F) c 1); iexact Hs1

end Cert.KernelIdeal.Hand
-- ==== Proof.Region.lean ====
module
public import proofs.«01_k».proof.Proof.Own
public import proofs.«01_k».proof.Proof.Gen.KernelIdeal.Frame
public import Idealize.ShloMosaic.Lib.Pipeline.DatRel
/-! # The region's proof data

What the pipeline around the body keeps between two grid points, and that the body keeps it. -/
@[expose] public section
noncomputable section
namespace Cert.KernelIdeal.Hand
open Idealize.ShloMosaic Idealize.ShloMosaic.TcCoe Cert.KernelIdeal Cert.KernelIdeal.Gen
open Idealize.ShloMosaic.Pipeline (Dat BodyObligationRel)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
variable {F : FTy → Type} [FloatOps F]
local notation "𝕄" => MT nD τ sig ℕ (Elt F) ℕ U ℕ

variable (m : (ℓ : Loc nD τ sig) → Buf (Elt F) ℓ)

/-! ## What the windows hold -/

/-- A device's columns of the left array. -/
def left (c : Dev nD) : Vec F S4096x1024 .f32 := m ((c : Thread nD τ).loc main_arg0)

theorem right_lt (n : ℕ) (i : S1024x512.Idx) (a : Fin 2) :
    (![(i 0).val, 512 * min n 15 + (i 1).val] : Fin 2 → ℕ) a < S1024x8192.size a := by
  have h0 : (i 0).val < 1024 := (i 0).isLt
  have h1 : (i 1).val < 512 := (i 1).isLt
  match a with
  | ⟨0, _⟩ => show (i 0).val < 1024; exact h0
  | ⟨1, _⟩ => show 512 * min n 15 + (i 1).val < 8192; omega

/-- Tile `n` of a device's rows of the right array. -/
def right (c : Dev nD) (n : ℕ) : Vec F S1024x512 .f32 :=
  fun i => m ((c : Thread nD τ).loc main_arg1) (fun a => ⟨_, right_lt n i a⟩)

theorem index_0 : ∀ t : Fin grid0.N, win0_0.index t 0 = 0 ∧ win0_0.index t 1 = 0 := by decide +kernel
theorem index_1 : ∀ t : Fin grid0.N, win0_1.index t 0 = 0 ∧ win0_1.index t 1 = tile 0 t.val := by decide +kernel
theorem index_2 : ∀ t : Fin grid0.N, win0_2.index t 0 = 0 ∧ win0_2.index t 1 = tile 1 t.val := by decide +kernel
theorem index_3 : ∀ t : Fin grid0.N, win0_3.index t 0 = 0 ∧ win0_3.index t 1 = tile 2 t.val := by decide +kernel
theorem index_4 : ∀ t : Fin grid0.N, win0_4.index t 0 = 0 ∧ win0_4.index t 1 = tile 3 t.val := by decide +kernel
theorem index_5 : ∀ t : Fin grid0.N, win0_5.index t 0 = 0 ∧ win0_5.index t 1 = tile 3 t.val := by decide +kernel

/-- Window 0 holds the device's columns of the left array. -/
theorem iblk_0 (c : Dev nD) (t : Fin cfg0.N) : iblk m c 0 t = left m c := by
  obtain ⟨h0, h1⟩ := index_0 t
  funext j
  show m ((c : Thread nD τ).loc main_arg0) (((cfg0.win 0).blk t).view.emb j) = m ((c : Thread nD τ).loc main_arg0) j
  congr 1
  funext a; apply Fin.ext
  match a with
  | ⟨0, _⟩ => show win0_0.index t 0 * 4096 + 1 * (j 0).val = (j 0).val; rw [h0]; omega
  | ⟨1, _⟩ => show win0_0.index t 1 * 1024 + 1 * (j 1).val = (j 1).val; rw [h1]; omega

/-- Window 1 holds the tile of its point. -/
theorem iblk_1 (c : Dev nD) (t : Fin cfg0.N) : iblk m c 1 t = right m c (tile 0 t.val) := by
  obtain ⟨h0, h1⟩ := index_1 t
  funext j
  show m ((c : Thread nD τ).loc main_arg1) (((cfg0.win 1).blk t).view.emb j) = m ((c : Thread nD τ).loc main_arg1) _
  congr 1
  funext a; apply Fin.ext
  match a with
  | ⟨0, _⟩ => show win0_1.index t 0 * 1024 + 1 * (j 0).val = (j 0).val; rw [h0]; omega
  | ⟨1, _⟩ => show win0_1.index t 1 * 512 + 1 * (j 1).val = 512 * min (tile 0 t.val) 15 + (j 1).val; rw [h1]; unfold tile; omega
/-- Window 2 holds the tile of the point before. -/
theorem iblk_2 (c : Dev nD) (t : Fin cfg0.N) : iblk m c 2 t = right m c (tile 1 t.val) := by
  obtain ⟨h0, h1⟩ := index_2 t
  funext j
  show m ((c : Thread nD τ).loc main_arg1) (((cfg0.win 2).blk t).view.emb j) = m ((c : Thread nD τ).loc main_arg1) _
  congr 1
  funext a; apply Fin.ext
  match a with
  | ⟨0, _⟩ => show win0_2.index t 0 * 1024 + 1 * (j 0).val = (j 0).val; rw [h0]; omega
  | ⟨1, _⟩ => show win0_2.index t 1 * 512 + 1 * (j 1).val = 512 * min (tile 1 t.val) 15 + (j 1).val; rw [h1]; unfold tile; omega
/-- Window 3 holds the tile of two points before. -/
theorem iblk_3 (c : Dev nD) (t : Fin cfg0.N) : iblk m c 3 t = right m c (tile 2 t.val) := by
  obtain ⟨h0, h1⟩ := index_3 t
  funext j
  show m ((c : Thread nD τ).loc main_arg1) (((cfg0.win 3).blk t).view.emb j) = m ((c : Thread nD τ).loc main_arg1) _
  congr 1
  funext a; apply Fin.ext
  match a with
  | ⟨0, _⟩ => show win0_3.index t 0 * 1024 + 1 * (j 0).val = (j 0).val; rw [h0]; omega
  | ⟨1, _⟩ => show win0_3.index t 1 * 512 + 1 * (j 1).val = 512 * min (tile 2 t.val) 15 + (j 1).val; rw [h1]; unfold tile; omega
/-- Window 4 holds the tile of three points before. -/
theorem iblk_4 (c : Dev nD) (t : Fin cfg0.N) : iblk m c 4 t = right m c (tile 3 t.val) := by
  obtain ⟨h0, h1⟩ := index_4 t
  funext j
  show m ((c : Thread nD τ).loc main_arg1) (((cfg0.win 4).blk t).view.emb j) = m ((c : Thread nD τ).loc main_arg1) _
  congr 1
  funext a; apply Fin.ext
  match a with
  | ⟨0, _⟩ => show win0_4.index t 0 * 1024 + 1 * (j 0).val = (j 0).val; rw [h0]; omega
  | ⟨1, _⟩ => show win0_4.index t 1 * 512 + 1 * (j 1).val = 512 * min (tile 3 t.val) 15 + (j 1).val; rw [h1]; unfold tile; omega

/-! ## Between two points -/

/-- What a device holds before point `n`. -/
def Keep (c : Dev nD) (n : ℕ) : sProp 𝕄 :=
  if n = 0 then iprop(∃ κ κs, Pre κ κs (left m) (right m) c)
  else if n = 19 then Post c
  else iprop(∃ κ κs, St κ κs (left m) (right m) c n)

/-- What a device owes before point `n`. -/
def dueAt (c : Dev nD) (n : ℕ) : CellTallies nD τ sig ℕ :=
  if n = 0 then rem c 0 + tallyAt (barCell (up 1 c)) 0 1 + tallyAt (barCell (up 0 c)) 0 1 else rem c n

/-- The region's proof data on a device. -/
def dat (c : Dev nD) : Dat τ (Elt F) ℕ ℕ U ℕ cfg0 c where
  A w := V m c (Pipeline.arrRef spec0 w)
  after
    | 0, t => iblk m c 0 t | 1, t => iblk m c 1 t | 2, t => iblk m c 2 t
    | 3, t => iblk m c 3 t | 4, t => iblk m c 4 t | 5, t => iblk m c 5 t
  Φ t := Keep m c t.val
  q w := Pipeline.shareOf spec0 w
  owed t := dueAt c t.val

/-- Only of the result window the data say less than its contents. -/
def fgt : Fin cfg0.W → Bool
  | 0 => false | 1 => false | 2 => false | 3 => false | 4 => false | 5 => true

/-- What the result window holds after a point. -/
def tileOk (c : Dev nD) : (w : Fin cfg0.W) → Fin cfg0.N → ((cfg0.win w).block.Idx → Elt F (cfg0.win w).elt) → Prop
  | 5, t, Y => OutTile (left m) (right m) c t.val Y
  | _, _, _ => True

theorem before_0 (c : Dev nD) (t : Fin cfg0.N) (d) : (dat m c).before 0 t d = iblk m c 0 t :=
  ((dat m c).before_in_eq_fetched 0 rfl (fun _ => rfl) (fun _ _ _ => rfl) (fun _ => rfl) t d).trans rfl
theorem before_1 (c : Dev nD) (t : Fin cfg0.N) (d) : (dat m c).before 1 t d = iblk m c 1 t :=
  ((dat m c).before_in_eq_fetched 1 rfl (fun _ => rfl) (fun _ _ _ => rfl) (fun _ => rfl) t d).trans rfl
theorem before_2 (c : Dev nD) (t : Fin cfg0.N) (d) : (dat m c).before 2 t d = iblk m c 2 t :=
  ((dat m c).before_in_eq_fetched 2 rfl (fun _ => rfl) (fun _ _ _ => rfl) (fun _ => rfl) t d).trans rfl
theorem before_3 (c : Dev nD) (t : Fin cfg0.N) (d) : (dat m c).before 3 t d = iblk m c 3 t :=
  ((dat m c).before_in_eq_fetched 3 rfl (fun _ => rfl) (fun _ _ _ => rfl) (fun _ => rfl) t d).trans rfl
theorem before_4 (c : Dev nD) (t : Fin cfg0.N) (d) : (dat m c).before 4 t d = iblk m c 4 t :=
  ((dat m c).before_in_eq_fetched 4 rfl (fun _ => rfl) (fun _ _ _ => rfl) (fun _ => rfl) t d).trans rfl

theorem owesAt_in (c : Dev nD) (t : Fin (cfg0.N + 1)) (n : ℕ) (h : t.val = n) :
    (Owes c (dueAt c n) : sProp 𝕄) ⊢ ((dat m c).owesAt 0 t : sProp 𝕄) := by
  subst h
  unfold Owes Dat.owesAt Pipeline.owesWithin Dat.bound
  iintro ⟨%W, H⟩
  iexists W
  isplitr
  · ipureintro; exact fun _ _ => Or.inl trivial
  iexact H

theorem owesAt_out (c : Dev nD) (t : Fin (cfg0.N + 1)) (n : ℕ) (h : t.val = n) :
    ((dat m c).owesAt 0 t : sProp 𝕄) ⊢ (Owes c (dueAt c n) : sProp 𝕄) := by
  subst h
  unfold Owes Dat.owesAt Pipeline.owesWithin
  iintro ⟨%W, -, H⟩
  iexists W
  iexact H

/-- A point's body, from what the device holds before it. -/
theorem point_ok (c : Dev nD) (t : Fin grid0.N)
    (M1 : Memref sig .tc .vmem S4096x1024 .f32) (h1 : M1.IsWhole) (M2 : Memref sig .tc .vmem S1024x512 .f32) (h2 : M2.IsWhole)
    (M3 : Memref sig .tc .vmem S1024x512 .f32) (h3 : M3.IsWhole) (M4 : Memref sig .tc .vmem S1024x512 .f32) (h4 : M4.IsWhole)
    (M5 : Memref sig .tc .vmem S1024x512 .f32) (h5 : M5.IsWhole) (M6 : Memref sig .tc .vmem S1024x512 .f32) (h6 : M6.IsWhole)
    (h7 : (Memref.whole cc0_scratch0 : Memref sig .tc _ _ _).IsWhole) (h8 : (Memref.whole cc0_scratch1 : Memref sig .tc _ _ _).IsWhole)
    (Y : Vec F S1024x512 .f32) {Q : PUnit → sProp 𝕄} :
    iprop(Keep m c t.val ∗ Owes c (dueAt c t.val) ∗ Reads (left m) (right m) c t.val M1 M2 M3 M4 M5 ∗ owns (c : Thread nD τ) M6 fullShare Y)
      ⊢ iprop((∀ Y' : Vec F S1024x512 .f32, ⌜OutTile (left m) (right m) c t.val Y'⌝ -∗ iprop(Keep m c (t.val + 1) ∗ Owes c (dueAt c (t.val + 1))
            ∗ Reads (left m) (right m) c t.val M1 M2 M3 M4 M5 ∗ owns (c : Thread nD τ) M6 fullShare Y') -∗ Q ⟨⟩)
        -∗ wp frame (wpE (defs₀ (F := F)) 𝒱₀ (c : Thread nD τ) none) Set.univ (cc0_body (F := F) (grid0.coords t) M1 h1 M2 h2 M3 h3 M4 h4 M5 h5 M6 h6 (Memref.whole cc0_scratch0) h7 (Memref.whole cc0_scratch1) h8
      cc0_scratch2 cc0_scratch3 cc0_scratch4 cc0_scratch5 cc0_scratch6 cc0_scratch7) Q) := by
  have htN : t.val < 19 := t.isLt
  have hk : ∀ n, n ≠ 0 → n ≠ 19 → Keep m c n = iprop(∃ κ κs, St κ κs (left m) (right m) c n) := fun n h0 h1 => by
    unfold Keep; rw [if_neg h0, if_neg h1]
  have hk0 : Keep m c 0 = iprop(∃ κ κs, Pre κ κs (left m) (right m) c) := if_pos rfl
  have hk19 : Keep m c 19 = Post c := by unfold Keep; rw [if_neg (by decide), if_pos rfl]
  have hd : ∀ n, n ≠ 0 → dueAt c n = rem c n := fun n h => if_neg h
  have hd0 : dueAt c 0 = rem c 0 + tallyAt (barCell (up 1 c)) 0 1 + tallyAt (barCell (up 0 c)) 0 1 := if_pos rfl
  rcases Nat.eq_zero_or_pos t.val with h0 | h0
  · have key : ∀ κ κs, iprop(iprop(Fst κ κs (left m) (right m) c ∗ Owes c (rem c 0 + tallyAt (barCell (up 1 c)) 0 1 + tallyAt (barCell (up 0 c)) 0 1))
        ∗ Reads (left m) (right m) c t.val M1 M2 M3 M4 M5 ∗ owns (c : Thread nD τ) M6 fullShare Y) ⊢ _ :=
      fun κ κs => step_ok κ κs (left m) (right m) c t M1 h1 M2 h2 M3 h3 M4 h4 M5 h5 M6 h6 h7 h8
        (fun K => first_ok κ κs (left m) (right m) c t h0 M1 h1 M2 h2 M3 h3 M4 h4 M5 h5 M6 h6 h7 h8 (K := K)) Y (K := Q)
    simp only [if_neg (show t.val ≠ 18 by omega)] at key
    rw [h0, hk0, hd0, hd _ (by omega), hk _ (by omega) (by omega)]
    rw [h0] at key
    iintro ⟨⟨%κ, %κs, HP⟩, HO, HR, HY⟩ Hk
    iapply fupd_wp
    imod (Pre_first κ κs (left m) (right m) c) $$ HP with HP
    imodintro
    iapply (key κ κs) $$ [HP HO HR HY]
    · isplitl [HP HO]
      · isplitl [HP]; · iexact HP
        iexact HO
      isplitl [HR]; · iexact HR
      iexact HY
    iintro %Y' %hY' ⟨HS, HO, HR, HY⟩
    iapply Hk $$ %Y' %hY' [HS HO HR HY]
    isplitl [HS]
    · iexists κ, κs; iexact HS
    isplitl [HO]; · iexact HO
    isplitl [HR]; · iexact HR
    iexact HY
  · have key : ∀ κ κs (Q : PUnit → sProp 𝕄), iprop(iprop(St κ κs (left m) (right m) c t.val ∗ Owes c (rem c t.val))
        ∗ Reads (left m) (right m) c t.val M1 M2 M3 M4 M5 ∗ owns (c : Thread nD τ) M6 fullShare Y) ⊢ _ :=
      fun κ κs Q => step_ok κ κs (left m) (right m) c t M1 h1 M2 h2 M3 h3 M4 h4 M5 h5 M6 h6 h7 h8
        (fun K => later_ok κ κs (left m) (right m) c t h0 M1 h1 M2 h2 M3 h3 M4 h4 M5 h5 M6 h6 h7 h8 (K := K)) Y (K := Q)
    rw [hk t.val (by omega) (by omega), hd t.val (by omega), hd (t.val + 1) (by omega)]
    iintro ⟨⟨%κ, %κs, HP⟩, HO, HR, HY⟩ Hk
    iapply wp_fupd
    iapply (key κ κs _) $$ [HP HO HR HY]
    · isplitl [HP HO]
      · isplitl [HP]; · iexact HP
        iexact HO
      isplitl [HR]; · iexact HR
      iexact HY
    iintro %Y' %hY' ⟨HS, HO, HR, HY⟩
    have hlast : (if t.val = 18 then Ended κ κs (left m) (right m) c else St κ κs (left m) (right m) c (t.val + 1))
        ⊢ (|={Set.univ}=> Keep m c (t.val + 1) : sProp 𝕄) := by
      by_cases h : t.val = 18
      · rw [if_pos h, h, hk19]; exact Ended_post κ κs (left m) (right m) c
      · rw [if_neg h, hk _ (by omega) (by omega)]
        iintro HS
        imodintro
        iexists κ, κs; iexact HS
    imod hlast $$ HS with HS
    imodintro
    iapply Hk $$ %Y' %hY' [HS HO HR HY]
    isplitl [HS]; · iexact HS
    isplitl [HO]; · iexact HO
    isplitl [HR]; · iexact HR
    iexact HY

/-- The body keeps the region's data. -/
theorem body_ok (c : Dev nD) : BodyObligationRel (dat m c) (defs₀ (F := F)) 𝒱₀ 0 Set.univ fgt (tileOk m c) := by
  intro t
  rw [bigSep_W0, bigSep_W0]
  show iprop(Keep m c t.val ∗ (dat m c).owesAt 0 t.castSucc
      ∗ (∃ d, owns (c : Thread nD τ) (st0_0 t) fullShare ((dat m c).before 0 t d)) ∗ (∃ d, owns (c : Thread nD τ) (st0_1 t) fullShare ((dat m c).before 1 t d))
      ∗ (∃ d, owns (c : Thread nD τ) (st0_2 t) fullShare ((dat m c).before 2 t d)) ∗ (∃ d, owns (c : Thread nD τ) (st0_3 t) fullShare ((dat m c).before 3 t d))
      ∗ (∃ d, owns (c : Thread nD τ) (st0_4 t) fullShare ((dat m c).before 4 t d))
      ∗ (∃ Y, ⌜((dat m c).toRRel fgt (tileOk m c)).Finds 5 t Y⌝ ∗ owns (c : Thread nD τ) (st0_5 t) fullShare Y))
    ⊢ wp frame (wpE (defs₀ (F := F)) 𝒱₀ (c : Thread nD τ) none) Set.univ (bodyAt0 t) fun _ =>
      iprop(Keep m c (t.val + 1) ∗ (dat m c).owesAt 0 t.succ
        ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t)
        ∗ (∃ Y, ⌜OutTile (left m) (right m) c t.val Y⌝ ∗ owns (c : Thread nD τ) (st0_5 t) fullShare Y))
  simp only [before_0, before_1, before_2, before_3, before_4, iblk_0, iblk_1, iblk_2, iblk_3, iblk_4]
  iintro ⟨HK, HO, ⟨%d0, H0⟩, ⟨%d1, H1⟩, ⟨%d2, H2⟩, ⟨%d3, H3⟩, ⟨%d4, H4⟩, ⟨%Y, -, H5⟩⟩
  ihave HO := (owesAt_out m c t.castSucc t.val rfl) $$ HO
  iapply (point_ok m c t _ _ _ _ _ _ _ _ _ _ _ _ _ _ Y) $$ [HK HO H0 H1 H2 H3 H4 H5]
  · isplitl [HK]; · iexact HK
    isplitl [HO]; · iexact HO
    isplitr [H5]
    · unfold Reads
      isplitl [H0]; · iexact H0
      isplitl [H1]; · iexact H1
      isplitl [H2]; · iexact H2
      isplitl [H3]; · iexact H3
      iexact H4
    iexact H5
  unfold Reads
  iintro %Y' %hY' ⟨HK, HO, ⟨H0, H1, H2, H3, H4⟩, H5⟩
  isplitl [HK]; · iexact HK
  isplitl [HO]; · iapply (owesAt_in m c t.succ (t.val + 1) rfl); iexact HO
  isplitl [H0]; · iexact H0
  isplitl [H1]; · iexact H1
  isplitl [H2]; · iexact H2
  isplitl [H3]; · iexact H3
  isplitl [H4]; · iexact H4
  iexists Y'
  isplitr
  · ipureintro; exact hY'
  iexact H5

end Cert.KernelIdeal.Hand
-- ==== Proof.Dues.lean ====
module
public import proofs.«01_k».proof.Proof.Region
public import Idealize.ShloMosaic.Lib.Pipeline.Launch
/-! # What the devices owe, and what they wait for

At launch every device owes its neighbours' cells; summed over the devices this is what each device waits for on its own. -/
@[expose] public section
noncomputable section
namespace Cert.KernelIdeal.Hand
open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
variable {F : FTy → Type} [FloatOps F]
local notation "𝕄" => MT nD τ sig ℕ (Elt F) ℕ U ℕ

/-- Sending on in direction `d`, a bijection of the devices. -/
def downEquiv (d : Fin 2) : Dev nD ≃ Dev nD := ⟨down d, up d, up_down d, down_up d⟩
/-- Receiving in direction `d`, a bijection of the devices. -/
def upEquiv (d : Fin 2) : Dev nD ≃ Dev nD := ⟨up d, down d, down_up d, up_down d⟩

/-- The units of all tiles arriving on hop `h` of direction `d` at device `c`. -/
def getH (d : Fin 2) (h : ℕ) (c : Dev nD) : CellTallies nD τ sig ℕ :=
  ∑ t ∈ Finset.range 16, tallyAt (rcvCell c d t h) (t + h) unitsN
/-- The credits of all steps arriving at device `c` for direction `d`. -/
def getC (d : Fin 2) (c : Dev nD) : CellTallies nD τ sig ℕ := ∑ j ∈ Finset.range 19, tallyAt (crCell c d) j 1

/-- All that arrives at a device. -/
def gets (c : Dev nD) : CellTallies nD τ sig ℕ :=
  (∑ d : Fin 2, ∑ h ∈ Finset.range 3, getH d h c) + (∑ d : Fin 2, getC d c) + tallyAt (barCell c) 0 2

theorem payH_sum (d : Fin 2) (h : ℕ) (hh : h < 3) (c : Dev nD) : ∑ j ∈ Finset.range 19, payH d h j c = getH d h (down d c) := by
  unfold getH payH
  obtain rfl | rfl | rfl : h = 0 ∨ h = 1 ∨ h = 2 := by omega
  all_goals simp [Finset.sum_range_succ]

theorem payC_sum (d : Fin 2) (c : Dev nD) : ∑ j ∈ Finset.range 19, payC d j c = getC d (up d c) := rfl

theorem rem_all (c : Dev nD) : rem c 0 = (∑ d : Fin 2, ∑ h ∈ Finset.range 3, getH d h (down d c)) + ∑ d : Fin 2, getC d (up d c) := by
  have e : rem c 0 = ∑ j ∈ Finset.range 19, stepO c j := by unfold rem; rw [Finset.range_eq_Ico]
  rw [e]
  unfold stepO
  simp only [Finset.sum_add_distrib]
  rw [payC_sum, payC_sum, payH_sum 1 2 (by omega), payH_sum 0 2 (by omega), payH_sum 1 1 (by omega), payH_sum 0 1 (by omega),
    payH_sum 1 0 (by omega), payH_sum 0 0 (by omega)]
  rw [Fin.sum_univ_two, Fin.sum_univ_two]
  simp only [Finset.sum_range_succ, Finset.range_zero, Finset.sum_empty, zero_add]
  ac_rfl

/-- All that is owed is all that arrives. -/
theorem owed_gets : (∑ c, dueAt c 0) = ∑ c, gets c := by
  have e : ∀ c : Dev nD, dueAt c 0 = ((∑ d : Fin 2, ∑ h ∈ Finset.range 3, getH d h (downEquiv d c)) + ∑ d : Fin 2, getC d (upEquiv d c))
      + tallyAt (barCell (upEquiv 1 c)) 0 1 + tallyAt (barCell (upEquiv 0 c)) 0 1 := by
    intro c
    unfold dueAt
    rw [if_pos rfl, rem_all]
    rfl
  have e2 : ∀ c : Dev nD, gets c = ((∑ d : Fin 2, ∑ h ∈ Finset.range 3, getH d h c) + ∑ d : Fin 2, getC d c)
      + tallyAt (barCell c) 0 1 + tallyAt (barCell c) 0 1 := by
    intro c
    unfold gets
    rw [add_assoc _ (tallyAt (barCell c) 0 1), tallyAt_add]
  rw [Finset.sum_congr rfl fun c _ => e c, Finset.sum_congr rfl fun c _ => e2 c]
  simp only [Fin.sum_univ_two, Finset.sum_range_succ, Finset.range_zero, Finset.sum_empty, zero_add, Finset.sum_add_distrib]
  have hH : ∀ (d : Fin 2) (h : ℕ), (∑ c, getH d h (downEquiv d c)) = ∑ c, getH d h c := fun d h => Equiv.sum_comp (downEquiv d) _
  have hC : ∀ d : Fin 2, (∑ c, getC d (upEquiv d c)) = ∑ c, getC d c := fun d => Equiv.sum_comp (upEquiv d) _
  have hB : ∀ d : Fin 2, (∑ c, (tallyAt (barCell (upEquiv d c)) 0 1 : CellTallies nD τ sig ℕ)) = ∑ c, tallyAt (barCell c) 0 1 :=
    fun d => Equiv.sum_comp (upEquiv d) fun c => (tallyAt (barCell c) 0 1 : CellTallies nD τ sig ℕ)
  rw [hH 0 0, hH 0 1, hH 0 2, hH 1 0, hH 1 1, hH 1 2, hC 0, hC 1, hB 0, hB 1]

/-- What arrives at a device arrives on its own cells. -/
theorem gets_own (c : Dev nD) (g : GSem nD τ sig) (hg : gets c g ≠ 0) : g.1 = (c.tc : Thread nD τ) := by
  by_contra hne
  apply hg
  have hz : ∀ (s : SemLoc sig) (i k : ℕ), tallyAt ((c : Thread nD τ), s) i k g = 0 := fun s i k =>
    tallyAt_ne_cell (fun h => hne (congrArg Prod.fst h)) i k
  unfold gets getH getC
  simp only [Pi.add_apply, Finset.sum_apply, hz, Finset.sum_const_zero, add_zero]

/-- The launch credit of a device, sorted by cell. -/
theorem creds (c : Dev nD) : (Pipeline.launchCred (fun c => dueAt c 0) c : sProp 𝕄)
    ⊢ iprop((bigSep Finset.univ fun d : Fin 2 => iprop((bigSep (Finset.range 3) fun h => bigSep (Finset.range 16) fun t => cred (tallyAt (rcvCell c d t h) (t + h) unitsN))
      ∗ bigSep (Finset.range 19) fun j => cred (tallyAt (crCell c d) j 1))) ∗ cred (tallyAt (barCell c) 0 2)) := by
  have e : (cred (gets c) : sProp 𝕄) = iprop(((bigSep Finset.univ fun d : Fin 2 => bigSep (Finset.range 3) fun h => bigSep (Finset.range 16) fun t => cred (tallyAt (rcvCell c d t h) (t + h) unitsN))
      ∗ bigSep Finset.univ fun d : Fin 2 => bigSep (Finset.range 19) fun j => cred (tallyAt (crCell c d) j 1)) ∗ cred (tallyAt (barCell c) 0 2)) := by
    have ha : ∀ a b : CellTallies nD τ sig ℕ, (cred (a + b) : sProp 𝕄) = iprop(cred a ∗ cred b) :=
      fun a b => BI.Entails.antisymm (cred_add _ _).1 (cred_add _ _).2
    unfold gets getH getC
    rw [ha, ha]
    simp only [Pipeline.cred_finsetSum]
  rw [Pipeline.launchCred_of_sum (fun c => dueAt c 0) gets owed_gets gets_own c, e]
  exact BIClass.sep_mono (Entails.of_eq (bigSep_sep _ _ _).symm) BIBase.Entails.rfl

end Cert.KernelIdeal.Hand
-- ==== Proof.Deal.lean ====
module
public import proofs.«01_k».proof.Proof.Dues
/-! # The launch's tokens dealt to the devices

Every duty of every cell is the token of one payment; each goes to the device that pays it, and every slot's right to be
written to the device that writes it. -/
@[expose] public section
noncomputable section
namespace Cert.KernelIdeal.Hand
open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
variable {F : FTy → Type} [FloatOps F]
local notation "𝕄" => MT nD τ sig ℕ (Elt F) ℕ U ℕ

/-! ## Families -/

theorem pair_in {I : Type} (s : Finset I) (Φ Ψ : I → sProp 𝕄) :
    iprop(bigSep s Φ ∗ bigSep s Ψ) ⊢ bigSep s fun i => iprop(Φ i ∗ Ψ i) := Entails.of_eq (bigSep_sep _ _ _).symm
theorem pair_out {I : Type} (s : Finset I) (Φ Ψ : I → sProp 𝕄) :
    (bigSep s fun i => iprop(Φ i ∗ Ψ i)) ⊢ iprop(bigSep s Φ ∗ bigSep s Ψ) := Entails.of_eq (bigSep_sep _ _ _)

/-- A family holds each member picked out once. -/
theorem pick {I J : Type} [DecidableEq I] [DecidableEq J] (s : Finset I) (t : Finset J) (f : I → J) (hf : Set.InjOn f s) (hs : ∀ i ∈ s, f i ∈ t)
    (Φ : J → sProp 𝕄) : bigSep t Φ ⊢ bigSep s fun i => Φ (f i) :=
  (show bigSep t Φ ⊢ bigSep (s.image f) Φ from bigSep_subset (Finset.image_subset_iff.mpr hs)).trans
    (Entails.of_eq (bigSep_image_of_injOn hf Φ))

/-- A family over the devices and directions, the devices renamed in each direction. -/
theorem turn (f : Fin 2 → (Dev nD ≃ Dev nD)) (Φ : Dev nD → Fin 2 → sProp 𝕄) :
    (bigSep Finset.univ fun c : Dev nD => bigSep Finset.univ fun d : Fin 2 => Φ c d)
      ⊢ bigSep Finset.univ fun c : Dev nD => bigSep Finset.univ fun d : Fin 2 => Φ (f d c) d := by
  have e : (bigSep Finset.univ fun d : Fin 2 => bigSep Finset.univ fun c : Dev nD => Φ c d)
      = bigSep Finset.univ fun d : Fin 2 => bigSep Finset.univ fun c : Dev nD => Φ (f d c) d :=
    bigSep_congr fun d _ => bigSep_univ_equiv (f d) fun c => Φ c d
  rw [bigSep_swap (F := F) Finset.univ Finset.univ Φ, e, ← bigSep_swap (F := F) Finset.univ Finset.univ fun c d => Φ (f d c) d]

/-! ## Tokens -/

/-- The tiles of every hop, direction and device. -/
abbrev tiles : Finset (Dev nD × Fin 2 × ℕ × ℕ) := Finset.univ ×ˢ Finset.univ ×ˢ Finset.range 3 ×ˢ Finset.range 16
/-- The steps of every direction and device. -/
abbrev steps : Finset (Dev nD × Fin 2 × ℕ) := Finset.univ ×ˢ Finset.univ ×ˢ Finset.range 19
/-- The directions of every device. -/
abbrev ways : Finset (Dev nD × Fin 2) := Finset.univ ×ˢ Finset.univ

theorem over_tiles (Φ : Dev nD × Fin 2 × ℕ × ℕ → sProp 𝕄) : bigSep tiles Φ
    = bigSep Finset.univ fun c => bigSep Finset.univ fun d => bigSep (Finset.range 3) fun h => bigSep (Finset.range 16) fun t => Φ (c, d, h, t) := by
  rw [bigSep_pairs]
  exact bigSep_congr fun c _ => by
    rw [bigSep_pairs]
    exact bigSep_congr fun d _ => by rw [bigSep_pairs]
theorem over_steps (Φ : Dev nD × Fin 2 × ℕ → sProp 𝕄) : bigSep steps Φ
    = bigSep Finset.univ fun c => bigSep Finset.univ fun d => bigSep (Finset.range 19) fun j => Φ (c, d, j) := by
  rw [bigSep_pairs]
  exact bigSep_congr fun c _ => by rw [bigSep_pairs]

abbrev Tok : Type := GSem nD τ sig × ℕ × ℕ

def tokS (x : Dev nD × Fin 2 × ℕ × ℕ) : Tok := (sndCell x.1 x.2.1 x.2.2.2 x.2.2.1, x.2.2.2 / 2, 0)
def tokR (x : Dev nD × Fin 2 × ℕ × ℕ) : Tok := (rcvCell x.1 x.2.1 x.2.2.2 x.2.2.1, x.2.2.2 / 2, 0)
def tokC (x : Dev nD × Fin 2 × ℕ) : Tok := (crCell x.1 x.2.1, 0, x.2.2)
def tokB (x : Dev nD × Fin 2) : Tok := (barCell x.1, 0, x.2.val)

theorem dev_eq {c c' : Dev nD} {s s' : SemLoc sig} (h : (((c : Thread nD τ), s) : GSem nD τ sig) = ((c' : Thread nD τ), s')) : c = c' :=
  congrArg (fun g : GSem nD τ sig => g.1.1) h

theorem mem_tiles {c : Dev nD} {d : Fin 2} {h t : ℕ} : (c, d, h, t) ∈ tiles ↔ h < 3 ∧ t < 16 := by
  simp only [tiles, Finset.mem_product, Finset.mem_univ, Finset.mem_range, true_and]

theorem tokS_inj : Set.InjOn tokS tiles := by
  rintro ⟨c, d, h, t⟩ hx ⟨c', d', h', t'⟩ hy e
  have hx := mem_tiles.mp hx
  have hy := mem_tiles.mp hy
  have e1 : sndCell c d t h = sndCell c' d' t' h' := congrArg Prod.fst e
  have e2 : t / 2 = t' / 2 := congrArg (fun x : Tok => x.2.1) e
  have e3 := congrArg kind (congrArg Prod.snd e1)
  rw [kind_snd, kind_snd] at e3
  injection e3 with e4 e5 e6
  obtain rfl := dev_eq e1
  obtain rfl := e4
  obtain rfl : h = h' := by omega
  obtain rfl : t = t' := by omega
  rfl
theorem tokR_inj : Set.InjOn tokR tiles := by
  rintro ⟨c, d, h, t⟩ hx ⟨c', d', h', t'⟩ hy e
  have hx := mem_tiles.mp hx
  have hy := mem_tiles.mp hy
  have e1 : rcvCell c d t h = rcvCell c' d' t' h' := congrArg Prod.fst e
  have e2 : t / 2 = t' / 2 := congrArg (fun x : Tok => x.2.1) e
  have e3 := congrArg kind (congrArg Prod.snd e1)
  rw [kind_rcv, kind_rcv] at e3
  injection e3 with e4 e5 e6
  obtain rfl := dev_eq e1
  obtain rfl := e4
  obtain rfl : h = h' := by omega
  obtain rfl : t = t' := by omega
  rfl
theorem tokC_inj : Set.InjOn tokC steps := by
  rintro ⟨c, d, j⟩ _ ⟨c', d', j'⟩ _ e
  have e1 : crCell c d = crCell c' d' := congrArg Prod.fst e
  have e2 : j = j' := congrArg (fun x : Tok => x.2.2) e
  have e3 := congrArg kind (congrArg Prod.snd e1)
  rw [kind_cr, kind_cr] at e3
  injection e3 with e4
  obtain rfl := dev_eq e1
  obtain rfl := e4
  obtain rfl := e2
  rfl
theorem tokB_inj : Set.InjOn tokB ways := by
  rintro ⟨c, d⟩ _ ⟨c', d'⟩ _ e
  have e1 : barCell c = barCell c' := congrArg Prod.fst e
  have e2 : d.val = d'.val := congrArg (fun x : Tok => x.2.2) e
  obtain rfl := dev_eq e1
  obtain rfl := Fin.ext e2
  rfl

/-- Every duty's token. -/
def allToks : Finset Tok := (tiles.image tokS ∪ tiles.image tokR) ∪ (steps.image tokC ∪ ways.image tokB)

theorem disj_of {I J : Type} [DecidableEq I] [DecidableEq J] (s : Finset I) (t : Finset J) (f : I → Tok) (g : J → Tok)
    (h : ∀ i j, kind (f i).1.2 ≠ kind (g j).1.2) : Disjoint (s.image f) (t.image g) := by
  rw [Finset.disjoint_left]
  intro x hx hy
  obtain ⟨i, _, rfl⟩ := Finset.mem_image.mp hx
  obtain ⟨j, _, e⟩ := Finset.mem_image.mp hy
  exact h i j (by rw [e])

theorem kS (x : Dev nD × Fin 2 × ℕ × ℕ) : kind (tokS x).1.2 = .snd x.2.1 (x.2.2.2 % 2) (x.2.2.1 % 3) := kind_snd _ _ _
theorem kR (x : Dev nD × Fin 2 × ℕ × ℕ) : kind (tokR x).1.2 = .rcv x.2.1 (x.2.2.2 % 2) (x.2.2.1 % 3) := kind_rcv _ _ _
theorem kC (x : Dev nD × Fin 2 × ℕ) : kind (tokC x).1.2 = .cr x.2.1 := kind_cr _
theorem kB (x : Dev nD × Fin 2) : kind (tokB x).1.2 = .bar := kind_bar

theorem disj1 : Disjoint (tiles.image tokS) (tiles.image tokR) := disj_of _ _ _ _ fun i j h => by
  rw [kS, kR] at h; injection h
theorem disj2 : Disjoint (steps.image tokC) (ways.image tokB) := disj_of _ _ _ _ fun i j h => by
  rw [kC, kB] at h; injection h
theorem disj3 : Disjoint (tiles.image tokS ∪ tiles.image tokR) (steps.image tokC ∪ ways.image tokB) := by
  rw [Finset.disjoint_union_left, Finset.disjoint_union_right, Finset.disjoint_union_right]
  refine ⟨⟨disj_of _ _ _ _ fun i j h => ?_, disj_of _ _ _ _ fun i j h => ?_⟩, disj_of _ _ _ _ fun i j h => ?_, disj_of _ _ _ _ fun i j h => ?_⟩
  · rw [kS, kC] at h; injection h
  · rw [kS, kB] at h; injection h
  · rw [kR, kC] at h; injection h
  · rw [kR, kB] at h; injection h

/-- A device's tokens for the payments it makes in direction `d`. -/
def payToks (c : Dev nD) (d : Fin 2) : sProp 𝕄 :=
  iprop((bigSep (Finset.range 3) fun h => bigSep (Finset.range 16) fun t => dutyTok ER (sndCell c d t h) (t / 2) 0)
    ∗ (bigSep (Finset.range 3) fun h => bigSep (Finset.range 16) fun t => dutyTok ER (rcvCell (down d c) d t h) (t / 2) 0)
    ∗ (bigSep (Finset.range 19) fun j => dutyTok ER (crCell (up d c) d) 0 j)
    ∗ dutyTok ER (barCell (up d c)) 0 d.val)

/-- Every token goes to the device that pays it. -/
theorem deal_toks : (bigSep allToks fun x => (dutyTok ER x.1 x.2.1 x.2.2 : sProp 𝕄))
    ⊢ bigSep Finset.univ fun c : Dev nD => bigSep Finset.univ fun d : Fin 2 => payToks c d := by
  have e : (bigSep allToks fun x => (dutyTok ER x.1 x.2.1 x.2.2 : sProp 𝕄))
      = iprop(((bigSep tiles fun x => dutyTok ER (tokS x).1 (tokS x).2.1 (tokS x).2.2) ∗ bigSep tiles fun x => dutyTok ER (tokR x).1 (tokR x).2.1 (tokR x).2.2)
        ∗ (bigSep steps fun x => dutyTok ER (tokC x).1 (tokC x).2.1 (tokC x).2.2) ∗ bigSep ways fun x => dutyTok ER (tokB x).1 (tokB x).2.1 (tokB x).2.2) := by
    unfold allToks
    rw [bigSep_union disj3, bigSep_union disj1, bigSep_union disj2, bigSep_image_of_injOn tokS_inj, bigSep_image_of_injOn tokR_inj,
      bigSep_image_of_injOn tokC_inj, bigSep_image_of_injOn tokB_inj]
    rfl
  have e4 : (bigSep ways fun x => (dutyTok ER (tokB x).1 (tokB x).2.1 (tokB x).2.2 : sProp 𝕄))
      = bigSep Finset.univ fun c : Dev nD => bigSep Finset.univ fun d : Fin 2 => dutyTok ER (barCell c) 0 d.val := bigSep_pairs _ _ _
  rw [e, over_tiles, over_tiles, over_steps, e4]
  have hR := turn (F := F) downEquiv fun c d => bigSep (Finset.range 3) fun h => bigSep (Finset.range 16) fun t => dutyTok ER (rcvCell c d t h) (t / 2) 0
  have hC := turn (F := F) upEquiv fun c d => bigSep (Finset.range 19) fun j => dutyTok ER (crCell c d) 0 j
  have hB := turn (F := F) upEquiv fun c d => dutyTok ER (barCell c) 0 d.val
  refine (BIClass.sep_mono (BIClass.sep_mono .rfl hR) (BIClass.sep_mono hC hB)).trans ?_
  have fin : ∀ A B C D : Dev nD → Fin 2 → sProp 𝕄,
      iprop(((bigSep Finset.univ fun c => bigSep Finset.univ fun d => A c d) ∗ bigSep Finset.univ fun c => bigSep Finset.univ fun d => B c d)
        ∗ (bigSep Finset.univ fun c => bigSep Finset.univ fun d => C c d) ∗ bigSep Finset.univ fun c => bigSep Finset.univ fun d => D c d)
      ⊢ bigSep Finset.univ fun c => bigSep Finset.univ fun d => iprop(A c d ∗ B c d ∗ C c d ∗ D c d) := by
    intro A B C D
    have q : ∀ P Q : Dev nD → Fin 2 → sProp 𝕄, iprop((bigSep Finset.univ fun c => bigSep Finset.univ fun d => P c d) ∗ bigSep Finset.univ fun c => bigSep Finset.univ fun d => Q c d)
        ⊢ bigSep Finset.univ fun c => bigSep Finset.univ fun d => iprop(P c d ∗ Q c d) := fun P Q =>
      (pair_in _ _ _).trans (bigSep_mono fun c _ => pair_in _ _ _)
    iintro ⟨⟨HA, HB⟩, HC, HD⟩
    iapply (q A fun c d => iprop(B c d ∗ C c d ∗ D c d))
    isplitl [HA]; · iexact HA
    iapply (q B fun c d => iprop(C c d ∗ D c d))
    isplitl [HB]; · iexact HB
    iapply (q C D)
    isplitl [HC] <;> iassumption
  exact fin _ _ _ _

/-! ## Slots -/

/-- Every slot's rights to be written go to the device that writes it. -/
theorem deal_writes : (bigSep ((Finset.univ : Finset Key) ×ˢ Finset.range 4) fun x => (writeTok ES x.1 (x.2 + 1) : sProp 𝕄))
    ⊢ bigSep Finset.univ fun c : Dev nD => bigSep Finset.univ fun d : Fin 2 =>
      bigSep (Finset.range 3) fun h => bigSep (Finset.range 16) fun t => writeTok ES (keyOf (down d c) d t h) (t / 4 + 1) := by
  have h1 := pick (F := F) tiles ((Finset.univ : Finset Key) ×ˢ Finset.range 4) (fun x => (keyOf x.1 x.2.1 x.2.2.2 x.2.2.1, x.2.2.2 / 4))
    (by
      rintro ⟨c, d, h, t⟩ hx ⟨c', d', h', t'⟩ hy e
      have hx := mem_tiles.mp hx
      have hy := mem_tiles.mp hy
      have e1 : c = c' := congrArg (fun x : Key × ℕ => x.1.1) e
      have e2 : d = d' := congrArg (fun x : Key × ℕ => x.1.2.1) e
      have e3 : t % 4 = t' % 4 := congrArg (fun x : Key × ℕ => x.1.2.2.1.val) e
      have e4 : h % 3 = h' % 3 := congrArg (fun x : Key × ℕ => x.1.2.2.2.val) e
      have e5 : t / 4 = t' / 4 := congrArg (fun x : Key × ℕ => x.2) e
      obtain rfl := e1
      obtain rfl := e2
      obtain rfl : h = h' := by omega
      obtain rfl : t = t' := by omega
      rfl)
    (by
      rintro ⟨c, d, h, t⟩ hx
      have hx := mem_tiles.mp hx
      exact Finset.mem_product.mpr ⟨Finset.mem_univ _, Finset.mem_range.mpr (show t / 4 < 4 by omega)⟩)
    (fun x => writeTok ES x.1 (x.2 + 1))
  refine h1.trans ?_
  rw [over_tiles]
  exact turn (F := F) downEquiv fun c d => bigSep (Finset.range 3) fun h => bigSep (Finset.range 16) fun t => writeTok ES (keyOf c d t h) (t / 4 + 1)

/-- Every slot's reader is the device that owns it. -/
theorem deal_readers : (bigSep (Finset.univ : Finset Key) fun k => (readerAt ES k 0 : sProp 𝕄))
    ⊢ bigSep Finset.univ fun c : Dev nD => bigSep Finset.univ fun d : Fin 2 =>
      bigSep (Finset.range 3) fun h => bigSep (Finset.range 4) fun q => readerAt ES (keyOf c d q h) 0 := by
  have h1 := pick (F := F) ((Finset.univ : Finset (Dev nD)) ×ˢ (Finset.univ : Finset (Fin 2)) ×ˢ Finset.range 3 ×ˢ Finset.range 4) (Finset.univ : Finset Key)
    (fun x => keyOf x.1 x.2.1 x.2.2.2 x.2.2.1)
    (by
      rintro ⟨c, d, h, t⟩ hx ⟨c', d', h', t'⟩ hy e
      have hx : h < 3 ∧ t < 4 := by
        simpa only [Finset.coe_product, Finset.mem_coe, Finset.mem_product, Finset.mem_univ, Finset.mem_range, true_and] using Finset.mem_coe.mp hx
      have hy : h' < 3 ∧ t' < 4 := by
        simpa only [Finset.coe_product, Finset.mem_coe, Finset.mem_product, Finset.mem_univ, Finset.mem_range, true_and] using Finset.mem_coe.mp hy
      have e1 : c = c' := congrArg (fun x : Key => x.1) e
      have e2 : d = d' := congrArg (fun x : Key => x.2.1) e
      have e3 : t % 4 = t' % 4 := congrArg (fun x : Key => x.2.2.1.val) e
      have e4 : h % 3 = h' % 3 := congrArg (fun x : Key => x.2.2.2.val) e
      obtain rfl := e1
      obtain rfl := e2
      obtain rfl : h = h' := by omega
      obtain rfl : t = t' := by omega
      rfl)
    (fun x _ => Finset.mem_univ _) (fun k => readerAt ES k 0)
  refine h1.trans (Entails.of_eq ?_)
  rw [bigSep_pairs]
  exact bigSep_congr fun c _ => by
    rw [bigSep_pairs]
    exact bigSep_congr fun d _ => by rw [bigSep_pairs]

/-! ## A device's share -/

/-- One direction's share but for its barrier token. -/
theorem begin_of (c : Dev nD) (d : Fin 2) :
    iprop(payToks c d ∗ (bigSep (Finset.range 3) fun h => bigSep (Finset.range 16) fun t => writeTok ES (keyOf (down d c) d t h) (t / 4 + 1))
      ∗ (bigSep (Finset.range 3) fun h => bigSep (Finset.range 4) fun q => readerAt ES (keyOf c d q h) 0)
      ∗ (bigSep (Finset.range 3) fun h => bigSep (Finset.range 16) fun t => cred (tallyAt (rcvCell c d t h) (t + h) unitsN))
      ∗ bigSep (Finset.range 19) fun j => cred (tallyAt (crCell c d) j 1))
    ⊢ (iprop(Begin c d ∗ dutyTok ER (barCell (up d c)) 0 d.val) : sProp 𝕄) := by
  have hs : ∀ A B C : ℕ → ℕ → sProp 𝕄, iprop((bigSep (Finset.range 3) fun h => bigSep (Finset.range 16) fun t => A h t)
        ∗ (bigSep (Finset.range 3) fun h => bigSep (Finset.range 16) fun t => B h t) ∗ bigSep (Finset.range 3) fun h => bigSep (Finset.range 16) fun t => C h t)
      ⊢ bigSep (Finset.range 3) fun h => bigSep (Finset.range 16) fun t => iprop(A h t ∗ B h t ∗ C h t) := by
    intro A B C
    have q : ∀ P Q : ℕ → ℕ → sProp 𝕄, iprop((bigSep (Finset.range 3) fun h => bigSep (Finset.range 16) fun t => P h t) ∗ bigSep (Finset.range 3) fun h => bigSep (Finset.range 16) fun t => Q h t)
        ⊢ bigSep (Finset.range 3) fun h => bigSep (Finset.range 16) fun t => iprop(P h t ∗ Q h t) := fun P Q =>
      (pair_in _ _ _).trans (bigSep_mono fun c _ => pair_in _ _ _)
    iintro ⟨HA, HB, HC⟩
    iapply (q A fun h t => iprop(B h t ∗ C h t))
    isplitl [HA]; · iexact HA
    iapply (q B C)
    isplitl [HB] <;> iassumption
  unfold payToks Begin Toks
  iintro ⟨⟨H1, H2, H3, H4⟩, H5, H6, H7, H8⟩
  isplitr [H4]
  · isplitl [H1 H2 H5]
    · unfold sndTok
      iapply (hs _ _ _)
      isplitl [H1]; · iexact H1
      isplitl [H2] <;> iassumption
    isplitl [H7]; · iexact H7
    isplitl [H6]; · iexact H6
    isplitl [H8]; · iexact H8
    rw [← Finset.range_eq_Ico]
    iexact H3
  · iexact H4

end Cert.KernelIdeal.Hand
-- ==== Proof.Start.lean ====
module
public import proofs.«01_k».proof.Proof.Deal
/-! # What every device starts with

The invariants of all cells and slots are set up at once, and every device gets its share of the tokens. -/
@[expose] public section
noncomputable section
namespace Cert.KernelIdeal.Hand
open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
variable {F : FTy → Type} [FloatOps F]
local notation "𝕄" => MT nD τ sig ℕ (Elt F) ℕ U ℕ

/-- The barrier cells, whose counters are there at launch. -/
def barCells : Finset (GSem nD τ sig) := Finset.univ.image barCell
/-- The cells whose counters the region brings. -/
def ownCells : Finset (GSem nD τ sig) := ((Finset.univ : Finset (Dev nD)) ×ˢ ownLocs).image fun x => ((x.1 : Thread nD τ), x.2)

theorem barCell_inj : Set.InjOn barCell (Finset.univ : Finset (Dev nD)) := fun _ _ _ _ h => dev_eq h
theorem ownCell_inj : Set.InjOn (fun x : Dev nD × SemLoc sig => (((x.1 : Thread nD τ), x.2) : GSem nD τ sig))
    (((Finset.univ : Finset (Dev nD)) ×ˢ ownLocs : Finset (Dev nD × SemLoc sig)) : Set (Dev nD × SemLoc sig)) := by
  rintro ⟨c, s⟩ _ ⟨c', s'⟩ _ h
  have h : (((c : Thread nD τ), s) : GSem nD τ sig) = ((c' : Thread nD τ), s') := h
  exact Prod.ext (dev_eq h) (congrArg (fun g : GSem nD τ sig => g.2) h)

theorem bar_only : ∀ s : SemLoc sig, kind s = .bar → s = .reg barrier0 := by decide

theorem cells_disj : Disjoint barCells ownCells := by
  rw [Finset.disjoint_left]
  intro g hx hy
  obtain ⟨c, _, rfl⟩ := Finset.mem_image.mp hx
  obtain ⟨⟨c', s⟩, hs, e⟩ := Finset.mem_image.mp hy
  have h2 := (Finset.mem_filter.mp (Finset.mem_product.mp hs).2).2.2
  have h3 : s = .reg barrier0 := congrArg Prod.snd e
  have h4 : kind s ≠ .bar := h2
  rw [h3, kind_bar] at h4
  exact h4 rfl

theorem cells_all : barCells ∪ ownCells = Cells := by
  ext g
  obtain ⟨t, s⟩ := g
  constructor
  · intro h
    rcases Finset.mem_union.mp h with h | h
    · obtain ⟨c, _, e⟩ := Finset.mem_image.mp h
      rw [← e]
      exact Finset.mem_filter.mpr ⟨Finset.mem_univ _, rfl, by rw [show kind (barCell c).2 = .bar from kind_bar]; decide⟩
    · obtain ⟨⟨c, s'⟩, hs, e⟩ := Finset.mem_image.mp h
      rw [← e]
      exact Finset.mem_filter.mpr ⟨Finset.mem_univ _, rfl, (Finset.mem_filter.mp (Finset.mem_product.mp hs).2).2.1⟩
  · intro h
    obtain ⟨-, h1, h2⟩ := Finset.mem_filter.mp h
    have h1 : t = Dev.tc t.1 := h1
    have h2 : kind s ≠ .off := h2
    by_cases hb : kind s = .bar
    · refine Finset.mem_union_left _ (Finset.mem_image.mpr ⟨t.1, Finset.mem_univ _, ?_⟩)
      rw [bar_only s hb]
      exact Prod.ext h1.symm rfl
    · refine Finset.mem_union_right _ (Finset.mem_image.mpr ⟨(t.1, s), Finset.mem_product.mpr ⟨Finset.mem_univ _, Finset.mem_filter.mpr ⟨Finset.mem_univ _, h2, hb⟩⟩, ?_⟩)
      exact Prod.ext h1.symm rfl

variable (X : Dev nD → Vec F S4096x1024 .f32) (W : Dev nD → ℕ → Vec F S1024x512 .f32)

/-- What a device starts with, but for its buffers and counters. -/
def Gives (c : Dev nD) : sProp 𝕄 :=
  iprop(∃ κ κs, Inv (sums X W) κ κs ∗ levAts L lv ∗ reached ER (barCell (up 0 c)) 0 ∗ reached ER (barCell (up 1 c)) 0 ∗ Gift c)

/-- The part of it every device may read. -/
def Shared (κ : GSem nD τ sig → ℕ) (κs : Key → ℕ) : sProp 𝕄 :=
  iprop(Inv (sums X W) κ κs ∗ levAts L lv ∗ bigSep barCells fun g => reached ER g 0)

instance Shared_persistent (κ : GSem nD τ sig → ℕ) (κs : Key → ℕ) : BI.Persistent (Shared X W κ κs) := by
  unfold Shared; infer_instance

/-- The part of it that is its own. -/
def Mine (c : Dev nD) : sProp 𝕄 :=
  iprop((bigSep ownLocs fun s => openTok ER ((c : Thread nD τ), s)) ∗ atPos ER (barCell c) 0 ∅ 0
    ∗ (bigSep Finset.univ fun d : Fin 2 => payToks c d)
    ∗ (bigSep Finset.univ fun d : Fin 2 => bigSep (Finset.range 3) fun h => bigSep (Finset.range 16) fun t => writeTok ES (keyOf (down d c) d t h) (t / 4 + 1))
    ∗ (bigSep Finset.univ fun d : Fin 2 => bigSep (Finset.range 3) fun h => bigSep (Finset.range 4) fun q => readerAt ES (keyOf c d q h) 0)
    ∗ Pipeline.launchCred (fun c => dueAt c 0) c)

theorem bar_reached (c : Dev nD) : (bigSep barCells fun g => (reached ER g 0 : sProp 𝕄)) ⊢ reached ER (barCell c) 0 :=
  bigSep_elim (Finset.mem_image_of_mem _ (Finset.mem_univ c))

theorem gift_of (c : Dev nD) : Mine c ⊢ (Gift c : sProp 𝕄) := by
  have e2 : ∀ Φ : Fin 2 → sProp 𝕄, bigSep Finset.univ Φ ⊢ iprop(Φ 0 ∗ Φ 1) := fun Φ => Entails.of_eq (bigSep_fin_two Φ)
  unfold Mine Gift
  iintro ⟨Ho, Hb, Hp, Hw, Hr, Hc⟩
  ihave Hc := (creds (F := F) c) $$ Hc
  icases Hc with ⟨Hc, Hcb⟩
  ihave Hc := (e2 _) $$ Hc
  icases Hc with ⟨⟨Hv0, Hx0⟩, Hv1, Hx1⟩
  ihave Hp := (e2 _) $$ Hp
  icases Hp with ⟨Hp0, Hp1⟩
  ihave Hw := (e2 _) $$ Hw
  icases Hw with ⟨Hw0, Hw1⟩
  ihave Hr := (e2 _) $$ Hr
  icases Hr with ⟨Hr0, Hr1⟩
  ihave H0 := (begin_of (F := F) c 0) $$ [Hp0 Hw0 Hr0 Hv0 Hx0]
  · isplitl [Hp0]; · iexact Hp0
    isplitl [Hw0]; · iexact Hw0
    isplitl [Hr0]; · iexact Hr0
    isplitl [Hv0] <;> iassumption
  ihave H1 := (begin_of (F := F) c 1) $$ [Hp1 Hw1 Hr1 Hv1 Hx1]
  · isplitl [Hp1]; · iexact Hp1
    isplitl [Hw1]; · iexact Hw1
    isplitl [Hr1]; · iexact Hr1
    isplitl [Hv1] <;> iassumption
  icases H0 with ⟨HB0, Hd0⟩
  icases H1 with ⟨HB1, Hd1⟩
  isplitl [Ho]; · iexact Ho
  isplitl [HB0]; · iexact HB0
  isplitl [HB1]; · iexact HB1
  isplitl [Hb]; · iexact Hb
  isplitl [Hd0]; · iexact Hd0
  isplitl [Hd1]; · iexact Hd1
  iexact Hcb

theorem gives_of (κ : GSem nD τ sig → ℕ) (κs : Key → ℕ) (c : Dev nD) : iprop(Shared X W κ κs ∗ Mine c) ⊢ Gives X W c := by
  unfold Shared Gives
  iintro ⟨⟨#HI, #Hl, #Hr⟩, Hm⟩
  iexists κ
  iexists κs
  isplitr; · iexact HI
  isplitr; · iexact Hl
  isplitr; · iapply (bar_reached (F := F) (up 0 c)); iexact Hr
  isplitr; · iapply (bar_reached (F := F) (up 1 c)); iexact Hr
  iapply (gift_of (F := F) c)
  iexact Hm

/-- The launch element made into invariants and tokens, of any cells and slots. -/
theorem fund (A : Cont F) (S Sd : Finset (GSem nD τ sig)) (hd : Disjoint S Sd) (T : Finset Tok) (K : Finset Key) :
    iprop(BI.own (embR (launchOf S Sd T, initSlots K 4)) ∗ bigSep S fun g => semVal g 0)
    ⊢ (|={Set.univ}=> iprop(∃ (κ : GSem nD τ sig → ℕ) (κs : Key → ℕ), iprop((bigSep (S ∪ Sd) fun g => cellInv ER (Rd A) (κ g) g) ∗ bigSep K fun k => slotInv ES (κs k) k (keySlot k))
      ∗ (bigSep S fun g => reached ER g 0) ∗ (bigSep S fun g => atPos ER g 0 ∅ 0) ∗ (bigSep Sd fun g => openTok ER g)
      ∗ (bigSep T fun x => dutyTok ER x.1 x.2.1 x.2.2) ∗ (bigSep K fun k => readerAt ES k 0)
      ∗ bigSep (K ×ˢ Finset.range 4) fun x => writeTok ES x.1 (x.2 + 1)) : sProp 𝕄) := by
  have hu : (BI.own (embR (launchOf S Sd T, initSlots K 4)) : sProp 𝕄) ⊢ iprop(BI.own (ER (launchOf S Sd T)) ∗ BI.own (ES (initSlots K 4))) :=
    own_pair_emb (embR : Emb (URounds (GSem nD τ sig) ℕ × USlots Key) 𝕄) (launchOf S Sd T) (initSlots K 4)
  iintro ⟨Hu, Hv⟩
  ihave Hu := hu $$ Hu
  icases Hu with ⟨Hu1, Hu2⟩
  imod (Rounds.fund_launch ER (Rd A) hd (fun g _ h => h) T) $$ [Hv Hu1] with ⟨%κ, -, #Hci, #Hr, Hat, Hop, Htok⟩
  · isplitl [Hv]
    · iexact Hv
    · iexact Hu1
  imod (slots_init ES K 4 keySlot) $$ [Hu2] with ⟨%κs, -, #Hsi, Hrd, Hwr⟩
  · iexact Hu2
  imodintro
  iexists κ
  iexists κs
  isplitr
  · isplitr; · iexact Hci
    iexact Hsi
  isplitr; · iexact Hr
  isplitl [Hat]; · iexact Hat
  isplitl [Hop]; · iexact Hop
  isplitl [Htok]; · iexact Htok
  isplitl [Hrd]; · iexact Hrd
  iexact Hwr

theorem bar_vals : (bigSep Finset.univ fun c : Dev nD => (semVal (barCell c) 0 : sProp 𝕄)) ⊢ bigSep barCells fun g => semVal g 0 :=
  Entails.of_eq (bigSep_image_of_injOn barCell_inj fun g => (semVal g 0 : sProp 𝕄)).symm
theorem bar_at : (bigSep barCells fun g => (atPos ER g 0 ∅ 0 : sProp 𝕄)) ⊢ bigSep Finset.univ fun c : Dev nD => atPos ER (barCell c) 0 ∅ 0 :=
  Entails.of_eq (bigSep_image_of_injOn barCell_inj fun g => (atPos ER g 0 ∅ 0 : sProp 𝕄))
theorem own_toks : (bigSep ownCells fun g => (openTok ER g : sProp 𝕄))
    ⊢ bigSep Finset.univ fun c : Dev nD => bigSep ownLocs fun s => openTok ER ((c : Thread nD τ), s) :=
  Entails.of_eq ((bigSep_image_of_injOn ownCell_inj fun g => (openTok ER g : sProp 𝕄)).trans (bigSep_pairs _ _ _))
theorem inv_all (A : Cont F) (κ : GSem nD τ sig → ℕ) (κs : Key → ℕ) : iprop((bigSep (barCells ∪ ownCells) fun g => cellInv ER (Rd A) (κ g) g)
    ∗ bigSep (Finset.univ : Finset Key) fun k => slotInv ES (κs k) k (keySlot k)) ⊢ (Inv A κ κs : sProp 𝕄) := by
  rw [cells_all]
  unfold Inv
  exact .rfl

/-- The protocol's own part of the launch element. -/
abbrev talk : URounds (GSem nD τ sig) ℕ × USlots Key := (launchOf barCells ownCells allToks, initSlots Finset.univ 4)

theorem mine_all : iprop((bigSep ownCells fun g => openTok ER g) ∗ (bigSep barCells fun g => atPos ER g 0 ∅ 0)
      ∗ (bigSep allToks fun x => dutyTok ER x.1 x.2.1 x.2.2)
      ∗ (bigSep ((Finset.univ : Finset Key) ×ˢ Finset.range 4) fun x => writeTok ES x.1 (x.2 + 1))
      ∗ (bigSep (Finset.univ : Finset Key) fun k => readerAt ES k 0)
      ∗ (bigSep Finset.univ fun c : Dev nD => Pipeline.launchCred (fun c => dueAt c 0) c))
    ⊢ (bigSep Finset.univ fun c => Mine c : sProp 𝕄) := by
  have j : ∀ A B C D E G : Dev nD → sProp 𝕄, iprop(bigSep Finset.univ A ∗ bigSep Finset.univ B ∗ bigSep Finset.univ C ∗ bigSep Finset.univ D ∗ bigSep Finset.univ E ∗ bigSep Finset.univ G)
      ⊢ bigSep Finset.univ fun c => iprop(A c ∗ B c ∗ C c ∗ D c ∗ E c ∗ G c) := by
    intro A B C D E G
    iintro ⟨HA, HB, HC, HD, HE, HG⟩
    iapply (pair_in (F := F) _ _ _)
    isplitl [HA]; · iexact HA
    iapply (pair_in (F := F) _ _ _)
    isplitl [HB]; · iexact HB
    iapply (pair_in (F := F) _ _ _)
    isplitl [HC]; · iexact HC
    iapply (pair_in (F := F) _ _ _)
    isplitl [HD]; · iexact HD
    iapply (pair_in (F := F) _ _ _)
    isplitl [HE]; · iexact HE
    iexact HG
  exact (BIClass.sep_mono own_toks (BIClass.sep_mono bar_at (BIClass.sep_mono deal_toks (BIClass.sep_mono deal_writes (BIClass.sep_mono deal_readers .rfl))))).trans
    (j _ _ _ _ _ _)

theorem gives_all (κ : GSem nD τ sig → ℕ) (κs : Key → ℕ) :
    iprop(Shared X W κ κs ∗ bigSep Finset.univ fun c => Mine c) ⊢ bigSep Finset.univ (Gives X W) :=
  bigSep_with_persistent (R := Shared X W κ κs) (Φ := fun c => Mine c) fun c _ => gives_of X W κ κs c

/-- From the launch element, the barrier counters and the launch credits, every device's start. -/
theorem start : iprop(BI.own (embR talk) ∗ (bigSep Finset.univ fun c : Dev nD => semVal (barCell c) 0)
      ∗ (bigSep Finset.univ fun c : Dev nD => Pipeline.launchCred (fun c => dueAt c 0) c) ∗ levAts L lv)
    ⊢ (|={Set.univ}=> bigSep Finset.univ (Gives X W) : sProp 𝕄) := by
  have hf := fund (sums X W) barCells ownCells cells_disj allToks Finset.univ
  iintro ⟨Hu, Hv, Hc, #Hl⟩
  imod hf $$ [Hu Hv] with ⟨%κ, %κs, #HI, #Hr, Hat, Hop, Htok, Hrd, Hwr⟩
  · isplitl [Hu]; · iexact Hu
    iapply (bar_vals (F := F)) $$ Hv
  imodintro
  iapply (gives_all X W κ κs)
  isplitr
  · unfold Shared
    isplitr
    · iapply (inv_all (sums X W) κ κs); iexact HI
    isplitr; · iexact Hl
    iexact Hr
  iapply (mine_all (F := F))
  isplitl [Hop]; · iexact Hop
  isplitl [Hat]; · iexact Hat
  isplitl [Htok]; · iexact Htok
  isplitl [Hwr]; · iexact Hwr
  isplitl [Hrd]; · iexact Hrd
  iexact Hc

end Cert.KernelIdeal.Hand
-- ==== Proof.Seg.lean ====
module
public import proofs.«01_k».proof.Proof.Start
public import Idealize.ShloMosaic.Lib.Pipeline.RegionArrays
/-! # The region of the program

The kernel's region as the program runs it: what it is entered from and what it leaves. -/
@[expose] public section
noncomputable section
namespace Cert.KernelIdeal.Hand
open Idealize.ShloMosaic Idealize.ShloMosaic.TcCoe Cert.KernelIdeal Cert.KernelIdeal.Gen
open Idealize.ShloMosaic.Pipeline (Dat RDat BodyObligationRel)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
variable {F : FTy → Type} [FloatOps F]
local notation "𝕄" => MT nD τ sig ℕ (Elt F) ℕ U ℕ

variable (m : (ℓ : Loc nD τ sig) → Buf (Elt F) ℓ)

/-- The program names no tables. -/
abbrev adm : (p : Fin 1) → (pcfgs (F := F) p).Adm := fun p => (cfgs p).toPCfg_adm

/-- The exact data of the program's one region. -/
def dats : (p : Fin 1) → (c : Dev nD) → Dat τ (Elt F) ℕ ℕ U ℕ (Pipeline.pin (pcfgs (F := F)) adm p) c
  | 0 => dat m
/-- The same data, of the result window only that it meets `tileOk`. -/
def rdats : (p : Fin 1) → (c : Dev nD) → RDat τ (Elt F) ℕ ℕ U ℕ (Pipeline.pin (pcfgs (F := F)) adm p) c
  | 0 => fun c => (dat m c).toRRel fgt (tileOk m c)

/-- The region's own semaphores. -/
def osem (k : Fin 26) : SemLoc sig := if h : k.val < 24 then .dma ⟨11 + k.val, by show 11 + k.val < 35; omega⟩ else .reg ⟨k.val - 24, by show k.val - 24 < 3; omega⟩

theorem osem_ok : Pipeline.OwnSemFacts spec0 osem := by decide +kernel
theorem osem_inj : Function.Injective osem := by decide +kernel
theorem osem_all : (Finset.univ : Finset (Fin 26)).image osem = ownLocs := by decide +kernel

theorem osem_eq (c : Dev nD) : (Pipeline.ownSems0 osem c : sProp 𝕄) = bigSep ownLocs fun s => semVal ((c : Thread nD τ), s) 0 := by
  rw [← osem_all]
  exact (bigSep_image_of_injOn (fun _ _ _ _ h => osem_inj h) fun s => (semVal ((c : Thread nD τ), s) 0 : sProp 𝕄)).symm

theorem staged_off : ∀ (w : Fin 6) (s : Fin (spec0 w).nbuf), kind (.dma ((spec0 w).sem s)) = .off := by decide +kernel

theorem dueAt_above (c : Dev nD) (n : ℕ) : Above 0 (dueAt c n) := by
  have hb : ∀ d : Fin 2, Above 0 (tallyAt (barCell (up d c)) 0 1) := fun d =>
    Above.at (up d c) _ 0 1 (by show 0 < lvK (kind (.reg barrier0)) 0; rw [kind_bar]; decide) (by decide)
  unfold dueAt
  split
  · exact (((rem_above c 0).mono (by omega)).add (hb 1)).add (hb 0)
  · exact (rem_above c n).mono (by omega)

theorem waits_ok (c : Dev nD) : (levAts L lv : sProp 𝕄) ⊢ RDat.cellsWaits (Pipeline.pin (pcfgs (F := F)) adm) (rdats m) 0 0 c :=
  RDat.cellsWaits_intro _ (rdats m) 0 0 c fun w s t =>
    mayWait_of_above c _ (dueAt_above c t.val) (by decide) (by
      show lvK (kind (.dma ((spec0 w).sem s))) 0 ≤ 0
      rw [staged_off w s]
      exact Nat.le_refl 0)

/-- What a device enters the region with. -/
def Enter (c : Dev nD) : sProp 𝕄 :=
  iprop(unscopedBufs c (V m c) ∗ Gives (left m) (right m) c ∗ Owes c (dueAt c 0))
/-- What it leaves the region with. -/
def Left (c : Dev nD) : sProp 𝕄 := iprop((rdats m 0 c).arraysAt 19 ∗ semVal (barCell c) 0)

theorem entry_ok (c : Dev nD) : iprop(Enter m c ∗ Pipeline.ownSems0 osem c ∗ levAts L lv)
    ⊢ (|={Set.univ}=> iprop((rdats m 0 c).arrays (rdats m 0 c).A ∗ Pipeline.prefHeld (pcfgs (F := F) 0).pre c (fun _ => fullShare) (adm (F := F) 0).1
        ∗ (rdats m 0 c).owesAt 0 0 ∗ iprop(Gives (left m) (right m) c ∗ Pipeline.ownSems0 osem c) ∗ emp) : sProp 𝕄) := by
  have ha : (unscopedBufs c (V m c) : sProp 𝕄) ⊢ iprop((rdats m 0 c).arrays (rdats m 0 c).A ∗ Pipeline.unscopedRest spec0 c (V m c)) :=
    Pipeline.arrays_of_unscopedBufs_shared (pcfgs (F := F)) adm (dats m) (p := 0) winFacts₀0 sharedIn0 arr_whole0 c (fun w _ => rfl) (V m c) (fun w => rfl)
  have hp : (Pipeline.prefHeld (pcfgs (F := F) 0).pre c (fun _ => fullShare) (adm (F := F) 0).1 : sProp 𝕄) = BI.emp :=
    Pipeline.prefHeld_of_none _ rfl c _ _
  have ho : (Owes c (dueAt c 0) : sProp 𝕄) ⊢ (rdats m 0 c).owesAt 0 0 := owesAt_in m c 0 0 rfl
  rw [hp]
  unfold Enter
  iintro ⟨⟨Hb, Hg, HO⟩, Hs, -⟩
  ihave Hb := ha $$ Hb
  icases Hb with ⟨Hb, -⟩
  imodintro
  isplitl [Hb]; · iexact Hb
  isplitr; · iempintro
  isplitl [HO]; · iapply ho $$ HO
  isplitl [Hg Hs]
  · isplitl [Hg] <;> iassumption
  iempintro

theorem in_ok (c : Dev nD) : iprop(iprop(Gives (left m) (right m) c ∗ Pipeline.ownSems0 osem c)
      ∗ Pipeline.prefHeld (pcfgs (F := F) 0).pre c (fun _ => fullShare) (adm (F := F) 0).1 ∗ Pipeline.scopedRest spec0 c)
    ⊢ (Keep m c 0 : sProp 𝕄) := by
  have hk : Keep m c 0 = iprop(∃ κ κs, Pre κ κs (left m) (right m) c) := if_pos rfl
  have hb : (Pipeline.scopedRest spec0 c : sProp 𝕄) ⊢ Bufs c := Entails.of_eq (scopedRest0_eq c)
  rw [hk, osem_eq]
  unfold Gives Pre
  iintro ⟨⟨⟨%κ, %κs, #HI, #Hl, #H0, #H1, Hg⟩, Hs⟩, -, Hb⟩
  iexists κ
  iexists κs
  isplitr; · iexact HI
  isplitr; · iexact Hl
  isplitr; · iexact H0
  isplitr; · iexact H1
  isplitl [Hg]; · iexact Hg
  isplitl [Hs]; · iexact Hs
  iapply hb $$ Hb

theorem out_ok (c : Dev nD) : (Keep m c 19 : sProp 𝕄)
    ⊢ iprop(semVal (barCell c) 0 ∗ Pipeline.ownSems0 osem c ∗ Pipeline.scopedRest spec0 c) := by
  have hk : Keep m c 19 = Post c := by unfold Keep; rw [if_neg (by decide), if_pos rfl]
  have hb : Bufs c ⊢ (Pipeline.scopedRest spec0 c : sProp 𝕄) := Entails.of_eq (scopedRest0_eq c).symm
  rw [hk, osem_eq]
  unfold Post
  iintro ⟨Hs, Hv, Hb⟩
  isplitl [Hv]; · iexact Hv
  isplitl [Hs]; · iexact Hs
  iapply hb $$ Hb

theorem exit_ok (c : Dev nD) : iprop((rdats m 0 c).arraysAt 19 ∗ (rdats m 0 c).owesAt 0 (Fin.last 19) ∗ semVal (barCell c) 0 ∗ emp)
    ⊢ (|={Set.univ}=> iprop(Left m c ∗ Owes c 0) : sProp 𝕄) := by
  have ho : ((rdats m 0 c).owesAt 0 (Fin.last 19) : sProp 𝕄) ⊢ Owes c (dueAt c 19) := owesAt_out m c (Fin.last 19) 19 rfl
  have hd : dueAt c 19 = 0 := by unfold dueAt; rw [if_neg (by decide)]; exact rem_end c
  rw [hd] at ho
  unfold Left
  iintro ⟨Ha, HO, Hv, -⟩
  imodintro
  isplitr [HO]
  · isplitl [Ha] <;> iassumption
  iapply ho $$ HO

set_option backward.isDefEq.respectTransparency.types false in
/-- The region. -/
def reg : RDat.RegionSeg (pcfgs (F := F)) adm (rdats m) 0 defs₀ 𝒱₀ L lv 0 where
  win := winFacts₀0
  block_pos := block_pos0
  stage_whole := stage_whole0
  K := Fin 26
  osem := osem
  ho := osem_ok
  hbody c := (body_ok m c).toRRel
  hwaits c := waits_ok m c
  pre := Enter m
  post c := iprop(Left m c ∗ Owes c 0)
  X c := iprop(Gives (left m) (right m) c ∗ Pipeline.ownSems0 osem c)
  Y c := semVal (barCell c) 0
  Z _ := iprop(emp)
  hentry c := entry_ok m c
  hin c := in_ok m c
  hout c := out_ok m c
  hexit c := exit_ok m c

theorem main_eq (c : Dev nD) : main (F := F) c = RDat.Seg.run [.region (reg m)] := by
  simp only [RDat.Seg.run]
  rfl

end Cert.KernelIdeal.Hand
-- ==== Proof.Final.lean ====
module
public import proofs.«01_k».proof.Proof.Seg
/-! # What the result array holds at the end

Tile by tile the write-backs fill the result array, and no tile is written twice. -/
@[expose] public section
noncomputable section
namespace Cert.KernelIdeal.Hand
open Idealize.ShloMosaic Idealize.ShloMosaic.TcCoe Cert.KernelIdeal Cert.KernelIdeal.Gen
open Idealize.ShloMosaic.Pipeline (Dat RDat)
variable {F : FTy → Type} [FloatOps F]

variable (m : (ℓ : Loc nD τ sig) → Buf (Elt F) ℓ)

theorem half_lt (i : S1024x8192.Idx) (a : Fin 2) : (![(i 0).val, (i 1).val % 256] : Fin 2 → ℕ) a < S1024x256.size a := by
  have h0 : (i 0).val < 1024 := (i 0).isLt
  match a with
  | ⟨0, _⟩ => show (i 0).val < 1024; exact h0
  | ⟨1, _⟩ => show (i 1).val % 256 < 256; omega

/-- What a device's result array holds at the end. -/
def final (c : Dev nD) : Vec F S1024x8192 .f32 := fun i =>
  outs (left m) (right m) ⟨(i 1).val % 512 / 256, by omega⟩ c ((i 1).val / 512) fun a => ⟨_, half_lt i a⟩

theorem flush_5 : ∀ t : Fin grid0.N, win0_5.flush t = decide (3 ≤ t.val) := by decide +kernel

theorem place_lt (i : S1024x8192.Idx) (a : Fin 2) : (![(i 0).val, (i 1).val % 512] : Fin 2 → ℕ) a < S1024x512.size a := by
  have h0 : (i 0).val < 1024 := (i 0).isLt
  match a with
  | ⟨0, _⟩ => show (i 0).val < 1024; exact h0
  | ⟨1, _⟩ => show (i 1).val % 512 < 512; omega

/-- A tile the body leaves, read at a place of the result array within it. -/
theorem tile_at (c : Dev nD) (n : ℕ) (hn : 3 ≤ n) (Y : Vec F S1024x512 .f32) (hY : OutTile (left m) (right m) c n Y)
    (i : S1024x8192.Idx) (hi : (i 1).val / 512 = n - 3) : Y (fun a => ⟨_, place_lt i a⟩) = final m c i := by
  have h := congrFun (hY hn ⟨(i 1).val % 512 / 256, by omega⟩) (fun a => ⟨_, half_lt i a⟩)
  unfold final
  rw [hi, ← h]
  unfold cols
  refine congrArg Y (funext fun a => Fin.ext ?_)
  match a with
  | ⟨0, _⟩ => show (i 0).val = 0 + 1 * (i 0).val; omega
  | ⟨1, _⟩ => show (i 1).val % 512 = 256 * ((i 1).val % 512 / 256) + 1 * ((i 1).val % 256); omega

theorem place_emb (t : Fin grid0.N) (i : S1024x8192.Idx) (hi : (i 1).val / 512 = tile 3 t.val) :
    ((cfg0.win 5).blk t).view.emb (fun a => ⟨_, place_lt i a⟩ : S1024x512.Idx) = i := by
  obtain ⟨h0, h1⟩ := index_5 t
  funext a; apply Fin.ext
  match a with
  | ⟨0, _⟩ => show win0_5.index t 0 * 1024 + 1 * (i 0).val = (i 0).val; rw [h0]; omega
  | ⟨1, _⟩ => show win0_5.index t 1 * 512 + 1 * ((i 1).val % 512) = (i 1).val; rw [h1]; omega

theorem tile_of_emb (t : Fin grid0.N) (j : S1024x512.Idx) :
    ((((cfg0.win 5).blk t).view.emb j : S1024x8192.Idx) 1).val / 512 = tile 3 t.val := by
  obtain ⟨h0, h1⟩ := index_5 t
  show (win0_5.index t 1 * 512 + 1 * (j 1).val) / 512 = _
  have : (j 1).val < 512 := (j 1).isLt
  rw [h1]; omega

/-- Below point `n` the tiles of the points before are what the body left. -/
theorem arr_below (c : Dev nD) : ∀ n, n ≤ 19 → ∀ G : Vec F S1024x8192 .f32, (rdats m 0 c).ArrAt 5 n G →
    ∀ i : S1024x8192.Idx, (i 1).val / 512 + 3 < n → G i = final m c i := by
  intro n
  induction n with
  | zero => intro _ G _ i hi; omega
  | succ n ih =>
    intro hn G hG i hi
    have hlt : n < grid0.N := by show n < 19; omega
    have hs := RDat.ArrAt_succ (rdats m 0 c) 5 (⟨n, hlt⟩ : Fin grid0.N)
    have hf := flush_5 ⟨n, hlt⟩
    by_cases h3 : 3 ≤ n
    · have hG := (congrFun (hs.trans (if_pos (hf.trans (decide_eq_true h3)))) G).mp hG
      obtain ⟨G₀, Y, h0, hl, rfl⟩ := hG
      have hY : OutTile (left m) (right m) c n Y := Dat.toRRel_leaves (fgt := fgt) (Rl := tileOk m c) (dat m c) (w := 5) rfl hl
      by_cases he : (i 1).val / 512 = n - 3
      · have ht : (i 1).val / 512 = tile 3 n := by unfold tile; omega
        rw [← tile_at m c n h3 Y hY i he]
        have hp := place_emb ⟨n, hlt⟩ i ht
        conv_lhs => rw [← hp]
        exact View.write_emb_of_mem _ _ (Finset.mem_univ _)
      · refine (View.write_of_not_mem _ _ _ ?_).trans (ih (by omega) G₀ h0 i (by omega))
        intro hm
        obtain ⟨j, _, hj⟩ := Finset.mem_map.mp hm
        have h4 := tile_of_emb ⟨n, hlt⟩ j
        have h5 : (((cfg0.win 5).blk (⟨n, hlt⟩ : Fin grid0.N)).view.emb j : S1024x8192.Idx) = i := hj
        rw [h5] at h4
        apply he
        rw [h4]; show min (n - 3) 15 = n - 3; omega
    · omega

/-- The result array at the end. -/
theorem arr_end (c : Dev nD) (G : Vec F S1024x8192 .f32) (hG : (rdats m 0 c).ArrAt 5 19 G) : G = final m c := by
  funext i
  have h1 : (i 1).val < 8192 := (i 1).isLt
  exact arr_below m c 19 (Nat.le_refl _) G hG i (by omega)

end Cert.KernelIdeal.Hand
-- ==== Proof.Run.lean ====
module
public import proofs.«01_k».proof.Proof.Final
public import Idealize.ShloMosaic.Lib.Quiescent
/-! # The program's run

The program run on the four devices: it ends, its arguments unchanged, every counter at zero, and each device's result
array at what `final` says. -/
@[expose] public section
noncomputable section
namespace Cert.KernelIdeal.Hand
open Idealize.ShloMosaic Idealize.ShloMosaic.TcCoe Cert.KernelIdeal Cert.KernelIdeal.Gen
open Idealize.ShloMosaic.Pipeline (Dat RDat)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
variable {F : FTy → Type} [FloatOps F]
local notation "𝕄" => MT nD τ sig ℕ (Elt F) ℕ U ℕ

variable (m : (ℓ : Loc nD τ sig) → Buf (Elt F) ℓ) (ρ : Dev nD → PrngReg)

/-- The launch element: the pipeline's own, and the protocol's. -/
def u₀ : U := (initOf (Pipeline.cells (Pipeline.pin (pcfgs (F := F)) adm) cellOf_inj) (Pipeline.launchToks (Pipeline.pin (pcfgs (F := F)) adm) cellOf_inj), talk)

/-- The protocol's element, kept on device 0 until everything is dealt. -/
def park (c : Dev nD) : sProp 𝕄 := if c = 0 then BI.own (embR talk) else iprop(emp)

theorem park_all : (bigSep Finset.univ park : sProp 𝕄) = BI.own (embR talk) := by
  have e : ∀ Y : sProp 𝕄, (bigSep (Finset.univ : Finset (Dev nD)) fun c => if c = 0 then Y else iprop(emp)) = Y := by
    intro Y
    have hz : (bigSep (Finset.univ.erase (0 : Dev nD)) fun c => if c = 0 then Y else iprop(emp)) = BI.emp :=
      (bigSep_congr (Ψ := fun _ => iprop(emp)) fun c hc => if_neg (Finset.ne_of_mem_erase hc)).trans (bigSep_emp_const _)
    rw [bigSep_univ_at _ (0 : Dev nD), hz, if_pos rfl]
    exact BI.equiv_iff.mp sep_emp
  exact e _

theorem bar_sem (c : Dev nD) : (unscopedSems0 c : sProp 𝕄) = semVal (barCell c) 0 := by
  unfold unscopedSems0
  rw [show (Finset.univ.filter fun s : SemLoc sig => ¬ s.isScoped .tc) = {SemLoc.reg barrier0} from by decide +kernel, bigSep_singleton]

theorem bar_unscoped : ∀ s : SemLoc sig, s.isScoped .tc = false → s = .reg barrier0 := by decide +kernel

/-- What the launch deals makes every device's first state. -/
theorem init_ok :
    iprop((bigSep Finset.univ fun c : Dev nD => iprop(unscopedBufs c (fun b => m ((c : Thread nD τ).loc b)) ∗ unscopedSems0 c
          ∗ owes (c : Thread nD τ) (dueAt c 0) ∅ ∗ Pipeline.launchCred (fun c => dueAt c 0) c ∗ prngReg c (ρ c) ∗ park c)) ∗ levAts L lv)
      ⊢ (|={Set.univ}=> bigSep Finset.univ (Enter m) : sProp 𝕄) := by
  have hc : ∀ c : Dev nD, iprop(unscopedBufs c (fun b => m ((c : Thread nD τ).loc b)) ∗ unscopedSems0 c
          ∗ owes (c : Thread nD τ) (dueAt c 0) ∅ ∗ Pipeline.launchCred (fun c => dueAt c 0) c ∗ prngReg c (ρ c) ∗ park c)
      ⊢ (iprop(iprop(unscopedBufs c (V m c) ∗ Owes c (dueAt c 0)) ∗ park c ∗ semVal (barCell c) 0 ∗ Pipeline.launchCred (fun c => dueAt c 0) c) : sProp 𝕄) := by
    intro c
    have hv : (unscopedBufs c (fun b => m ((c : Thread nD τ).loc b)) : sProp 𝕄) ⊢ unscopedBufs c (V m c) := .rfl
    rw [bar_sem]
    unfold Owes
    iintro ⟨Hb, Hs, HO, Hc, -, Hp⟩
    isplitl [Hb HO]
    · isplitl [Hb]; · iapply hv $$ Hb
      iexists ∅; iexact HO
    isplitl [Hp]; · iexact Hp
    isplitl [Hs] <;> iassumption
  have h1 : (bigSep Finset.univ fun c : Dev nD => iprop(unscopedBufs c (fun b => m ((c : Thread nD τ).loc b)) ∗ unscopedSems0 c
          ∗ owes (c : Thread nD τ) (dueAt c 0) ∅ ∗ Pipeline.launchCred (fun c => dueAt c 0) c ∗ prngReg c (ρ c) ∗ park c))
      ⊢ (iprop((bigSep Finset.univ fun c : Dev nD => iprop(unscopedBufs c (V m c) ∗ Owes c (dueAt c 0))) ∗ BI.own (embR talk)
        ∗ (bigSep Finset.univ fun c : Dev nD => semVal (barCell c) 0) ∗ bigSep Finset.univ fun c : Dev nD => Pipeline.launchCred (fun c => dueAt c 0) c) : sProp 𝕄) := by
    refine (bigSep_mono fun c _ => hc c).trans ?_
    refine (pair_out _ _ _).trans (BIClass.sep_mono .rfl ((pair_out _ _ _).trans (BIClass.sep_mono (Entails.of_eq park_all) (pair_out _ _ _))))
  have h2 : iprop((bigSep Finset.univ fun c : Dev nD => iprop(unscopedBufs c (V m c) ∗ Owes c (dueAt c 0))) ∗ bigSep Finset.univ (Gives (left m) (right m)))
      ⊢ (bigSep Finset.univ (Enter m) : sProp 𝕄) := by
    refine (pair_in _ _ _).trans (bigSep_mono fun c _ => ?_)
    have : iprop(iprop(unscopedBufs c (V m c) ∗ Owes c (dueAt c 0)) ∗ Gives (left m) (right m) c) ⊢ (Enter m c : sProp 𝕄) := by
      unfold Enter
      iintro ⟨⟨Hb, HO⟩, Hg⟩
      isplitl [Hb]; · iexact Hb
      isplitl [Hg] <;> iassumption
    exact this
  iintro ⟨H, Hl⟩
  ihave H := h1 $$ H
  icases H with ⟨HB, Hu, Hs, Hc⟩
  imod (start (left m) (right m)) $$ [Hu Hs Hc Hl] with Hg
  · isplitl [Hu]; · iexact Hu
    isplitl [Hs]; · iexact Hs
    isplitl [Hc] <;> iassumption
  imodintro
  iapply h2
  isplitl [HB] <;> iassumption

theorem L_other (g : GSem nD τ sig) (h : g.1.2 ≠ .tc) : L g = ∅ := if_neg h

theorem element_ok : (ownU (u₀ (F := F)) : sProp 𝕄)
    ⊢ (|={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ park) : sProp 𝕄) := by
  have h : (ownU (u₀ (F := F)) : sProp 𝕄) ⊢ iprop(BI.own (EP (initOf (Pipeline.cells (Pipeline.pin (pcfgs (F := F)) adm) cellOf_inj) (Pipeline.launchToks (Pipeline.pin (pcfgs (F := F)) adm) cellOf_inj)))
      ∗ BI.own (embR talk)) := ownU_pair _ _
  rw [park_all]
  iintro Hu
  imodintro
  iapply h $$ Hu

/-- What a device's memory holds at the end. -/
def Done (c : Dev nD) (s : MemSt nD τ sig (Elt F)) : Prop :=
  (∀ w, (rdats m 0 c).ArrAt w 19 (s.mem ((spec0 w).arr.view.loc (c : Thread nD τ)))) ∧ s.sem (barCell c) = 0

theorem fin_ok (c : Dev nD) (s' : Phys nD τ sig (Elt F)) : iprop(Left m c ∗ SI s') ⊢ (|={Set.univ}=> iprop(⌜Done m c s'.mem⌝ ∗ SI s') : sProp 𝕄) := by
  have hr : iprop((rdats m 0 c).arraysAt 19 ∗ SI s')
      ⊢ (iprop(⌜∀ w, (rdats m 0 c).ArrAt w 19 (s'.mem.mem ((spec0 w).arr.view.loc (c : Thread nD τ)))⌝ ∗ SI s') : sProp 𝕄) :=
    RDat.arrays_read (pcfgs (F := F)) adm (rdats m) (p := 0) arr_whole0 c 19 s'
  unfold Left
  iintro ⟨⟨Ha, Hb⟩, HS⟩
  ihave Ha := hr $$ [Ha HS]
  · isplitl [Ha] <;> iassumption
  icases Ha with ⟨%ha, HS⟩
  icombine HS Hb gives %hb
  imodintro
  isplitr
  · ipureintro
    exact ⟨ha, by simpa using hb⟩
  iexact HS

theorem arg_of (c : Dev nD) (s : MemSt nD τ sig (Elt F)) (h : Done m c s) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = final m c := by
  refine ⟨?_, ?_, ?_⟩
  · exact (congrFun (RDat.ArrAt_in (rdats m 0 c) 0 rfl 19) _).mp (h.1 0)
  · exact (congrFun (RDat.ArrAt_in (rdats m 0 c) 1 rfl 19) _).mp (h.1 1)
  · exact arr_end m c _ (h.1 5)

set_option backward.isDefEq.respectTransparency.types false in
/-- Every run ends, with the arguments unchanged, the result arrays at `final`, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = final m c) ∧ r.2.sem = fun _ => 0) :=
  RDat.θ_run_regions_kit_sems (pcfgs (F := F)) adm (rdats m) 0 cellOf_inj EP defs₀ 𝒱₀ L lv m ρ main [.region (reg m)]
    (fun c Q => by rw [main_eq m c])
    (by simp only [RDat.Seg.pipes_region, RDat.Seg.pipes_nil]; decide)
    (O₀ := fun c => dueAt c 0) (hL := L_other) (G := park) (u₀ := u₀ (F := F))
    (hu₀ := element_ok)
    (T₀ := Enter m) (Tₙ := Left m)
    (hch := ⟨fun c => .rfl, fun c => .rfl⟩)
    (hinit := init_ok m ρ)
    (QY := Done m)
    (hfin := fin_ok m)
    (hQ := fun s h hs => ⟨fun c => arg_of m c s (h c), sem_eq_zero hs fun c sm hsm => by
        obtain rfl := bar_unscoped sm hsm
        exact (h c).2⟩)

end Cert.KernelIdeal.Hand
-- ==== Proof.Same.lean ====
module
public import proofs.«01_k».proof.Proof.Run
public import proofs.«01_k».proof.Proof.Gen.Kernel.Frame
/-! # The kernel and its idealization

The two printed programs are the same text, so what is proved of one, for any float values, is a statement about the
other. -/
@[expose] public section
noncomputable section
namespace Cert.KernelIdeal.Hand
open Idealize.ShloMosaic Idealize.SL.Sem
open Cert.Kernel.Gen Cert.KernelIdeal.Gen
variable {F : FTy → Type} [FloatOps F]

/-- The two body tables are one. -/
theorem tables_same : Cert.Kernel.defs₀ (F := F) = Cert.KernelIdeal.defs₀ (F := F) := by
  refine congrArg Defs.onTc (funext fun l => funext fun x => ?_)
  match l, x with
  | ⟨0, _⟩, (t, i) => exact rfl

theorem main_same : (Cert.Kernel.main (F := F)) = (Cert.KernelIdeal.main (F := F)) := rfl

theorem defs_same : (Cert.Kernel.defs (F := F)) = (Cert.KernelIdeal.defs (F := F)) :=
  congrArg (Pipeline.defs Cert.KernelIdeal.pcfgs) tables_same

/-- Every run of the kernel as compiled ends, with the arguments unchanged and every counter at zero. -/
theorem compiled_main (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
    (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
        ∧ r.2.sem = fun _ => 0) := by
  rw [defs_same, main_same]
  exact (θ_run (Cert.KernelIdeal.defs (F := F)) _ _).mono (fun _ h => ⟨fun c => ⟨(h.1 c).1, (h.1 c).2.1⟩, h.2⟩) (run_main m ρ)
end Cert.KernelIdeal.Hand
-- ==== Proof.Products.lean ====
module
public import proofs.«01_k».proof.Proof.Final
public import Idealize.ShloMosaic.Lib.MatmulPlain
public import Idealize.ShloMosaic.Lib.Pipeline.Value
public import Idealize.ShloMosaic.Lib.ValueIdx
/-! # The ring's sums over the extended reals

Narrowing and widening change nothing there, so a running sum is the sum of the products it went past. -/
@[expose] public section
noncomputable section
namespace Cert.KernelIdeal.Hand
open Idealize.ShloMosaic Idealize.ShloMosaic.TcCoe Idealize.ShloMosaic.ValueIdx Cert.KernelIdeal Cert.KernelIdeal.Gen
open scoped BigOperators

/-- One product of a quarter of the rows with a half tile. -/
def prod (A : Vec Ideal S1024x1024 .f32) (B : Vec Ideal S1024x256 .f32) : FVec Ideal S1024x256 .f32 :=
  matmul (φ₁ := .f32) (φ₂ := .f32) dot_S1024x1024_S1024x256_S1024x256_1_0_0_1_n_n none A B (constant S1024x256 .f32 0x00000000#32)

theorem prod_apply (A : Vec Ideal S1024x1024 .f32) (B : Vec Ideal S1024x256 .f32) (r : Fin 1024) (n : Fin 256) :
    prod A B (ix2 r n) = ∑ k : Fin 1024, (A (ix2 r k) : EReal) * B (ix2 k n) := by
  show FloatOps.matmul (F := Ideal) (φ₁ := .f32) (φ₂ := .f32) (DotDims.plain 1024 1024 256) none A B (constant S1024x256 .f32 0x00000000#32) (ix2 r n) = _
  rw [Ideal.matmul_plain_apply]
  show Ideal.ofBits .f32 0x00000000#32 + _ = _
  rw [Ideal.ofBits_zero_f32, zero_add]

/-- What a slot holds, as a half tile. -/
def flat (S : FVec Ideal S1x1x1024x256 .bf16) : FVec Ideal S1024x256 .bf16 := shapeCast S1024x256 S shapeCasts_S1x1x1024x256_S1024x256

theorem flat_cast (v : FVec Ideal S1024x256 .bf16) : flat (shapeCast S1x1x1024x256 v shapeCasts_S1024x256_S1x1x1024x256) = v :=
  shapeCast_shapeCast v _ _

variable (A : Vec Ideal S1024x1024 .f32) (B : Vec Ideal S1024x256 .f32) (S : Vec Ideal S1x1x1024x256 .bf16) (P : FVec Ideal S1024x256 .f32)
variable (i : S1024x256.Idx)

theorem cast_rows : shapeCast S1024x1024 A shapeCasts_S1024x1024_S1024x1024 = A := shapeCast_self A _
theorem cast_cols : shapeCast S1024x256 B shapeCasts_S1024x256_S1024x256 = B := shapeCast_self B _

theorem pay3_eq : k0_pay3 A B = prod A B := by unfold k0_pay3 prod; rw [cast_rows, cast_cols]
theorem pay5_eq : k0_pay5 A B = prod A B := by unfold k0_pay5 prod; rw [cast_rows, cast_cols]
theorem pay7_eq : k0_pay7 A B = prod A B := by unfold k0_pay7 prod; rw [cast_rows, cast_cols]
theorem pay1_eq : (flat (k0_pay1 A B) i : EReal) = prod A B i := by
  unfold k0_pay1 prod
  simp only [flat_cast]
  rw [cast_rows, cast_cols]
  rfl
theorem pay8_eq : (flat (k0_pay8 A B) i : EReal) = prod A B i := by
  unfold k0_pay8 prod
  simp only [flat_cast]
  rw [cast_rows, cast_cols]
  rfl
theorem pay2_eq : (flat (k0_pay2 A B S) i : EReal) = flat S i + prod A B i := by
  unfold k0_pay2 prod
  simp only [flat_cast]
  rw [cast_rows, cast_cols]
  rfl
theorem pay4_eq : (flat (k0_pay4 A B S) i : EReal) = flat S i + prod A B i := by
  unfold k0_pay4 prod
  simp only [flat_cast]
  rw [cast_rows, cast_cols]
  rfl
theorem pay6_eq : (k0_pay6 A B S i : EReal) = flat S i + prod A B i := by
  unfold k0_pay6 prod
  rw [cast_rows, cast_cols]
  rfl
theorem pay9_eq : (flat (k0_pay9 P S) i : EReal) = flat S i + P i := by
  unfold k0_pay9
  simp only [flat_cast]
  rfl
theorem pay10_eq : (flat (k0_pay10 P S) i : EReal) = flat S i + P i := by
  unfold k0_pay10
  simp only [flat_cast]
  rfl
theorem pay11_eq : (k0_pay11 P S i : EReal) = flat S i + P i := by
  unfold k0_pay11
  rfl

/-- The four devices, counted round the ring from the one after `c`, either way. -/
theorem ring_sum (f : Fin 4 → EReal) (c : Fin 4) : f (c + 1) + f (c + 2) + f (c + 3) + f c = ∑ e : Fin 4, f e := by
  rw [Fin.sum_univ_four]
  match c with
  | 0 => show f 1 + f 2 + f 3 + f 0 = _; abel
  | 1 => show f 2 + f 3 + f 0 + f 1 = _; abel
  | 2 => show f 3 + f 0 + f 1 + f 2 = _; abel
  | 3 => show f 0 + f 1 + f 2 + f 3 = _; abel

theorem ring_sum' (f : Fin 4 → EReal) (c : Fin 4) : f (c + 3) + f (c + 2) + f (c + 1) + f c = ∑ e : Fin 4, f e :=
  (by abel : f (c + 3) + f (c + 2) + f (c + 1) + f c = f (c + 1) + f (c + 2) + f (c + 3) + f c).trans (ring_sum f c)

variable (X : Dev nD → Vec Ideal S4096x1024 .f32) (W : Dev nD → ℕ → Vec Ideal S1024x512 .f32)

/-- What device `e` adds to the half tile `d`, `t` of device `c`'s rows. -/
def share (d : Fin 2) (c : Fin 4) (t : ℕ) (e : Fin 4) : EReal := prod (rows c (X e)) (cols d (W e t)) i

theorem outs_0 (c : Dev nD) (t : ℕ) : (outs X W 0 c t i : EReal) = ∑ e : Fin 4, share i X W 0 c t e := by
  show k0_pay6 _ _ (sums X W 0 2 (up 0 c) t) i = _
  rw [pay6_eq, ← sums_02, pay4_eq, ← sums_01, pay2_eq, ← sums_00, pay1_eq, ← ring_sum _ c]
  have h : ∀ c : Fin 4, (up 0 (up 0 (up 0 c)) : Fin 4) = c + 1 ∧ (up 0 (up 0 c) : Fin 4) = c + 2 ∧ (up 0 c : Fin 4) = c + 3
      ∧ (c + 1 + 3 : Fin 4) = c ∧ (c + 2 + 2 : Fin 4) = c ∧ (c + 3 + 1 : Fin 4) = c ∧ (c + 0 : Fin 4) = c := by decide
  obtain ⟨h1, h2, h3, h4, h5, h6, h7⟩ := h c
  unfold share
  rw [h1, h2, h3, h4, h5, h6, h7]

theorem outs_1 (c : Dev nD) (t : ℕ) : (outs X W 1 c t i : EReal) = ∑ e : Fin 4, share i X W 1 c t e := by
  show k0_pay11 _ (sums X W 1 2 (up 1 c) t) i = _
  rw [pay11_eq, pay7_eq, ← sums_12, pay10_eq, pay5_eq, ← sums_11, pay9_eq, pay3_eq, ← sums_10, pay8_eq, ← ring_sum' _ c]
  have h : ∀ c : Fin 4, (up 1 (up 1 (up 1 c)) : Fin 4) = c + 3 ∧ (up 1 (up 1 c) : Fin 4) = c + 2 ∧ (up 1 c : Fin 4) = c + 1
      ∧ (c + 3 + 1 : Fin 4) = c ∧ (c + 2 + 2 : Fin 4) = c ∧ (c + 1 + 3 : Fin 4) = c ∧ (c + 0 : Fin 4) = c := by decide
  obtain ⟨h1, h2, h3, h4, h5, h6, h7⟩ := h c
  unfold share
  rw [h1, h2, h3, h4, h5, h6, h7]

/-- Each half tile of the result is the sum, over the four devices, of the products of their blocks. -/
theorem outs_eq (d : Fin 2) (c : Dev nD) (t : ℕ) : (outs X W d c t i : EReal) = ∑ e : Fin 4, share i X W d c t e := by
  match d with
  | 0 => exact outs_0 i X W c t
  | 1 => exact outs_1 i X W c t
end Cert.KernelIdeal.Hand
-- ==== Proof.Value.lean ====
module
public import proofs.«01_k».proof.Proof.Products
public import proofs.«01_k».proof.Proof.Gen.ReferenceIdeal.Run
public import Idealize.ShloMosaic.Lib.Layout
public import Idealize.ShloMosaic.Lib.StackMember
/-! # The result against the whole product

Device `c`'s result is its block of rows of the product of the two whole arrays. -/
@[expose] public section
noncomputable section
namespace Cert.KernelIdeal.Hand
open Idealize.ShloMosaic Idealize.ShloMosaic.TcCoe Idealize.ShloMosaic.ValueIdx Cert.KernelIdeal Cert.KernelIdeal.Gen
open scoped BigOperators

/-- The whole left array, the whole right array, and the whole result. -/
abbrev WholeL : Shape := ⟨2, ![4096, 4096]⟩
abbrev WholeR : Shape := ⟨2, ![4096, 8192]⟩

/-- Place `k` of block `c`, of four blocks of 1024. -/
def place (c : Fin 4) (k : Fin 1024) : Fin 4096 := ⟨1024 * c.val + k.val, by have := c.isLt; have := k.isLt; omega⟩

/-- A sum over 4096 places is the sum over the four blocks of the sums over each. -/
theorem sum_blocks (f : Fin 4096 → EReal) : ∑ k : Fin 4096, f k = ∑ e : Fin 4, ∑ k : Fin 1024, f (place e k) := by
  rw [← Fintype.sum_prod_type' (f := fun e k => f (place e k)),
    ← (finProdFinEquiv (m := 4) (n := 1024)).sum_comp]
  refine Finset.sum_congr rfl fun p _ => congrArg f (Fin.ext ?_)
  show p.2.val + 1024 * p.1.val = 1024 * p.1.val + p.2.val
  omega

variable (m : (ℓ : Loc nD τ sig) → Buf (Elt Ideal) ℓ) (x : WholeL.Idx → EReal) (w : WholeR.Idx → EReal)

theorem left_at (e c : Fin 4) (r k : Fin 1024) (h : left m e = Layout.block ⟨2, ![4096, 1024]⟩ WholeL 1 4 e x) :
    (rows c (left m e) (ix2 r k) : EReal) = x (ix2 (place c r) (place e k)) := by
  rw [h]
  refine congrArg x (funext fun a => Fin.ext ?_)
  match a with
  | 0 => show 1024 * c.val + 1 * r.val = 1024 * c.val + r.val; omega
  | 1 => show e.val * 1024 + (0 + 1 * k.val) = 1024 * e.val + k.val; omega

theorem right_at (e : Dev nD) (i : S1024x8192.Idx) (k : Fin 1024)
    (h : m ((e.tc : Thread nD τ).loc main_arg1) = Layout.block ⟨2, ![1024, 8192]⟩ WholeR 0 4 e w) :
    (cols ⟨(i 1).val % 512 / 256, by omega⟩ (right m e ((i 1).val / 512)) (ix2 k ⟨(i 1).val % 256, by omega⟩) : EReal)
      = w (ix2 (place e k) (i 1)) := by
  unfold cols right
  rw [show m ((e : Thread nD τ).loc main_arg1) = _ from h]
  have h1 : (i 1).val < 8192 := (i 1).isLt
  refine congrArg w (funext fun a => Fin.ext ?_)
  match a with
  | 0 => show e.val * 1024 + (0 + 1 * k.val) = 1024 * e.val + k.val; omega
  | 1 =>
    show 512 * min ((i 1).val / 512) 15 + (256 * ((i 1).val % 512 / 256) + 1 * ((i 1).val % 256)) = (i 1).val
    omega

/-- The product of the two whole arrays, at an index. -/
theorem whole_apply (r : Fin 4096) (n : Fin 8192) :
    (Host.dotGeneral (F := Ideal) (φ₁ := .f32) (φ₂ := .f32) Cert.ReferenceIdeal.dot_S4096x4096_S4096x8192_S4096x8192_1_0_0_1_n_n none x w (ix2 r n) : EReal)
      = ∑ k : Fin 4096, x (ix2 r k) * w (ix2 k n) :=
  StackMember.dotGeneral_plain_apply (φ₁ := .f32) (φ₂ := .f32) none x w r n

/-- Each device's result array is its block of the product of the whole arrays. -/
theorem final_eq
    (hx : ∀ c : Dev nD, m ((c.tc : Thread nD τ).loc main_arg0) = Layout.block ⟨2, ![4096, 1024]⟩ WholeL 1 4 c x)
    (hw : ∀ c : Dev nD, m ((c.tc : Thread nD τ).loc main_arg1) = Layout.block ⟨2, ![1024, 8192]⟩ WholeR 0 4 c w) (c : Dev nD) :
    final m c = Layout.block ⟨2, ![1024, 8192]⟩ WholeR 0 4 c
      (Host.dotGeneral (F := Ideal) (φ₁ := .f32) (φ₂ := .f32) Cert.ReferenceIdeal.dot_S4096x4096_S4096x8192_S4096x8192_1_0_0_1_n_n none x w) := by
  funext i
  have hi : ∀ h : Layout.Tiles S1024x8192 WholeR 0 4, h.idx c i = ix2 (place c (i 0)) (i 1) := by
    intro h
    funext a
    apply Fin.ext
    match a with
    | 0 => show c.val * 1024 + (i 0).val = 1024 * c.val + (i 0).val; omega
    | 1 => rfl
  rw [Layout.block_apply, hi]
  refine Eq.trans ?_ ((whole_apply x w (place c (i 0)) (i 1)).trans (sum_blocks _)).symm
  unfold final
  refine (outs_eq _ _ _ _ _ _).trans (Finset.sum_congr rfl fun e _ => ?_)
  have hj : (fun a => ⟨_, half_lt i a⟩ : S1024x256.Idx) = ix2 (i 0) ⟨(i 1).val % 256, by omega⟩ := by
    funext a
    match a with
    | 0 => rfl
    | 1 => rfl
  unfold share
  rw [hj]
  refine (prod_apply _ _ _ _).trans (Finset.sum_congr rfl fun k _ => ?_)
  exact congrArg₂ (fun a b : EReal => a * b) (left_at m x e c (i 0) k (hx e)) (right_at m w e i k (hw e))
end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the kernel ends, its arguments unchanged and every counter at zero. -/
theorem frame_kernel : Cert.quiescent_Kernel := by
  intro m ρ _
  exact Cert.KernelIdeal.Hand.compiled_main (F := Bits) m ρ

/-- The same of its idealization. -/
theorem frame_ideal : Cert.quiescent_KernelIdeal := by
  intro m ρ _
  exact (θ_run Cert.KernelIdeal.defs _ _).mono (fun _ h => ⟨fun c => ⟨(h.1 c).1, (h.1 c).2.1⟩, h.2⟩)
    (Cert.KernelIdeal.Hand.run_main (F := Ideal) m ρ)

/-- The same of the reference, which has no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The idealization is the kernel's own text. -/
theorem same_text : Cert.preserves_Kernel_KernelIdeal := trivial

/-- From blocks of the same two arrays, the devices end holding the blocks of the reference's result. -/
theorem same_value : Cert.algebraic_KernelIdeal_ReferenceIdeal := by
  intro m g m' g' _ hin
  refine ⟨_, ?_, (θ_run Cert.ReferenceIdeal.defs _ _).mono (fun r h => h 0) (Cert.ReferenceIdeal.Value.run (F := Ideal) m' g')⟩
  exact (θ_run Cert.KernelIdeal.defs _ _).mono
    (fun _ h c => ⟨((h.1 c).2.2).trans (Cert.KernelIdeal.Hand.final_eq m _ _ (fun e => (hin e).1) (fun e => (hin e).2) c),
      (h.1 c).1, (h.1 c).2.1⟩)
    (Cert.KernelIdeal.Hand.run_main (F := Ideal) m g)

theorem claim : Cert.Claim :=
  ⟨Cert.Kernel.Gen.facts, Cert.KernelIdeal.Gen.facts, Cert.ReferenceIdeal.Gen.facts,
    frame_kernel, frame_ideal, frame_reference, same_text, same_value⟩

end Cert.Proof

end
